-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "inv_sigma" .f32 0x3F4CCCCD#32 ((4 / 5 : ℝ) : EReal)

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v227) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S4x1024x4x3 : Shape := ⟨4, ![4, 1024, 4, 3]⟩
abbrev S4x1024 : Shape := ⟨2, ![4, 1024]⟩
abbrev S4x1024x30 : Shape := ⟨3, ![4, 1024, 30]⟩
abbrev S16x66 : Shape := ⟨2, ![16, 66]⟩
abbrev S16 : Shape := ⟨1, ![16]⟩
abbrev S128x416 : Shape := ⟨2, ![128, 416]⟩
abbrev S128 : Shape := ⟨1, ![128]⟩
abbrev S_ : Shape := ⟨0, ![]⟩

class Facts : Prop where
  bcast_S_S4x1024 : S_.BroadcastsInDim S4x1024 (![] : Fin 0 → Fin S4x1024.rank)
  bcast_S_S4x1024x30 : S_.BroadcastsInDim S4x1024x30 (![] : Fin 0 → Fin S4x1024x30.rank)
  reducesTo_S4x1024x30_S4x1024_d2 : S4x1024x30.ReducesTo [2] S4x1024
  h_S_ : 0 < S_.numel

variable [Facts]

def fn {F : FTy → Type} [FloatOps F] (main_arg0 : FVec F S4x1024x4x3 .f32) (main_arg1 : IVec S4x1024 32) (main_arg2 : FVec F S4x1024 .f32) (main_arg3 : IVec S4x1024x30 32) (main_arg4 : FVec F S4x1024x30 .f32) (main_arg5 : FVec F S16x66 .f32) (main_arg6 : FVec F S16 .f32) (main_arg7 : FVec F S128x416 .f32) (main_arg8 : FVec F S128 .f32) (main_arg9 : FVec F S128 .f32) : IVec S4x1024 1 :=
  let main_c : IVec S_ 32 := constantI S_ 32 0#32
  let main_v0 : IVec S4x1024 32 := broadcastInDim S4x1024 ![] bcast_S_S4x1024 main_c
  let main_v1 : IVec S4x1024 1 := cmpi .sge main_arg1 main_v0
  let main_c_0 : IVec S_ 32 := constantI S_ 32 4#32
  let main_v2 : IVec S4x1024 32 := broadcastInDim S4x1024 ![] bcast_S_S4x1024 main_c_0
  let main_v3 : IVec S4x1024 1 := cmpi .slt main_arg1 main_v2
  let main_v4 : IVec S4x1024 1 := andi main_v1 main_v3
  let main_c_1 : IVec S_ 32 := constantI S_ 32 0#32
  let main_v5 : IVec S4x1024x30 32 := broadcastInDim S4x1024x30 ![] bcast_S_S4x1024x30 main_c_1
  let main_v6 : IVec S4x1024x30 1 := cmpi .sge main_arg3 main_v5
  let main_c_2 : IVec S_ 32 := constantI S_ 32 1024#32
  let main_v7 : IVec S4x1024x30 32 := broadcastInDim S4x1024x30 ![] bcast_S_S4x1024x30 main_c_2
  let main_v8 : IVec S4x1024x30 1 := cmpi .slt main_arg3 main_v7
  let main_v9 : IVec S4x1024x30 1 := andi main_v6 main_v8
  let main_c_3 : IVec S_ 1 := constantI S_ 1 1#1
  let main_v10 : IVec S4x1024 1 := (fun x v => Host.reduce IntOp.andi x v reducesTo_S4x1024x30_S4x1024_d2 h_S_) main_v9 main_c_3
  let main_v11 : IVec S4x1024 1 := andi main_v4 main_v10
  main_v11
-- ==== Kernel.lean ====
abbrev S4x1024x4x3 : Shape := ⟨4, ![4, 1024, 4, 3]⟩
abbrev S4x1024 : Shape := ⟨2, ![4, 1024]⟩
abbrev S4x1024x30 : Shape := ⟨3, ![4, 1024, 30]⟩
abbrev S16x66 : Shape := ⟨2, ![16, 66]⟩
abbrev S16 : Shape := ⟨1, ![16]⟩
abbrev S128x416 : Shape := ⟨2, ![128, 416]⟩
abbrev S128 : Shape := ⟨1, ![128]⟩
abbrev S16x75 : Shape := ⟨2, ![16, 75]⟩
abbrev S75x25 : Shape := ⟨2, ![75, 25]⟩
abbrev S25x400 : Shape := ⟨2, ![25, 400]⟩
abbrev S1x400 : Shape := ⟨2, ![1, 400]⟩
abbrev S4x1024x1x3 : Shape := ⟨4, ![4, 1024, 1, 3]⟩
abbrev S4x1024x3 : Shape := ⟨3, ![4, 1024, 3]⟩
abbrev S4x1024x1 : Shape := ⟨3, ![4, 1024, 1]⟩
abbrev S1x4x1024 : Shape := ⟨3, ![1, 4, 1024]⟩
abbrev S3x4x1024 : Shape := ⟨3, ![3, 4, 1024]⟩
abbrev S_ : Shape := ⟨0, ![]⟩
abbrev S4x1 : Shape := ⟨2, ![4, 1]⟩
abbrev S4x1023 : Shape := ⟨2, ![4, 1023]⟩
abbrev S1024 : Shape := ⟨1, ![1024]⟩
abbrev S1x1024 : Shape := ⟨2, ![1, 1024]⟩
abbrev S4x1024x16 : Shape := ⟨3, ![4, 1024, 16]⟩
abbrev S4096x16 : Shape := ⟨2, ![4096, 16]⟩
abbrev S4 : Shape := ⟨1, ![4]⟩
abbrev S4x1x1 : Shape := ⟨3, ![4, 1, 1]⟩
abbrev S122880 : Shape := ⟨1, ![122880]⟩
abbrev S32x30x128 : Shape := ⟨3, ![32, 30, 128]⟩
abbrev S122880x16 : Shape := ⟨2, ![122880, 16]⟩
abbrev S30x128 : Shape := ⟨2, ![30, 128]⟩
abbrev S3840x16 : Shape := ⟨2, ![3840, 16]⟩
abbrev S1x30x128 : Shape := ⟨3, ![1, 30, 128]⟩
abbrev S128x16 : Shape := ⟨2, ![128, 16]⟩
abbrev S1x128 : Shape := ⟨2, ![1, 128]⟩
abbrev S4x1024x1x16 : Shape := ⟨4, ![4, 1024, 1, 16]⟩
abbrev S4x1024x30x16 : Shape := ⟨4, ![4, 1024, 30, 16]⟩
abbrev S122880x1 : Shape := ⟨2, ![122880, 1]⟩
abbrev S66x16 : Shape := ⟨2, ![66, 16]⟩
abbrev S1x16 : Shape := ⟨2, ![1, 16]⟩
abbrev S16x128 : Shape := ⟨2, ![16, 128]⟩
abbrev S66x128 : Shape := ⟨2, ![66, 128]⟩
abbrev S6x128 : Shape := ⟨2, ![6, 128]⟩
abbrev S72x128 : Shape := ⟨2, ![72, 128]⟩
abbrev S128x400 : Shape := ⟨2, ![128, 400]⟩
abbrev S400x128 : Shape := ⟨2, ![400, 128]⟩
abbrev S122880x128 : Shape := ⟨2, ![122880, 128]⟩
abbrev S1024x16 : Shape := ⟨2, ![1024, 16]⟩
abbrev S1024x1 : Shape := ⟨2, ![1024, 1]⟩
abbrev S1024x128 : Shape := ⟨2, ![1024, 128]⟩
abbrev S1024x75 : Shape := ⟨2, ![1024, 75]⟩
abbrev S1024x25 : Shape := ⟨2, ![1024, 25]⟩
abbrev S1024x400 : Shape := ⟨2, ![1024, 400]⟩
abbrev S1024x72 : Shape := ⟨2, ![1024, 72]⟩
abbrev S4x1024x30x128 : Shape := ⟨4, ![4, 1024, 30, 128]⟩

abbrev nBuf : Table → Nat
  | .hbm => 127
  | .local .tc .vmem => 17
  | .local .scVector .vmem => 2
  | _ => 0

abbrev bufTy : (tb : Table) → Fin (nBuf tb) → BufTy
  | .hbm, ⟨0, _⟩ => ⟨S4x1024x4x3, .f32⟩
  | .hbm, ⟨1, _⟩ => ⟨S4x1024, .i32⟩
  | .hbm, ⟨2, _⟩ => ⟨S4x1024, .f32⟩
  | .hbm, ⟨3, _⟩ => ⟨S4x1024x30, .i32⟩
  | .hbm, ⟨4, _⟩ => ⟨S4x1024x30, .f32⟩
  | .hbm, ⟨5, _⟩ => ⟨S16x66, .f32⟩
  | .hbm, ⟨6, _⟩ => ⟨S16, .f32⟩
  | .hbm, ⟨7, _⟩ => ⟨S128x416, .f32⟩
  | .hbm, ⟨8, _⟩ => ⟨S128, .f32⟩
  | .hbm, ⟨9, _⟩ => ⟨S128, .f32⟩
  | .hbm, ⟨10, _⟩ => ⟨S16x75, .bf16⟩
  | .hbm, ⟨11, _⟩ => ⟨S16x75, .bf16⟩
  | .hbm, ⟨12, _⟩ => ⟨S75x25, .bf16⟩
  | .hbm, ⟨13, _⟩ => ⟨S25x400, .bf16⟩
  | .hbm, ⟨14, _⟩ => ⟨S1x400, .f32⟩
  | .hbm, ⟨15, _⟩ => ⟨S4x1024x1x3, .f32⟩
  | .hbm, ⟨16, _⟩ => ⟨S4x1024x3, .f32⟩
  | .hbm, ⟨17, _⟩ => ⟨S4x1024x1x3, .f32⟩
  | .hbm, ⟨18, _⟩ => ⟨S4x1024x3, .f32⟩
  | .hbm, ⟨19, _⟩ => ⟨S4x1024x1x3, .f32⟩
  | .hbm, ⟨20, _⟩ => ⟨S4x1024x3, .f32⟩
  | .hbm, ⟨21, _⟩ => ⟨S4x1024x1x3, .f32⟩
  | .hbm, ⟨22, _⟩ => ⟨S4x1024x3, .f32⟩
  | .hbm, ⟨23, _⟩ => ⟨S4x1024x3, .f32⟩
  | .hbm, ⟨24, _⟩ => ⟨S4x1024x3, .f32⟩
  | .hbm, ⟨25, _⟩ => ⟨S4x1024x1, .f32⟩
  | .hbm, ⟨26, _⟩ => ⟨S4x1024, .f32⟩
  | .hbm, ⟨27, _⟩ => ⟨S4x1024x1, .f32⟩
  | .hbm, ⟨28, _⟩ => ⟨S4x1024, .f32⟩
  | .hbm, ⟨29, _⟩ => ⟨S4x1024x1, .f32⟩
  | .hbm, ⟨30, _⟩ => ⟨S4x1024, .f32⟩
  | .hbm, ⟨31, _⟩ => ⟨S4x1024x1, .f32⟩
  | .hbm, ⟨32, _⟩ => ⟨S4x1024, .f32⟩
  | .hbm, ⟨33, _⟩ => ⟨S4x1024x1, .f32⟩
  | .hbm, ⟨34, _⟩ => ⟨S4x1024, .f32⟩
  | .hbm, ⟨35, _⟩ => ⟨S4x1024x1, .f32⟩
  | .hbm, ⟨36, _⟩ => ⟨S4x1024, .f32⟩
  | .hbm, ⟨37, _⟩ => ⟨S4x1024, .f32⟩
  | .hbm, ⟨38, _⟩ => ⟨S4x1024, .f32⟩
  | .hbm, ⟨39, _⟩ => ⟨S4x1024, .f32⟩
  | .hbm, ⟨40, _⟩ => ⟨S4x1024, .f32⟩
  | .hbm, ⟨41, _⟩ => ⟨S4x1024, .f32⟩
  | .hbm, ⟨42, _⟩ => ⟨S4x1024, .f32⟩
  | .hbm, ⟨43, _⟩ => ⟨S4x1024, .f32⟩
  | .hbm, ⟨44, _⟩ => ⟨S4x1024, .f32⟩
  | .hbm, ⟨45, _⟩ => ⟨S4x1024, .f32⟩
  | .hbm, ⟨46, _⟩ => ⟨S1x4x1024, .f32⟩
  | .hbm, ⟨47, _⟩ => ⟨S1x4x1024, .f32⟩
  | .hbm, ⟨48, _⟩ => ⟨S1x4x1024, .f32⟩
  | .hbm, ⟨49, _⟩ => ⟨S3x4x1024, .f32⟩
  | .hbm, ⟨50, _⟩ => ⟨S4x1024x3, .f32⟩
  | .hbm, ⟨51, _⟩ => ⟨S_, .f32⟩
  | .hbm, ⟨52, _⟩ => ⟨S4x1024x3, .f32⟩
  | .hbm, ⟨53, _⟩ => ⟨S4x1024x3, .f32⟩
  | .hbm, ⟨54, _⟩ => ⟨S_, .f32⟩
  | .hbm, ⟨55, _⟩ => ⟨S4x1024x3, .f32⟩
  | .hbm, ⟨56, _⟩ => ⟨S4x1024x3, .f32⟩
  | .hbm, ⟨57, _⟩ => ⟨S4x1024x3, .f32⟩
  | .hbm, ⟨58, _⟩ => ⟨S_, .f32⟩
  | .hbm, ⟨59, _⟩ => ⟨S4x1024x3, .f32⟩
  | .hbm, ⟨60, _⟩ => ⟨S4x1024x3, .f32⟩
  | .hbm, ⟨61, _⟩ => ⟨S4x1024x3, .f32⟩
  | .hbm, ⟨62, _⟩ => ⟨S4x1024x3, .f32⟩
  | .hbm, ⟨63, _⟩ => ⟨S_, .i32⟩
  | .hbm, ⟨64, _⟩ => ⟨S4x1, .i32⟩
  | .hbm, ⟨65, _⟩ => ⟨S4x1023, .i32⟩
  | .hbm, ⟨66, _⟩ => ⟨S4x1023, .i32⟩
  | .hbm, ⟨67, _⟩ => ⟨S4x1023, .i1⟩
  | .hbm, ⟨68, _⟩ => ⟨S4x1023, .i32⟩
  | .hbm, ⟨69, _⟩ => ⟨S4x1024, .i32⟩
  | .hbm, ⟨70, _⟩ => ⟨S_, .i32⟩
  | .hbm, ⟨71, _⟩ => ⟨S_, .i32⟩
  | .hbm, ⟨72, _⟩ => ⟨S4x1024, .i32⟩
  | .hbm, ⟨73, _⟩ => ⟨S_, .i32⟩
  | .hbm, ⟨74, _⟩ => ⟨S4x1024, .i32⟩
  | .hbm, ⟨75, _⟩ => ⟨S4x1024, .i32⟩
  | .hbm, ⟨76, _⟩ => ⟨S1024, .i32⟩
  | .hbm, ⟨77, _⟩ => ⟨S1x1024, .i32⟩
  | .hbm, ⟨78, _⟩ => ⟨S4x1024, .i32⟩
  | .hbm, ⟨79, _⟩ => ⟨S4x1024, .i32⟩
  | .hbm, ⟨80, _⟩ => ⟨S4x1, .i32⟩
  | .hbm, ⟨81, _⟩ => ⟨S4x1024, .i32⟩
  | .hbm, ⟨82, _⟩ => ⟨S4x1024, .i1⟩
  | .hbm, ⟨83, _⟩ => ⟨S_, .i32⟩
  | .hbm, ⟨84, _⟩ => ⟨S_, .i32⟩
  | .hbm, ⟨85, _⟩ => ⟨S4x1024, .i32⟩
  | .hbm, ⟨86, _⟩ => ⟨S4x1024, .i32⟩
  | .hbm, ⟨87, _⟩ => ⟨S_, .i32⟩
  | .hbm, ⟨88, _⟩ => ⟨S4x1024, .i32⟩
  | .hbm, ⟨89, _⟩ => ⟨S4x1024, .i32⟩
  | .hbm, ⟨90, _⟩ => ⟨S4x1024, .i32⟩
  | .hbm, ⟨91, _⟩ => ⟨S4x1024, .f32⟩
  | .hbm, ⟨92, _⟩ => ⟨S4x1024x1, .f32⟩
  | .hbm, ⟨93, _⟩ => ⟨S4x1024x16, .f32⟩
  | .hbm, ⟨94, _⟩ => ⟨S4096x16, .f32⟩
  | .hbm, ⟨95, _⟩ => ⟨S4, .i32⟩
  | .hbm, ⟨96, _⟩ => ⟨S_, .i32⟩
  | .hbm, ⟨97, _⟩ => ⟨S4, .i32⟩
  | .hbm, ⟨98, _⟩ => ⟨S4, .i32⟩
  | .hbm, ⟨99, _⟩ => ⟨S4x1x1, .i32⟩
  | .hbm, ⟨100, _⟩ => ⟨S4x1024x30, .i32⟩
  | .hbm, ⟨101, _⟩ => ⟨S4x1024x30, .i32⟩
  | .hbm, ⟨102, _⟩ => ⟨S122880, .i32⟩
  | .hbm, ⟨103, _⟩ => ⟨S32x30x128, .i32⟩
  | .hbm, ⟨104, _⟩ => ⟨S122880x16, .f32⟩
  | .hbm, ⟨105, _⟩ => ⟨S4x1024x1x16, .f32⟩
  | .hbm, ⟨106, _⟩ => ⟨S4x1024x30x16, .f32⟩
  | .hbm, ⟨107, _⟩ => ⟨S122880x16, .f32⟩
  | .hbm, ⟨108, _⟩ => ⟨S122880x1, .f32⟩
  | .hbm, ⟨109, _⟩ => ⟨S128x16, .f32⟩
  | .hbm, ⟨110, _⟩ => ⟨S66x16, .f32⟩
  | .hbm, ⟨111, _⟩ => ⟨S1x16, .f32⟩
  | .hbm, ⟨112, _⟩ => ⟨S66x16, .f32⟩
  | .hbm, ⟨113, _⟩ => ⟨S66x16, .f32⟩
  | .hbm, ⟨114, _⟩ => ⟨S16x128, .f32⟩
  | .hbm, ⟨115, _⟩ => ⟨S66x128, .f32⟩
  | .hbm, ⟨116, _⟩ => ⟨S_, .f32⟩
  | .hbm, ⟨117, _⟩ => ⟨S6x128, .f32⟩
  | .hbm, ⟨118, _⟩ => ⟨S72x128, .f32⟩
  | .hbm, ⟨119, _⟩ => ⟨S72x128, .bf16⟩
  | .hbm, ⟨120, _⟩ => ⟨S128x400, .f32⟩
  | .hbm, ⟨121, _⟩ => ⟨S400x128, .f32⟩
  | .hbm, ⟨122, _⟩ => ⟨S400x128, .bf16⟩
  | .hbm, ⟨123, _⟩ => ⟨S1x128, .f32⟩
  | .hbm, ⟨124, _⟩ => ⟨S1x128, .f32⟩
  | .hbm, ⟨125, _⟩ => ⟨S122880x128, .f32⟩
  | .hbm, ⟨126, _⟩ => ⟨S4x1024x30x128, .f32⟩
  | .local .tc .vmem, ⟨0, _⟩ => ⟨S1024x16, .f32⟩
  | .local .tc .vmem, ⟨1, _⟩ => ⟨S1024x16, .f32⟩
  | .local .tc .vmem, ⟨2, _⟩ => ⟨S1024x16, .f32⟩
  | .local .tc .vmem, ⟨3, _⟩ => ⟨S1024x16, .f32⟩
  | .local .tc .vmem, ⟨4, _⟩ => ⟨S1024x1, .f32⟩
  | .local .tc .vmem, ⟨5, _⟩ => ⟨S1024x1, .f32⟩
  | .local .tc .vmem, ⟨6, _⟩ => ⟨S16x75, .bf16⟩
  | .local .tc .vmem, ⟨7, _⟩ => ⟨S16x75, .bf16⟩
  | .local .tc .vmem, ⟨8, _⟩ => ⟨S75x25, .bf16⟩
  | .local .tc .vmem, ⟨9, _⟩ => ⟨S25x400, .bf16⟩
  | .local .tc .vmem, ⟨10, _⟩ => ⟨S1x400, .f32⟩
  | .local .tc .vmem, ⟨11, _⟩ => ⟨S400x128, .bf16⟩
  | .local .tc .vmem, ⟨12, _⟩ => ⟨S72x128, .bf16⟩
  | .local .tc .vmem, ⟨13, _⟩ => ⟨S1x128, .f32⟩
  | .local .tc .vmem, ⟨14, _⟩ => ⟨S1x128, .f32⟩
  | .local .tc .vmem, ⟨15, _⟩ => ⟨S1024x128, .f32⟩
  | .local .tc .vmem, ⟨16, _⟩ => ⟨S1024x128, .f32⟩
  | .local .scVector .vmem, ⟨0, _⟩ => ⟨S30x128, .i32⟩
  | .local .scVector .vmem, ⟨1, _⟩ => ⟨S3840x16, .f32⟩
  | _, _ => ⟨S4x1024x4x3, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 20 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTables nBuf rfl bufTy 4 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_cst_0 : Ref sig .tc := ⟨.hbm, 11, rfl⟩
abbrev main_cst_1 : Ref sig .tc := ⟨.hbm, 12, rfl⟩
abbrev main_cst_2 : Ref sig .tc := ⟨.hbm, 13, rfl⟩
abbrev main_cst_3 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_v15 : Ref sig .tc := ⟨.hbm, 40, rfl⟩
abbrev main_call0_v16 : Ref sig .tc := ⟨.hbm, 41, rfl⟩
abbrev main_call0_v17 : Ref sig .tc := ⟨.hbm, 42, rfl⟩
abbrev main_call0_v18 : Ref sig .tc := ⟨.hbm, 43, rfl⟩
abbrev main_call0_v19 : Ref sig .tc := ⟨.hbm, 44, rfl⟩
abbrev main_call0_v20 : Ref sig .tc := ⟨.hbm, 45, rfl⟩
abbrev main_call0_v21 : Ref sig .tc := ⟨.hbm, 46, rfl⟩
abbrev main_call0_v22 : Ref sig .tc := ⟨.hbm, 47, rfl⟩
abbrev main_call0_v23 : Ref sig .tc := ⟨.hbm, 48, rfl⟩
abbrev main_call0_v24 : Ref sig .tc := ⟨.hbm, 49, rfl⟩
abbrev main_v10 : Ref sig .tc := ⟨.hbm, 50, rfl⟩
abbrev main_cst_4 : Ref sig .tc := ⟨.hbm, 51, rfl⟩
abbrev main_v11 : Ref sig .tc := ⟨.hbm, 52, rfl⟩
abbrev main_v12 : Ref sig .tc := ⟨.hbm, 53, rfl⟩
abbrev main_cst_5 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_cst_6 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_c : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_call1_call0_c : Ref sig .tc := ⟨.hbm, 70, rfl⟩
abbrev main_call1_call0_v0 : Ref sig .tc := ⟨.hbm, 71, rfl⟩
abbrev main_v26 : Ref sig .tc := ⟨.hbm, 72, rfl⟩
abbrev main_c_7 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_c_8 : Ref sig .tc := ⟨.hbm, 83, rfl⟩
abbrev main_call2_v0 : Ref sig .tc := ⟨.hbm, 84, rfl⟩
abbrev main_call2_v1 : Ref sig .tc := ⟨.hbm, 85, rfl⟩
abbrev main_v36 : Ref sig .tc := ⟨.hbm, 86, rfl⟩
abbrev main_c_9 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_c_10 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_cst_11 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v43_scv : Ref sig .scVector := ⟨.hbm, 94, rfl⟩
abbrev main_v51_scv : Ref sig .scVector := ⟨.hbm, 103, rfl⟩
abbrev main_v52_scv : Ref sig .scVector := ⟨.hbm, 104, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg5_0 : Ref sig .tc := ⟨.vmem, 8, rfl⟩
abbrev cc1_stg6_0 : Ref sig .tc := ⟨.vmem, 9, rfl⟩
abbrev cc1_stg7_0 : Ref sig .tc := ⟨.vmem, 10, rfl⟩
abbrev cc1_stg8_0 : Ref sig .tc := ⟨.vmem, 11, rfl⟩
abbrev cc1_stg9_0 : Ref sig .tc := ⟨.vmem, 12, rfl⟩
abbrev cc1_stg10_0 : Ref sig .tc := ⟨.vmem, 13, rfl⟩
abbrev cc1_stg11_0 : Ref sig .tc := ⟨.vmem, 14, rfl⟩
abbrev cc1_stg12_0 : Ref sig .tc := ⟨.vmem, 15, rfl⟩
abbrev cc1_stg12_1 : Ref sig .tc := ⟨.vmem, 16, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem8_0 : DmaSem sig := 14
abbrev cc1_sem9_0 : DmaSem sig := 15
abbrev cc1_sem10_0 : DmaSem sig := 16
abbrev cc1_sem11_0 : DmaSem sig := 17
abbrev cc1_sem12_0 : DmaSem sig := 18
abbrev cc1_sem12_1 : DmaSem sig := 19
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_302_r0 : BitVec 32 := 0#32
  let c0_i32_303_r0 : BitVec 32 := 0#32
  ![v1.toNat, 0, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3840_i32 : BitVec 32 := 3840#32
  let v242 : BitVec 32 := Scalar.muli v1 c3840_i32
  let c0_i32_302_r1 : BitVec 32 := 0#32
  ![v242.toNat, 0]
abbrev grid1 : Pipeline.Grid := ⟨1, ![120], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S16x75 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x75 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S75x25 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S25x400 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x400 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S400x128 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S72x128 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S1024x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv_sigma" => some ((4 / 5 : ℝ) : EReal)
  | _ => none
-- ==== ReferenceIdeal.lean ====
abbrev S4x1024x4x3 : Shape := ⟨4, ![4, 1024, 4, 3]⟩
abbrev S4x1024 : Shape := ⟨2, ![4, 1024]⟩
abbrev S4x1024x30 : Shape := ⟨3, ![4, 1024, 30]⟩
abbrev S16x66 : Shape := ⟨2, ![16, 66]⟩
abbrev S16 : Shape := ⟨1, ![16]⟩
abbrev S128x416 : Shape := ⟨2, ![128, 416]⟩
abbrev S128 : Shape := ⟨1, ![128]⟩
abbrev S4x1024x1x3 : Shape := ⟨4, ![4, 1024, 1, 3]⟩
abbrev S4x1024x3 : Shape := ⟨3, ![4, 1024, 3]⟩
abbrev S4x1024x1 : Shape := ⟨3, ![4, 1024, 1]⟩
abbrev S_ : Shape := ⟨0, ![]⟩
abbrev S4x1024x16x3 : Shape := ⟨4, ![4, 1024, 16, 3]⟩
abbrev S4x1024x8x3 : Shape := ⟨4, ![4, 1024, 8, 3]⟩
abbrev S4x1024x24x3 : Shape := ⟨4, ![4, 1024, 24, 3]⟩
abbrev S4x1024x1x24x3 : Shape := ⟨5, ![4, 1024, 1, 24, 3]⟩
abbrev S4x1x1024x24x3 : Shape := ⟨5, ![4, 1, 1024, 24, 3]⟩
abbrev S4x1024x1024x24x3 : Shape := ⟨5, ![4, 1024, 1024, 24, 3]⟩
abbrev S4x1024x1024x24 : Shape := ⟨4, ![4, 1024, 1024, 24]⟩
abbrev S4x1024x30x1 : Shape := ⟨4, ![4, 1024, 30, 1]⟩
abbrev S1 : Shape := ⟨1, ![1]⟩
abbrev S1x1x1x1 : Shape := ⟨4, ![1, 1, 1, 1]⟩
abbrev S4x1024x30x24 : Shape := ⟨4, ![4, 1024, 30, 24]⟩
abbrev S4x1024x30x24x1 : Shape := ⟨5, ![4, 1024, 30, 24, 1]⟩
abbrev S1x1x1x1x16 : Shape := ⟨5, ![1, 1, 1, 1, 16]⟩
abbrev S4x1024x30x24x16 : Shape := ⟨5, ![4, 1024, 30, 24, 16]⟩
abbrev S4x1024x30x384 : Shape := ⟨4, ![4, 1024, 30, 384]⟩
abbrev S1x1x1x16 : Shape := ⟨4, ![1, 1, 1, 16]⟩
abbrev S4x1024x30x16 : Shape := ⟨4, ![4, 1024, 30, 16]⟩
abbrev S4x1024x30x400 : Shape := ⟨4, ![4, 1024, 30, 400]⟩
abbrev S4x1 : Shape := ⟨2, ![4, 1]⟩
abbrev S4x1023 : Shape := ⟨2, ![4, 1023]⟩
abbrev S1024 : Shape := ⟨1, ![1024]⟩
abbrev S1x1024 : Shape := ⟨2, ![1, 1024]⟩
abbrev S4x1x1024 : Shape := ⟨3, ![4, 1, 1024]⟩
abbrev S4x1024x1024 : Shape := ⟨3, ![4, 1024, 1024]⟩
abbrev S4x1024x1024x1 : Shape := ⟨4, ![4, 1024, 1024, 1]⟩
abbrev S1x1x1x66 : Shape := ⟨4, ![1, 1, 1, 66]⟩
abbrev S4x1024x30x66 : Shape := ⟨4, ![4, 1024, 30, 66]⟩
abbrev S66x16 : Shape := ⟨2, ![66, 16]⟩
abbrev S4x1024x30x416 : Shape := ⟨4, ![4, 1024, 30, 416]⟩
abbrev S416x128 : Shape := ⟨2, ![416, 128]⟩
abbrev S4x1024x30x128 : Shape := ⟨4, ![4, 1024, 30, 128]⟩
abbrev S1x1x1x128 : Shape := ⟨4, ![1, 1, 1, 128]⟩

abbrev nBuf : Space → Nat
  | .hbm => 357
  | .vmem => 0
  | .smem => 0
  | _ => 0

abbrev hbmTy0_0 (i : Nat) : BufTy := match i % 128 with
  | 0 => ⟨S4x1024x4x3, .f32⟩
  | 1 => ⟨S4x1024, .i32⟩
  | 2 => ⟨S4x1024, .f32⟩
  | 3 => ⟨S4x1024x30, .i32⟩
  | 4 => ⟨S4x1024x30, .f32⟩
  | 5 => ⟨S16x66, .f32⟩
  | 6 => ⟨S16, .f32⟩
  | 7 => ⟨S128x416, .f32⟩
  | 8 => ⟨S128, .f32⟩
  | 9 => ⟨S128, .f32⟩
  | 10 => ⟨S16, .f32⟩
  | 11 => ⟨S4x1024x1x3, .f32⟩
  | 12 => ⟨S4x1024x3, .f32⟩
  | 13 => ⟨S4x1024x1x3, .f32⟩
  | 14 => ⟨S4x1024x3, .f32⟩
  | 15 => ⟨S4x1024x3, .f32⟩
  | 16 => ⟨S4x1024x1x3, .f32⟩
  | 17 => ⟨S4x1024x3, .f32⟩
  | 18 => ⟨S4x1024x1x3, .f32⟩
  | 19 => ⟨S4x1024x3, .f32⟩
  | 20 => ⟨S4x1024x3, .f32⟩
  | 21 => ⟨S4x1024x1, .f32⟩
  | 22 => ⟨S4x1024, .f32⟩
  | 23 => ⟨S4x1024x1, .f32⟩
  | 24 => ⟨S4x1024, .f32⟩
  | 25 => ⟨S4x1024, .f32⟩
  | 26 => ⟨S4x1024x1, .f32⟩
  | 27 => ⟨S4x1024, .f32⟩
  | 28 => ⟨S4x1024x1, .f32⟩
  | 29 => ⟨S4x1024, .f32⟩
  | 30 => ⟨S4x1024, .f32⟩
  | 31 => ⟨S4x1024, .f32⟩
  | 32 => ⟨S4x1024x1, .f32⟩
  | 33 => ⟨S4x1024, .f32⟩
  | 34 => ⟨S4x1024x1, .f32⟩
  | 35 => ⟨S4x1024, .f32⟩
  | 36 => ⟨S4x1024, .f32⟩
  | 37 => ⟨S4x1024x1, .f32⟩
  | 38 => ⟨S4x1024, .f32⟩
  | 39 => ⟨S4x1024x1, .f32⟩
  | 40 => ⟨S4x1024, .f32⟩
  | 41 => ⟨S4x1024, .f32⟩
  | 42 => ⟨S4x1024, .f32⟩
  | 43 => ⟨S4x1024x1, .f32⟩
  | 44 => ⟨S4x1024, .f32⟩
  | 45 => ⟨S4x1024x1, .f32⟩
  | 46 => ⟨S4x1024, .f32⟩
  | 47 => ⟨S4x1024, .f32⟩
  | 48 => ⟨S4x1024x1, .f32⟩
  | 49 => ⟨S4x1024, .f32⟩
  | 50 => ⟨S4x1024x1, .f32⟩
  | 51 => ⟨S4x1024, .f32⟩
  | 52 => ⟨S4x1024, .f32⟩
  | 53 => ⟨S4x1024, .f32⟩
  | 54 => ⟨S4x1024x1, .f32⟩
  | 55 => ⟨S4x1024x1, .f32⟩
  | 56 => ⟨S4x1024x1, .f32⟩
  | 57 => ⟨S4x1024x3, .f32⟩
  | 58 => ⟨S_, .f32⟩
  | 59 => ⟨S4x1024x3, .f32⟩
  | 60 => ⟨S4x1024x3, .f32⟩
  | 61 => ⟨S_, .f32⟩
  | 62 => ⟨S4x1024x3, .f32⟩
  | 63 => ⟨S4x1024x3, .f32⟩
  | 64 => ⟨S4x1024x3, .f32⟩
  | 65 => ⟨S_, .f32⟩
  | 66 => ⟨S4x1024x3, .f32⟩
  | 67 => ⟨S4x1024x3, .f32⟩
  | 68 => ⟨S4x1024x3, .f32⟩
  | 69 => ⟨S4x1024x1x3, .f32⟩
  | 70 => ⟨S4x1024x3, .f32⟩
  | 71 => ⟨S4x1024x3, .f32⟩
  | 72 => ⟨S4x1024x1x3, .f32⟩
  | 73 => ⟨S4x1024x3, .f32⟩
  | 74 => ⟨S4x1024x1x3, .f32⟩
  | 75 => ⟨S4x1024x3, .f32⟩
  | 76 => ⟨S4x1024x1x3, .f32⟩
  | 77 => ⟨S4x1024x3, .f32⟩
  | 78 => ⟨S4x1024x1x3, .f32⟩
  | 79 => ⟨S4x1024x3, .f32⟩
  | 80 => ⟨S4x1024x1x3, .f32⟩
  | 81 => ⟨S4x1024x1x3, .f32⟩
  | 82 => ⟨S4x1024x1x3, .f32⟩
  | 83 => ⟨S4x1024x1x3, .f32⟩
  | 84 => ⟨S4x1024x1x3, .f32⟩
  | 85 => ⟨S4x1024x1x3, .f32⟩
  | 86 => ⟨S4x1024x1x3, .f32⟩
  | 87 => ⟨S4x1024x1x3, .f32⟩
  | 88 => ⟨S4x1024x1x3, .f32⟩
  | 89 => ⟨S4x1024x1x3, .f32⟩
  | 90 => ⟨S4x1024x1x3, .f32⟩
  | 91 => ⟨S4x1024x1x3, .f32⟩
  | 92 => ⟨S4x1024x1x3, .f32⟩
  | 93 => ⟨S4x1024x1x3, .f32⟩
  | 94 => ⟨S4x1024x1x3, .f32⟩
  | 95 => ⟨S4x1024x1x3, .f32⟩
  | 96 => ⟨S4x1024x1x3, .f32⟩
  | 97 => ⟨S4x1024x1x3, .f32⟩
  | 98 => ⟨S4x1024x1x3, .f32⟩
  | 99 => ⟨S4x1024x1x3, .f32⟩
  | 100 => ⟨S4x1024x1x3, .f32⟩
  | 101 => ⟨S4x1024x1x3, .f32⟩
  | 102 => ⟨S4x1024x1x3, .f32⟩
  | 103 => ⟨S4x1024x1x3, .f32⟩
  | 104 => ⟨S4x1024x16x3, .f32⟩
  | 105 => ⟨S4x1024x8x3, .f32⟩
  | 106 => ⟨S4x1024x24x3, .f32⟩
  | 107 => ⟨S4x1024x1x3, .f32⟩
  | 108 => ⟨S4x1024x1x3, .f32⟩
  | 109 => ⟨S4x1024x1x3, .f32⟩
  | 110 => ⟨S4x1024x1x3, .f32⟩
  | 111 => ⟨S4x1024x1x3, .f32⟩
  | 112 => ⟨S4x1024x1x3, .f32⟩
  | 113 => ⟨S4x1024x1x3, .f32⟩
  | 114 => ⟨S4x1024x1x3, .f32⟩
  | 115 => ⟨S4x1024x1x3, .f32⟩
  | 116 => ⟨S4x1024x1x3, .f32⟩
  | 117 => ⟨S4x1024x1x3, .f32⟩
  | 118 => ⟨S4x1024x1x3, .f32⟩
  | 119 => ⟨S4x1024x1x3, .f32⟩
  | 120 => ⟨S4x1024x1x3, .f32⟩
  | 121 => ⟨S4x1024x1x3, .f32⟩
  | 122 => ⟨S4x1024x1x3, .f32⟩
  | 123 => ⟨S4x1024x1x3, .f32⟩
  | 124 => ⟨S4x1024x1x3, .f32⟩
  | 125 => ⟨S4x1024x1x3, .f32⟩
  | 126 => ⟨S4x1024x1x3, .f32⟩
  | 127 => ⟨S4x1024x1x3, .f32⟩
  | _ => ⟨S4x1024x4x3, .f32⟩

abbrev hbmTy0_1 (i : Nat) : BufTy := match i % 128 with
  | 0 => ⟨S4x1024x1x3, .f32⟩
  | 1 => ⟨S4x1024x1x3, .f32⟩
  | 2 => ⟨S4x1024x1x3, .f32⟩
  | 3 => ⟨S4x1024x16x3, .f32⟩
  | 4 => ⟨S4x1024x8x3, .f32⟩
  | 5 => ⟨S4x1024x24x3, .f32⟩
  | 6 => ⟨S4x1024x1x24x3, .f32⟩
  | 7 => ⟨S4x1x1024x24x3, .f32⟩
  | 8 => ⟨S4x1024x1024x24x3, .f32⟩
  | 9 => ⟨S4x1024x1024x24x3, .f32⟩
  | 10 => ⟨S4x1024x1024x24x3, .f32⟩
  | 11 => ⟨S4x1024x1024x24x3, .f32⟩
  | 12 => ⟨S_, .f32⟩
  | 13 => ⟨S4x1024x1024x24, .f32⟩
  | 14 => ⟨S_, .f32⟩
  | 15 => ⟨S4x1024x1024x24, .f32⟩
  | 16 => ⟨S4x1024x1024x24, .f32⟩
  | 17 => ⟨S4x1024x1024x24, .f32⟩
  | 18 => ⟨S4x1024x30x1, .i32⟩
  | 19 => ⟨S_, .i32⟩
  | 20 => ⟨S4x1024x30x1, .i32⟩
  | 21 => ⟨S4x1024x30x1, .i1⟩
  | 22 => ⟨S_, .i32⟩
  | 23 => ⟨S4x1024x30x1, .i32⟩
  | 24 => ⟨S4x1024x30x1, .i32⟩
  | 25 => ⟨S4x1024x30x1, .i32⟩
  | 26 => ⟨S1, .i32⟩
  | 27 => ⟨S_, .i32⟩
  | 28 => ⟨S4x1024x30x1, .i32⟩
  | 29 => ⟨S4x1024x30x1, .i1⟩
  | 30 => ⟨S1x1x1x1, .i32⟩
  | 31 => ⟨S4x1024x30x1, .i32⟩
  | 32 => ⟨S4x1024x30x1, .i1⟩
  | 33 => ⟨S4x1024x30x1, .i1⟩
  | 34 => ⟨S_, .i1⟩
  | 35 => ⟨S4x1024x30, .i1⟩
  | 36 => ⟨S4x1024x30x24, .f32⟩
  | 37 => ⟨S4x1024x30x24, .i1⟩
  | 38 => ⟨S_, .f32⟩
  | 39 => ⟨S4x1024x30x24, .f32⟩
  | 40 => ⟨S4x1024x30x24, .f32⟩
  | 41 => ⟨S4x1024x30x24x1, .f32⟩
  | 42 => ⟨S1x1x1x1x16, .f32⟩
  | 43 => ⟨S4x1024x30x24x16, .f32⟩
  | 44 => ⟨S4x1024x30x24x16, .f32⟩
  | 45 => ⟨S4x1024x30x24x16, .f32⟩
  | 46 => ⟨S_, .f32⟩
  | 47 => ⟨S4x1024x30x24x16, .f32⟩
  | 48 => ⟨S4x1024x30x24x16, .f32⟩
  | 49 => ⟨S4x1024x30x24x16, .f32⟩
  | 50 => ⟨S4x1024x30x24x16, .f32⟩
  | 51 => ⟨S4x1024x30x24x16, .f32⟩
  | 52 => ⟨S4x1024x30x384, .f32⟩
  | 53 => ⟨S4x1024x30x1, .f32⟩
  | 54 => ⟨S1x1x1x16, .f32⟩
  | 55 => ⟨S4x1024x30x16, .f32⟩
  | 56 => ⟨S4x1024x30x16, .f32⟩
  | 57 => ⟨S4x1024x30x16, .f32⟩
  | 58 => ⟨S_, .f32⟩
  | 59 => ⟨S4x1024x30x16, .f32⟩
  | 60 => ⟨S4x1024x30x16, .f32⟩
  | 61 => ⟨S4x1024x30x16, .f32⟩
  | 62 => ⟨S4x1024x30x16, .f32⟩
  | 63 => ⟨S4x1024x30x16, .f32⟩
  | 64 => ⟨S4x1024x30x400, .f32⟩
  | 65 => ⟨S_, .i32⟩
  | 66 => ⟨S4x1, .i32⟩
  | 67 => ⟨S4x1023, .i32⟩
  | 68 => ⟨S4x1023, .i32⟩
  | 69 => ⟨S4x1023, .i1⟩
  | 70 => ⟨S4x1023, .i32⟩
  | 71 => ⟨S4x1024, .i32⟩
  | 72 => ⟨S_, .i32⟩
  | 73 => ⟨S_, .i32⟩
  | 74 => ⟨S4x1024, .i32⟩
  | 75 => ⟨S4x1, .i32⟩
  | 76 => ⟨S1024, .i32⟩
  | 77 => ⟨S1x1024, .i32⟩
  | 78 => ⟨S_, .i32⟩
  | 79 => ⟨S4x1024, .i32⟩
  | 80 => ⟨S4x1024, .i32⟩
  | 81 => ⟨S4x1024, .i32⟩
  | 82 => ⟨S4x1024, .i32⟩
  | 83 => ⟨S4x1024, .i32⟩
  | 84 => ⟨S4x1024, .i1⟩
  | 85 => ⟨S_, .i32⟩
  | 86 => ⟨S_, .i32⟩
  | 87 => ⟨S4x1024, .i32⟩
  | 88 => ⟨S4x1024, .i32⟩
  | 89 => ⟨S4x1024, .f32⟩
  | 90 => ⟨S4x1024x1, .f32⟩
  | 91 => ⟨S4x1x1024, .f32⟩
  | 92 => ⟨S4x1024x1024, .f32⟩
  | 93 => ⟨S4x1024x1024, .f32⟩
  | 94 => ⟨S4x1024x1024, .f32⟩
  | 95 => ⟨S4x1024x1024x1, .f32⟩
  | 96 => ⟨S4x1024x30x1, .i32⟩
  | 97 => ⟨S_, .i32⟩
  | 98 => ⟨S4x1024x30x1, .i32⟩
  | 99 => ⟨S4x1024x30x1, .i1⟩
  | 100 => ⟨S_, .i32⟩
  | 101 => ⟨S4x1024x30x1, .i32⟩
  | 102 => ⟨S4x1024x30x1, .i32⟩
  | 103 => ⟨S4x1024x30x1, .i32⟩
  | 104 => ⟨S1, .i32⟩
  | 105 => ⟨S_, .i32⟩
  | 106 => ⟨S4x1024x30x1, .i32⟩
  | 107 => ⟨S4x1024x30x1, .i1⟩
  | 108 => ⟨S1x1x1x1, .i32⟩
  | 109 => ⟨S4x1024x30x1, .i32⟩
  | 110 => ⟨S4x1024x30x1, .i1⟩
  | 111 => ⟨S4x1024x30x1, .i1⟩
  | 112 => ⟨S_, .i1⟩
  | 113 => ⟨S4x1024x30, .i1⟩
  | 114 => ⟨S4x1024x30x1, .f32⟩
  | 115 => ⟨S4x1024x30x1, .i1⟩
  | 116 => ⟨S_, .f32⟩
  | 117 => ⟨S4x1024x30x1, .f32⟩
  | 118 => ⟨S4x1024x30x1, .f32⟩
  | 119 => ⟨S4x1024x30, .f32⟩
  | 120 => ⟨S4x1024x1, .i32⟩
  | 121 => ⟨S4x1x1024, .i32⟩
  | 122 => ⟨S4x1024x1024, .i32⟩
  | 123 => ⟨S4x1024x1024, .i32⟩
  | 124 => ⟨S4x1024x1024, .i1⟩
  | 125 => ⟨S4x1024x1024, .i32⟩
  | 126 => ⟨S4x1024x1024x1, .i32⟩
  | 127 => ⟨S4x1024x30x1, .i32⟩
  | _ => ⟨S4x1024x4x3, .f32⟩

abbrev hbmTy0_2 (i : Nat) : BufTy := match i % 128 with
  | 0 => ⟨S_, .i32⟩
  | 1 => ⟨S4x1024x30x1, .i32⟩
  | 2 => ⟨S4x1024x30x1, .i1⟩
  | 3 => ⟨S_, .i32⟩
  | 4 => ⟨S4x1024x30x1, .i32⟩
  | 5 => ⟨S4x1024x30x1, .i32⟩
  | 6 => ⟨S4x1024x30x1, .i32⟩
  | 7 => ⟨S1, .i32⟩
  | 8 => ⟨S_, .i32⟩
  | 9 => ⟨S4x1024x30x1, .i32⟩
  | 10 => ⟨S4x1024x30x1, .i1⟩
  | 11 => ⟨S1x1x1x1, .i32⟩
  | 12 => ⟨S4x1024x30x1, .i32⟩
  | 13 => ⟨S4x1024x30x1, .i1⟩
  | 14 => ⟨S4x1024x30x1, .i1⟩
  | 15 => ⟨S_, .i1⟩
  | 16 => ⟨S4x1024x30, .i1⟩
  | 17 => ⟨S4x1024x30x1, .i32⟩
  | 18 => ⟨S4x1024x30x1, .i1⟩
  | 19 => ⟨S_, .i32⟩
  | 20 => ⟨S4x1024x30x1, .i32⟩
  | 21 => ⟨S4x1024x30x1, .i32⟩
  | 22 => ⟨S4x1024x30, .i32⟩
  | 23 => ⟨S4x1024x30, .i32⟩
  | 24 => ⟨S_, .i32⟩
  | 25 => ⟨S4x1024x30, .i32⟩
  | 26 => ⟨S4x1024x30, .i32⟩
  | 27 => ⟨S_, .i32⟩
  | 28 => ⟨S_, .i32⟩
  | 29 => ⟨S_, .i32⟩
  | 30 => ⟨S4x1024x30, .i32⟩
  | 31 => ⟨S4x1024x30, .i32⟩
  | 32 => ⟨S_, .i32⟩
  | 33 => ⟨S4x1024x30, .i32⟩
  | 34 => ⟨S4x1024x30, .i32⟩
  | 35 => ⟨S4x1024x30, .i32⟩
  | 36 => ⟨S_, .i32⟩
  | 37 => ⟨S4x1024x30, .i32⟩
  | 38 => ⟨S4x1024x30, .i32⟩
  | 39 => ⟨S_, .i32⟩
  | 40 => ⟨S4x1024x30, .i32⟩
  | 41 => ⟨S4x1024x30, .i32⟩
  | 42 => ⟨S4x1024x30, .i32⟩
  | 43 => ⟨S4x1024x30x1, .i32⟩
  | 44 => ⟨S1x1x1x66, .i32⟩
  | 45 => ⟨S4x1024x30x66, .i32⟩
  | 46 => ⟨S4x1024x30x66, .i32⟩
  | 47 => ⟨S4x1024x30x66, .i1⟩
  | 48 => ⟨S4x1024x30x66, .f32⟩
  | 49 => ⟨S66x16, .f32⟩
  | 50 => ⟨S4x1024x30x16, .f32⟩
  | 51 => ⟨S1x1x1x16, .f32⟩
  | 52 => ⟨S4x1024x30x16, .f32⟩
  | 53 => ⟨S4x1024x30x16, .f32⟩
  | 54 => ⟨S4x1024x30x416, .f32⟩
  | 55 => ⟨S416x128, .f32⟩
  | 56 => ⟨S4x1024x30x128, .f32⟩
  | 57 => ⟨S_, .f32⟩
  | 58 => ⟨S4x1024x30, .f32⟩
  | 59 => ⟨S4x1024x30x1, .f32⟩
  | 60 => ⟨S_, .f32⟩
  | 61 => ⟨S4x1024x30x1, .f32⟩
  | 62 => ⟨S4x1024x30x1, .f32⟩
  | 63 => ⟨S_, .i32⟩
  | 64 => ⟨S_, .f32⟩
  | 65 => ⟨S4x1024x30, .f32⟩
  | 66 => ⟨S4x1024x30x1, .f32⟩
  | 67 => ⟨S_, .f32⟩
  | 68 => ⟨S4x1024x30x1, .f32⟩
  | 69 => ⟨S4x1024x30x1, .f32⟩
  | 70 => ⟨S4x1024x30x128, .f32⟩
  | 71 => ⟨S4x1024x30x128, .f32⟩
  | 72 => ⟨S4x1024x30x128, .f32⟩
  | 73 => ⟨S_, .f32⟩
  | 74 => ⟨S_, .f32⟩
  | 75 => ⟨S_, .f32⟩
  | 76 => ⟨S_, .f32⟩
  | 77 => ⟨S4x1024x30, .f32⟩
  | 78 => ⟨S4x1024x30x1, .f32⟩
  | 79 => ⟨S4x1024x30x1, .f32⟩
  | 80 => ⟨S4x1024x30x1, .f32⟩
  | 81 => ⟨S_, .f32⟩
  | 82 => ⟨S_, .i1⟩
  | 83 => ⟨S_, .f32⟩
  | 84 => ⟨S_, .f32⟩
  | 85 => ⟨S4x1024x30x1, .f32⟩
  | 86 => ⟨S4x1024x30x1, .f32⟩
  | 87 => ⟨S4x1024x30x128, .f32⟩
  | 88 => ⟨S4x1024x30x128, .f32⟩
  | 89 => ⟨S_, .f32⟩
  | 90 => ⟨S4x1024x30x1, .f32⟩
  | 91 => ⟨S4x1024x30x1, .f32⟩
  | 92 => ⟨S4x1024x30x1, .f32⟩
  | 93 => ⟨S4x1024x30x128, .f32⟩
  | 94 => ⟨S4x1024x30x128, .f32⟩
  | 95 => ⟨S1x1x1x128, .f32⟩
  | 96 => ⟨S4x1024x30x128, .f32⟩
  | 97 => ⟨S4x1024x30x128, .f32⟩
  | 98 => ⟨S1x1x1x128, .f32⟩
  | 99 => ⟨S4x1024x30x128, .f32⟩
  | 100 => ⟨S4x1024x30x128, .f32⟩
  | _ => ⟨S4x1024x4x3, .f32⟩

abbrev hbmTy (i : Nat) : BufTy := match i / 128 with
  | 0 => hbmTy0_0 i
  | 1 => hbmTy0_1 i
  | 2 => hbmTy0_2 i
  | _ => ⟨S4x1024x4x3, .f32⟩

abbrev bufTy : (tb : Table) → Fin (tcTables nBuf tb) → BufTy
  | .hbm, ⟨i, _⟩ => hbmTy i
  | _, _ => ⟨S4x1024x4x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_0 : Ref sig .tc := ⟨.hbm, 58, rfl⟩
abbrev main_v47 : Ref sig .tc := ⟨.hbm, 59, rfl⟩
abbrev main_v48 : Ref sig .tc := ⟨.hbm, 60, rfl⟩
abbrev main_cst_1 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_2 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_cst_3 : Ref sig .tc := ⟨.hbm, 140, rfl⟩
abbrev main_v126 : Ref sig .tc := ⟨.hbm, 141, rfl⟩
abbrev main_cst_4 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_call0_c : Ref sig .tc := ⟨.hbm, 147, rfl⟩
abbrev main_call0_v0 : Ref sig .tc := ⟨.hbm, 148, rfl⟩
abbrev main_call0_v1 : Ref sig .tc := ⟨.hbm, 149, rfl⟩
abbrev main_call0_c_0 : Ref sig .tc := ⟨.hbm, 150, rfl⟩
abbrev main_call0_v2 : Ref sig .tc := ⟨.hbm, 151, rfl⟩
abbrev main_call0_v3 : Ref sig .tc := ⟨.hbm, 152, rfl⟩
abbrev main_call0_v4 : Ref sig .tc := ⟨.hbm, 153, rfl⟩
abbrev main_call0_c_1 : Ref sig .tc := ⟨.hbm, 154, rfl⟩
abbrev main_call0_c_2 : Ref sig .tc := ⟨.hbm, 155, rfl⟩
abbrev main_call0_v5 : Ref sig .tc := ⟨.hbm, 156, rfl⟩
abbrev main_call0_v6 : Ref sig .tc := ⟨.hbm, 157, rfl⟩
abbrev main_call0_v7 : Ref sig .tc := ⟨.hbm, 158, rfl⟩
abbrev main_call0_v8 : Ref sig .tc := ⟨.hbm, 159, rfl⟩
abbrev main_call0_v9 : Ref sig .tc := ⟨.hbm, 160, rfl⟩
abbrev main_call0_v10 : Ref sig .tc := ⟨.hbm, 161, rfl⟩
abbrev main_call0_c_3 : Ref sig .tc := ⟨.hbm, 162, rfl⟩
abbrev main_call0_v11 : Ref sig .tc := ⟨.hbm, 163, rfl⟩
abbrev main_call0_v12 : Ref sig .tc := ⟨.hbm, 164, rfl⟩
abbrev main_call0_v13 : Ref sig .tc := ⟨.hbm, 165, rfl⟩
abbrev main_call0_cst : Ref sig .tc := ⟨.hbm, 166, rfl⟩
abbrev main_call0_v14 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_cst_5 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_cst_6 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_c : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_call1_call0_c : Ref sig .tc := ⟨.hbm, 200, rfl⟩
abbrev main_call1_call0_v0 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_c_7 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_c_8 : Ref sig .tc := ⟨.hbm, 213, rfl⟩
abbrev main_call2_v0 : Ref sig .tc := ⟨.hbm, 214, rfl⟩
abbrev main_call2_v1 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_call3_c : Ref sig .tc := ⟨.hbm, 225, rfl⟩
abbrev main_call3_v0 : Ref sig .tc := ⟨.hbm, 226, rfl⟩
abbrev main_call3_v1 : Ref sig .tc := ⟨.hbm, 227, rfl⟩
abbrev main_call3_c_0 : Ref sig .tc := ⟨.hbm, 228, rfl⟩
abbrev main_call3_v2 : Ref sig .tc := ⟨.hbm, 229, rfl⟩
abbrev main_call3_v3 : Ref sig .tc := ⟨.hbm, 230, rfl⟩
abbrev main_call3_v4 : Ref sig .tc := ⟨.hbm, 231, rfl⟩
abbrev main_call3_c_1 : Ref sig .tc := ⟨.hbm, 232, rfl⟩
abbrev main_call3_c_2 : Ref sig .tc := ⟨.hbm, 233, rfl⟩
abbrev main_call3_v5 : Ref sig .tc := ⟨.hbm, 234, rfl⟩
abbrev main_call3_v6 : Ref sig .tc := ⟨.hbm, 235, rfl⟩
abbrev main_call3_v7 : Ref sig .tc := ⟨.hbm, 236, rfl⟩
abbrev main_call3_v8 : Ref sig .tc := ⟨.hbm, 237, rfl⟩
abbrev main_call3_v9 : Ref sig .tc := ⟨.hbm, 238, rfl⟩
abbrev main_call3_v10 : Ref sig .tc := ⟨.hbm, 239, rfl⟩
abbrev main_call3_c_3 : Ref sig .tc := ⟨.hbm, 240, rfl⟩
abbrev main_call3_v11 : Ref sig .tc := ⟨.hbm, 241, rfl⟩
abbrev main_call3_v12 : Ref sig .tc := ⟨.hbm, 242, rfl⟩
abbrev main_call3_v13 : Ref sig .tc := ⟨.hbm, 243, rfl⟩
abbrev main_call3_cst : Ref sig .tc := ⟨.hbm, 244, rfl⟩
abbrev main_call3_v14 : Ref sig .tc := ⟨.hbm, 245, rfl⟩
abbrev main_v179 : Ref sig .tc := ⟨.hbm, 246, rfl⟩
abbrev main_v180 : Ref sig .tc := ⟨.hbm, 247, rfl⟩
abbrev main_v181 : Ref sig .tc := ⟨.hbm, 248, rfl⟩
abbrev main_v182 : Ref sig .tc := ⟨.hbm, 249, rfl⟩
abbrev main_v183 : Ref sig .tc := ⟨.hbm, 250, rfl⟩
abbrev main_v184 : Ref sig .tc := ⟨.hbm, 251, rfl⟩
abbrev main_v185 : Ref sig .tc := ⟨.hbm, 252, rfl⟩
abbrev main_v186 : Ref sig .tc := ⟨.hbm, 253, rfl⟩
abbrev main_v187 : Ref sig .tc := ⟨.hbm, 254, rfl⟩
abbrev main_v188 : Ref sig .tc := ⟨.hbm, 255, rfl⟩
abbrev main_call4_c : Ref sig .tc := ⟨.hbm, 256, rfl⟩
abbrev main_call4_v0 : Ref sig .tc := ⟨.hbm, 257, rfl⟩
abbrev main_call4_v1 : Ref sig .tc := ⟨.hbm, 258, rfl⟩
abbrev main_call4_c_0 : Ref sig .tc := ⟨.hbm, 259, rfl⟩
abbrev main_call4_v2 : Ref sig .tc := ⟨.hbm, 260, rfl⟩
abbrev main_call4_v3 : Ref sig .tc := ⟨.hbm, 261, rfl⟩
abbrev main_call4_v4 : Ref sig .tc := ⟨.hbm, 262, rfl⟩
abbrev main_call4_c_1 : Ref sig .tc := ⟨.hbm, 263, rfl⟩
abbrev main_call4_c_2 : Ref sig .tc := ⟨.hbm, 264, rfl⟩
abbrev main_call4_v5 : Ref sig .tc := ⟨.hbm, 265, rfl⟩
abbrev main_call4_v6 : Ref sig .tc := ⟨.hbm, 266, rfl⟩
abbrev main_call4_v7 : Ref sig .tc := ⟨.hbm, 267, rfl⟩
abbrev main_call4_v8 : Ref sig .tc := ⟨.hbm, 268, rfl⟩
abbrev main_call4_v9 : Ref sig .tc := ⟨.hbm, 269, rfl⟩
abbrev main_call4_v10 : Ref sig .tc := ⟨.hbm, 270, rfl⟩
abbrev main_call4_c_3 : Ref sig .tc := ⟨.hbm, 271, rfl⟩
abbrev main_call4_v11 : Ref sig .tc := ⟨.hbm, 272, rfl⟩
abbrev main_call4_v12 : Ref sig .tc := ⟨.hbm, 273, rfl⟩
abbrev main_call4_v13 : Ref sig .tc := ⟨.hbm, 274, rfl⟩
abbrev main_call4_c_4 : Ref sig .tc := ⟨.hbm, 275, rfl⟩
abbrev main_call4_v14 : Ref sig .tc := ⟨.hbm, 276, rfl⟩
abbrev main_v189 : Ref sig .tc := ⟨.hbm, 277, rfl⟩
abbrev main_v190 : Ref sig .tc := ⟨.hbm, 278, rfl⟩
abbrev main_v191 : Ref sig .tc := ⟨.hbm, 279, rfl⟩
abbrev main_c_9 : Ref sig .tc := ⟨.hbm, 280, rfl⟩
abbrev main_v192 : Ref sig .tc := ⟨.hbm, 281, rfl⟩
abbrev main_v193 : Ref sig .tc := ⟨.hbm, 282, rfl⟩
abbrev main_c_10 : Ref sig .tc := ⟨.hbm, 283, rfl⟩
abbrev main_c_11 : Ref sig .tc := ⟨.hbm, 284, rfl⟩
abbrev main_call5_v0 : Ref sig .tc := ⟨.hbm, 285, rfl⟩
abbrev main_call5_v1 : Ref sig .tc := ⟨.hbm, 286, rfl⟩
abbrev main_call5_v2 : Ref sig .tc := ⟨.hbm, 287, rfl⟩
abbrev main_call5_v3 : Ref sig .tc := ⟨.hbm, 288, rfl⟩
abbrev main_call5_v4 : Ref sig .tc := ⟨.hbm, 289, rfl⟩
abbrev main_v194 : Ref sig .tc := ⟨.hbm, 290, rfl⟩
abbrev main_v195 : Ref sig .tc := ⟨.hbm, 291, rfl⟩
abbrev main_c_12 : Ref sig .tc := ⟨.hbm, 292, rfl⟩
abbrev main_v196 : Ref sig .tc := ⟨.hbm, 293, rfl⟩
abbrev main_v197 : Ref sig .tc := ⟨.hbm, 294, rfl⟩
abbrev main_c_13 : Ref sig .tc := ⟨.hbm, 295, rfl⟩
abbrev main_v198 : Ref sig .tc := ⟨.hbm, 296, rfl⟩
abbrev main_v199 : Ref sig .tc := ⟨.hbm, 297, rfl⟩
abbrev main_v200 : Ref sig .tc := ⟨.hbm, 298, rfl⟩
abbrev main_call6_v0 : Ref sig .tc := ⟨.hbm, 299, rfl⟩
abbrev main_call6_v1 : Ref sig .tc := ⟨.hbm, 300, rfl⟩
abbrev main_call6_v2 : Ref sig .tc := ⟨.hbm, 301, rfl⟩
abbrev main_call6_v3 : Ref sig .tc := ⟨.hbm, 302, rfl⟩
abbrev main_call6_v4 : Ref sig .tc := ⟨.hbm, 303, rfl⟩
abbrev main_v201 : Ref sig .tc := ⟨.hbm, 304, rfl⟩
abbrev main_v202 : Ref sig .tc := ⟨.hbm, 305, rfl⟩
abbrev main_v203 : Ref sig .tc := ⟨.hbm, 306, rfl⟩
abbrev main_v204 : Ref sig .tc := ⟨.hbm, 307, rfl⟩
abbrev main_v205 : Ref sig .tc := ⟨.hbm, 308, rfl⟩
abbrev main_v206 : Ref sig .tc := ⟨.hbm, 309, rfl⟩
abbrev main_v207 : Ref sig .tc := ⟨.hbm, 310, rfl⟩
abbrev main_v208 : Ref sig .tc := ⟨.hbm, 311, rfl⟩
abbrev main_v209 : Ref sig .tc := ⟨.hbm, 312, rfl⟩
abbrev main_cst_14 : Ref sig .tc := ⟨.hbm, 313, rfl⟩
abbrev main_v210 : Ref sig .tc := ⟨.hbm, 314, rfl⟩
abbrev main_v211 : Ref sig .tc := ⟨.hbm, 315, rfl⟩
abbrev main_cst_15 : Ref sig .tc := ⟨.hbm, 316, rfl⟩
abbrev main_v212 : Ref sig .tc := ⟨.hbm, 317, rfl⟩
abbrev main_v213 : Ref sig .tc := ⟨.hbm, 318, rfl⟩
abbrev main_c_16 : Ref sig .tc := ⟨.hbm, 319, rfl⟩
abbrev main_call7_cst : Ref sig .tc := ⟨.hbm, 320, rfl⟩
abbrev main_call7_v0 : Ref sig .tc := ⟨.hbm, 321, rfl⟩
abbrev main_call7_v1 : Ref sig .tc := ⟨.hbm, 322, rfl⟩
abbrev main_call7_cst_0 : Ref sig .tc := ⟨.hbm, 323, rfl⟩
abbrev main_call7_v2 : Ref sig .tc := ⟨.hbm, 324, rfl⟩
abbrev main_call7_v3 : Ref sig .tc := ⟨.hbm, 325, rfl⟩
abbrev main_call7_v4 : Ref sig .tc := ⟨.hbm, 326, rfl⟩
abbrev main_call7_v5 : Ref sig .tc := ⟨.hbm, 327, rfl⟩
abbrev main_call7_v6 : Ref sig .tc := ⟨.hbm, 328, rfl⟩
abbrev main_call7_v7 : Ref sig .tc := ⟨.hbm, 329, rfl⟩
abbrev main_call7_cst_1 : Ref sig .tc := ⟨.hbm, 330, rfl⟩
abbrev main_call7_v8 : Ref sig .tc := ⟨.hbm, 331, rfl⟩
abbrev main_call7_cst_2 : Ref sig .tc := ⟨.hbm, 332, rfl⟩
abbrev main_call7_v9 : Ref sig .tc := ⟨.hbm, 333, rfl⟩
abbrev main_call7_v10 : Ref sig .tc := ⟨.hbm, 334, rfl⟩
abbrev main_call7_v11 : Ref sig .tc := ⟨.hbm, 335, rfl⟩
abbrev main_call7_v12 : Ref sig .tc := ⟨.hbm, 336, rfl⟩
abbrev main_call7_cst_3 : Ref sig .tc := ⟨.hbm, 337, rfl⟩
abbrev main_call7_v13 : Ref sig .tc := ⟨.hbm, 338, rfl⟩
abbrev main_call7_cst_4 : Ref sig .tc := ⟨.hbm, 339, rfl⟩
abbrev main_call7_call0_v0 : Ref sig .tc := ⟨.hbm, 340, rfl⟩
abbrev main_call7_call0_v1 : Ref sig .tc := ⟨.hbm, 341, rfl⟩
abbrev main_v214 : Ref sig .tc := ⟨.hbm, 342, rfl⟩
abbrev main_v215 : Ref sig .tc := ⟨.hbm, 343, rfl⟩
abbrev main_v216 : Ref sig .tc := ⟨.hbm, 344, rfl⟩
abbrev main_cst_17 : Ref sig .tc := ⟨.hbm, 345, rfl⟩
abbrev main_v217 : Ref sig .tc := ⟨.hbm, 346, rfl⟩
abbrev main_v218 : Ref sig .tc := ⟨.hbm, 347, rfl⟩
abbrev main_v219 : Ref sig .tc := ⟨.hbm, 348, rfl⟩
abbrev main_v220 : Ref sig .tc := ⟨.hbm, 349, rfl⟩
abbrev main_v221 : Ref sig .tc := ⟨.hbm, 350, rfl⟩
abbrev main_v222 : Ref sig .tc := ⟨.hbm, 351, rfl⟩
abbrev main_v223 : Ref sig .tc := ⟨.hbm, 352, rfl⟩
abbrev main_v224 : Ref sig .tc := ⟨.hbm, 353, rfl⟩
abbrev main_v225 : Ref sig .tc := ⟨.hbm, 354, rfl⟩
abbrev main_v226 : Ref sig .tc := ⟨.hbm, 355, rfl⟩
abbrev main_v227 : Ref sig .tc := ⟨.hbm, 356, rfl⟩

abbrev nD : Nat := 1
abbrev τ : Topo := Topo.v7x

variable {F : FTy → Type} [FloatOps F]
-- ==== Proof.GatherBatch.lean ====
/- A tile starts several indirect gathers on ONE semaphore and waits for them together.  Each gather is one transfer per row,
   all of the same amount, so the group is one batch of row transfers (Lib/Batch.lean) and a wait for a gather is a wait for
   that many rows of the batch; every row is handed back once all the waits have passed. -/
module

public import Idealize.ShloMosaic.Lib.Batch
public import Idealize.ShloMosaic.Lib.SparseCore.Stream
public import Idealize.ShloMosaic.Lib.SparseCore.Cells

@[expose] public section

noncomputable section

namespace Cert.GatherBatch

open Idealize.ShloMosaic Idealize.ShloMosaic.SparseCore Idealize.ShloMosaic.Transfers
open Idealize.SL
open Idealize.SL.BI (sProp Storable bigSep)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

omit [DecidableEq Ix] [DecidableEq Name] [URA U] [Preorder Lvl] in
/-- The next `o` issue rights of a batch taken together. -/
theorem pending_add {M : Type} [URA M] {n : ℕ} (k o : ℕ) (h : k + o ≤ n) (Φ : Fin n → sProp M) :
    bigSep (pending k) Φ = iprop((bigSep Finset.univ fun j : Fin o => Φ ⟨k + j.val, by have := j.isLt; omega⟩) ∗ bigSep (pending (k + o)) Φ) := by
  let f : Fin o ↪ Fin n := ⟨fun j => ⟨k + j.val, by have := j.isLt; omega⟩, fun x y hxy => by
    have := congrArg Fin.val hxy; simp only at this; exact Fin.ext (by omega)⟩
  have hsplit : (pending k : Finset (Fin n)) = Finset.univ.map f ∪ pending (k + o) := by
    ext t
    simp only [pending, Finset.mem_filter, Finset.mem_univ, true_and, Finset.mem_union, Finset.mem_map]
    constructor
    · intro ht
      by_cases h' : k + o ≤ t.val
      · exact .inr h'
      · exact .inl ⟨⟨t.val - k, by omega⟩, Fin.ext (by change k + (t.val - k) = t.val; omega)⟩
    · rintro (⟨j, rfl⟩ | h')
      · exact Nat.le_add_right _ _
      · omega
  have hdisj : Disjoint (Finset.univ.map f) (pending (k + o) : Finset (Fin n)) := by
    rw [Finset.disjoint_left]
    intro t ht ht'
    obtain ⟨j, -, rfl⟩ := Finset.mem_map.mp ht
    simp only [pending, Finset.mem_filter, Finset.mem_univ, true_and] at ht'
    have hj : (f j).val = k + j.val := rfl
    have := j.isLt
    omega
  rw [hsplit, bigSep_union' hdisj, BI.bigSep_map]
  rfl

/-- The rows of one gather as the batch's next transfers: the tile gives, per row, the destination's row, the list's entry
    and a share of the source, and continues with that many more transfers of the batch issued. -/
theorem wp_gatherRows [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {K : PUnit → Prog (TpuEff nD τ sig (Elt F) Λ c.2) α}
    {qo : PosShare TreeShare} {qs : Fin (s.size hg.axis') → PosShare TreeShare}
    {fs : Buf (Elt F) (src.view.loc c)} {fd : Buf (Elt F) (dst.view.loc c)} {fo : Buf (Elt F) (offs.view.loc c)}
    {n : ℕ} {D : Fin n → sProp 𝕄} {k : ℕ} (ι : Ix) (N : ℕ)
    (hk : k + s.size hg.axis' ≤ n)
    (hN : ∀ j, (dst.slice (s.rowRect hg.axis' j) (s.stride_rowRect hg.axis' j)).view.dmaCredit = N)
    (hin : ∀ x, (offs.view.read (Elt F) fo x).toNat < s₀.size hg.axis)
    (hD : ∀ j : Fin (s.size hg.axis'),
      iprop((dst.view.loc c ↦[(dst.view.slice (s.rowRect hg.axis' j)).set]{fullShare}
              ((dst.view.slice (s.rowRect hg.axis' j)).write (Elt F) fd
                (fun i => src.view.read (Elt F) fs (hg.rowIdx (rows (offs.view.read (Elt F) fo) hn hin j) i)) Finset.univ))
          ∗ (offs.view.loc c ↦[{offs.view.emb (si.rowMajor.symm (j.cast hn.symm))}]{qo} fo)
          ∗ (src.view.loc c ↦[src.view.set]{qs j} fs))
        ⊢ D ⟨k + j.val, by have := j.isLt; omega⟩) :
    iprop((bigSep Finset.univ fun j : Fin (s.size hg.axis') =>
            iprop((dst.view.loc c ↦[(dst.view.slice (s.rowRect hg.axis' j)).set]{fullShare} fd)
              ∗ (offs.view.loc c ↦[{offs.view.emb (si.rowMajor.symm (j.cast hn.symm))}]{qo} fo)
              ∗ (src.view.loc c ↦[src.view.set]{qs j} fs)))
        ∗ Batch EC c (.dma sem) ι N D k 0)
      ⊢ iprop((Batch EC c (.dma sem) ι N D (k + s.size hg.axis') 0 -∗ wp frame (wpE defs 𝒱 c bd) Set.univ (K ⟨⟩) Q)
          -∗ wp frame (wpE defs 𝒱 c bd) Set.univ (enqueueIndirectGather hp src dst hg offs hn sem hsrc he hsp hr >>= K) Q) := by
  rw [enqueueIndirectGather_bind]
  let S : Stream nD τ sig (Elt F) :=
    Stream.issued c offs.view hn sem (fun j w => (rowOf (s₀.size hg.axis) w).map (gatherRow c src dst hg sem hsrc he hsp hr j)) 0
  let row : Fin (s.size hg.axis') → Fin (s₀.size hg.axis) := rows (offs.view.read (Elt F) fo) hn hin
  let rd : Fin (s.size hg.axis') → RowDma τ sig (Elt F) c.2 sem := fun j => gatherRow c src dst hg sem hsrc he hsp hr j (row j)
  have hA : S.RowsAgree := by
    intro j x y ρ ρ' hx hy
    obtain ⟨_, -, rfl⟩ := Option.map_eq_some_iff.mp hx
    obtain ⟨_, -, rfl⟩ := Option.map_eq_some_iff.mp hy
    rfl
  have hrd : ∀ j, S.row j (S.word fo j) = some (rd j) := fun j => by
    change (rowOf (s₀.size hg.axis) (offs.view.read (Elt F) fo (S.entry j))).map _ = _
    rw [rowOf_of_lt (hin _)]
    rfl
  have htot : ∑ j, (rd j).dst.view.dmaCredit = s.size hg.axis' * N := by
    rw [Finset.sum_congr rfl fun j _ => hN j, Finset.sum_const, Finset.card_univ, Fintype.card_fin, smul_eq_mul]
  unfold Batch
  iintro ⟨Hrows, %γ, %γ₀, %κ, #Hinv, HI, H0, Hcred⟩ HK
  ihave HI' := (Entails.of_eq (pending_add k (s.size hg.axis') hk (fun t => count EC (γ t) 0))) $$ HI
  icases HI' with ⟨Hnow, HI⟩
  iapply (wp_enqueueIndirectDma 𝒱 c bd Set.univ (qo := qo) (fo := fo) (rd := rd) ι (s.size hg.axis' * N) hA hrd htot) $$ [Hrows Hnow]
  · have hrow : ∀ j : Fin (s.size hg.axis'), iprop(inv κ (batchBody EC (c, SemLoc.dma sem) N D γ γ₀)
          ∗ (((dst.view.loc c ↦[(dst.view.slice (s.rowRect hg.axis' j)).set]{fullShare} fd)
              ∗ (offs.view.loc c ↦[{offs.view.emb (si.rowMajor.symm (j.cast hn.symm))}]{qo} fo)
              ∗ (src.view.loc c ↦[src.view.set]{qs j} fs))
            ∗ count EC (γ ⟨k + j.val, by have := j.isLt; omega⟩) 0))
        ⊢ iprop(S.heldEntry qo fo j ∗ (S.heldEntry qo fo j -∗ rowRes c (rd j))) := fun j => by
      iintro ⟨#Hinv, ⟨Hd, Ho, Hs⟩, Hc⟩
      isplitl [Ho]; · iexact Ho
      iintro Ho
      unfold rowRes
      iexists qs j, fs, iprop((dst.view.loc c ↦[(dst.view.slice (s.rowRect hg.axis' j)).set]{fullShare}
          ((dst.view.slice (s.rowRect hg.axis' j)).write (Elt F) fd
            (fun i => src.view.read (Elt F) fs (hg.rowIdx (row j) i)) Finset.univ)) ∗ S.heldEntry qo fo j)
      isplitl [Hs]; · iexact Hs
      isplitl [Hd Ho]
      · iapply writeUpdate_frame
        isplitl [Hd]
        · iapply (pointsTo_writeUpdate c (v := dst.view.slice (s.rowRect hg.axis' j)) subset_rfl) $$ Hd
        · iexact Ho
      · rw [show (rd j).dst.view.amount (SemLoc.dma sem) = N from hN j]
        iapply (batch_creditUpdate EC (D := D) (γ := γ) (γ₀ := γ₀) (ι := κ) ⟨k + j.val, by have := j.isLt; omega⟩
          (sep_assoc.1.trans (hD j)))
        isplitr; · iexact Hinv
        iexact Hc
    unfold Stream.res
    ihave H := bigSep_sep_in _ _ _ $$ [Hrows Hnow]; · isplitl [Hrows] <;> iassumption
    iapply (bigSep_mono_pers Finset.univ _ _ _ fun j _ => hrow j)
    isplitr; · iexact Hinv
    iexact H
  iintro Hcred'
  iapply HK
  iexists γ, γ₀, κ
  isplitr; · iexact Hinv
  isplitl [HI]; · iexact HI
  isplitl [H0]; · iexact H0
  rw [Nat.sub_zero, Nat.sub_zero, Nat.add_mul, ← tallyAt_add]
  icombine Hcred Hcred' as H
  iexact H

end Cert.GatherBatch

end
-- ==== Proof.TileProg.lean ====
/- The gather kernel's body written short: the list fetched, then three rounds of ten gathers and ten waits, then the rows
   written back.  It is the printed body. -/
module

public import proofs.«01_k».proof.Proof.Gen.KernelIdeal
public import proofs.«01_k».proof.Proof.Gen.KernelIdeal.Skeleton

@[expose] public section

noncomputable section

namespace Cert.KernelIdeal.Tile

open Cert.KernelIdeal Cert.KernelIdeal.Gen
open Idealize.ShloMosaic Idealize.SL.Sem

variable {F : FTy → Type} [FloatOps F] [Named F]

theorem inbRows (c : Fin 30) : ∀ a, (![128 * c.val, 0] : Fin 2 → Nat) a + S128x16.size a ≤ S3840x16.size a := by
  have := c.isLt
  intro a
  match a with
  | 0 => show 128 * c.val + 128 ≤ 3840; omega
  | 1 => show 0 + 16 ≤ 16; omega
theorem inbList (c : Fin 30) : ∀ a, (![c.val, 0] : Fin 2 → Nat) a + S1x128.size a ≤ S30x128.size a := by
  have := c.isLt
  intro a
  match a with
  | 0 => show c.val + 1 ≤ 30; omega
  | 1 => show 0 + 128 ≤ 128; omega

/-- The 128 rows the gather number `c` fills. -/
abbrev rowsView (arg6 : Memref sig .scVector .vmem S3840x16 .f32) (c : Fin 30) : Memref sig .scVector .vmem S128x16 .f32 :=
  arg6.slice (Rect.unit (s := S3840x16) ![128 * c.val, 0] S128x16.size (inbRows c)) (fun _ => rfl)
/-- The row of the list it reads. -/
abbrev listView (arg5 : Memref sig .scVector .vmem S30x128 .i32) (c : Fin 30) : Memref sig .scVector .vmem S128 .i32 :=
  (arg5.slice (Rect.unit (s := S30x128) ![c.val, 0] S1x128.size (inbList c)) (fun _ => rfl)).squeeze S128 squeezes_S1x128_S128
/-- The table, whole. -/
abbrev tableView (arg2 : Memref sig .scVector .hbm S4096x16 .f32) : Memref sig .scVector .hbm S4096x16 .f32 :=
  arg2.slice (Rect.unit (s := S4096x16) ![0, 0] S4096x16.size inb_S4096x16_S4096x16_0_0) (fun _ => rfl)
/-- The tile's share of the lists. -/
abbrev myList (i : grid0.Coords) (arg3 : Memref sig .scVector .hbm S32x30x128 .i32) : Memref sig .scVector .hbm S30x128 .i32 :=
  (arg3.slice (Rect.unit (s := S32x30x128) (k0_off1 i) S1x30x128.size (k0_off1_inb i)) (fun _ => rfl)).squeeze S30x128 squeezes_S1x30x128_S30x128
/-- The tile's share of the result. -/
abbrev myRows (i : grid0.Coords) (arg4 : Memref sig .scVector .hbm S122880x16 .f32) : Memref sig .scVector .hbm S3840x16 .f32 :=
  arg4.slice (Rect.unit (s := S122880x16) (k0_off2 i) S3840x16.size (k0_off2_inb i)) (fun _ => rfl)

section

variable {c : Fin τ.nSC} {j : Fin τ.nSub}
variable (arg2 : Memref sig .scVector .hbm S4096x16 .f32) (arg5 : Memref sig .scVector .vmem S30x128 .i32)
  (arg6 : Memref sig .scVector .vmem S3840x16 .f32) (arg7 : DmaSems sig S_)

/-- The gathers numbered `k`, `k + 1`, … (`n` of them), each issued, then `K`. -/
def gathers : (n k : ℕ) → k + n ≤ 30 → Prog (TpuEff nD τ sig (Elt F) Λ₀ (.scVector c j)) PUnit → Prog (TpuEff nD τ sig (Elt F) Λ₀ (.scVector c j)) PUnit
  | 0, _, _, K => K
  | n + 1, k, h, K =>
    SparseCore.enqueueIndirectGather rfl (tableView arg2) (rowsView arg6 ⟨k, by omega⟩) gathers_S4096x16_S128x16 (listView arg5 ⟨k, by omega⟩) rfl arg7.sem
      (View.wordExact_bits rfl) rfl (Or.inl rfl) >>= fun _ => gathers n (k + 1) (by omega) K

/-- The waits for them, then `K`. -/
def waits : (n k : ℕ) → k + n ≤ 30 → Prog (TpuEff nD τ sig (Elt F) Λ₀ (.scVector c j)) PUnit → Prog (TpuEff nD τ sig (Elt F) Λ₀ (.scVector c j)) PUnit
  | 0, _, _, K => K
  | n + 1, k, h, K =>
    .op (.waitDma2 arg7.sem (tableView arg2) (rowsView arg6 ⟨k, by omega⟩) (View.wordExact_bits rfl) (View.wordExact_bits rfl))
      fun _ => waits n (k + 1) (by omega) K

/-- One round: ten gathers, then their ten waits. -/
def round (k : ℕ) (h : k + 10 ≤ 30) (K : Prog (TpuEff nD τ sig (Elt F) Λ₀ (.scVector c j)) PUnit) :=
  gathers arg2 arg5 arg6 arg7 10 k h (waits arg2 arg6 arg7 10 k h K)

end

/-- The body. -/
def body (i : grid0.Coords) (arg2 : Memref sig .scVector .hbm S4096x16 .f32) (arg3 : Memref sig .scVector .hbm S32x30x128 .i32)
    (arg4 : Memref sig .scVector .hbm S122880x16 .f32) (arg5 : Memref sig .scVector .vmem S30x128 .i32) (harg5 : arg5.IsWhole)
    (arg6 : Memref sig .scVector .vmem S3840x16 .f32) (harg6 : arg6.IsWhole) (arg7 : DmaSems sig S_) (r0 : DmaSems sig S_) (r1 : DmaSems sig S_) :
    Prog (TpuEff nD τ sig (Elt F) Λ₀ (.scVector ((i 0).castLE hcore0) ((i 1).castLE hsub0))) PUnit :=
  .op (.enqueueDma (myList i arg3) (.here arg5) (.dma r0.sem) ((View.wordExact_bits rfl).reshape _ _) harg5.wordExact ⟨Or.inl rfl, trivial⟩) fun _ =>
  .op (.waitDma2 r0.sem (myList i arg3) arg5 ((View.wordExact_bits rfl).reshape _ _) harg5.wordExact) fun _ =>
  round arg2 arg5 arg6 arg7 0 (by omega) <|
  round arg2 arg5 arg6 arg7 10 (by omega) <|
  round arg2 arg5 arg6 arg7 20 (by omega) <|
  .op (.enqueueDma arg6 (.here (myRows i arg4)) (.dma r1.sem) harg6.wordExact (View.wordExact_bits rfl) ⟨Or.inl rfl, trivial⟩) fun _ =>
  .op (.waitDma2 r1.sem arg6 (myRows i arg4) harg6.wordExact (View.wordExact_bits rfl)) fun _ =>
  pure ⟨⟩

set_option maxRecDepth 100000 in
theorem body_eq (i : grid0.Coords) (arg2 : Memref sig .scVector .hbm S4096x16 .f32) (harg2 : arg2.IsWhole) (arg3 : Memref sig .scVector .hbm S32x30x128 .i32) (harg3 : arg3.IsWhole)
    (arg4 : Memref sig .scVector .hbm S122880x16 .f32) (harg4 : arg4.IsWhole) (arg5 : Memref sig .scVector .vmem S30x128 .i32) (harg5 : arg5.IsWhole)
    (arg6 : Memref sig .scVector .vmem S3840x16 .f32) (harg6 : arg6.IsWhole) (arg7 : DmaSems sig S_) (r0 : DmaSems sig S_) (r1 : DmaSems sig S_) :
    cc0_gather_k (F := F) i arg2 harg2 arg3 harg3 arg4 harg4 arg5 harg5 arg6 harg6 arg7 r0 r1
      = body (F := F) i arg2 arg3 arg4 arg5 harg5 arg6 harg6 arg7 r0 r1 := by
  with_unfolding_all rfl

end Cert.KernelIdeal.Tile

end
-- ==== Proof.Setup.lean ====
/- The program as the launch theorem sees it: the body tables, the algebra of ghost states, the buffers the gather works on,
   and the value it leaves. -/
module

public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Batch
public import Idealize.ShloMosaic.Lib.Tactic
public import proofs.«01_k».proof.Proof.Gen.KernelIdeal
public import proofs.«01_k».proof.Proof.Gen.KernelIdeal.Skeleton

@[expose] public section

noncomputable section

namespace Cert.KernelIdeal.Run

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The labels of the program without its SparseCore launch: the kernels' and the pipeline's. -/
abbrev ΛP : Labels := Pipeline.Sig Λ₀ (Fin 1) fun p => (pcfgs (F := F) p).Adm
/-- The one SparseCore call. -/
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the staging cells' rounds, the transfers' counters. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR

/-! ## The gather's buffers -/

abbrev tabLoc (d : Dev nD) : Loc nD τ sig := (SparseCore.T d).loc main_v43
abbrev lstLoc (d : Dev nD) : Loc nD τ sig := (SparseCore.T d).loc main_v51
abbrev outLoc (d : Dev nD) : Loc nD τ sig := (SparseCore.T d).loc main_v52

/-- Entry `(r, c)` of the table, `r` an offset of the list. -/
def pick (r : BitVec 32) (c : Fin 16) : S4096x16.Idx
  | 0 => ⟨r.toNat % 4096, Nat.mod_lt _ (by decide)⟩
  | 1 => c

theorem numel_lst : S32x30x128.numel = 122880 := by decide
theorem numel_mine : S30x128.numel = 3840 := by decide

/-- What one tile gathers over its list. -/
def gath (tab : S4096x16.Idx → Elt F .f32) (l : S30x128.Idx → BitVec 32) : S3840x16.Idx → Elt F .f32 := fun x =>
  tab (pick (l (S30x128.rowMajor.symm ((x 0 : Fin 3840).cast numel_mine.symm))) (x 1))

/-- What the whole call gathers: row `r` of the result is the table's row the `r`-th offset names. -/
def gout (tab : S4096x16.Idx → Elt F .f32) (lst : S32x30x128.Idx → BitVec 32) : S122880x16.Idx → Elt F .f32 := fun x =>
  tab (pick (lst (S32x30x128.rowMajor.symm ((x 0 : Fin 122880).cast numel_lst.symm))) (x 1))

/-- The list rows and the result rows of the tile numbered `w`. -/
def lstSet (w : Fin 32) : Finset S32x30x128.Idx := Finset.univ.filter fun x => (x 0).val = w.val
def outSet (w : Fin 32) : Finset S122880x16.Idx := Finset.univ.filter fun x => (x 0).val / 3840 = w.val

/-- Tile `w`'s share of the table. -/
abbrev tabShare (w : Fin 32) : PosShare TreeShare := pieceOf fullShare 32 (by decide) w

/-- The tile's number. -/
def wid (L : grid0.Coords) : Fin 32 := ⟨2 * (L 1).val + (L 0).val, by
  have h0 : (L 0).val < 2 := (L 0).isLt
  have h1 : (L 1).val < 16 := (L 1).isLt
  omega⟩

end Cert.KernelIdeal.Run

end
-- ==== Proof.TileBody.lean ====
/- One vector subcore's task: its list fetched, its 3840 rows gathered in three rounds of ten streams, the rows written back. -/
module

public import proofs.«01_k».proof.Proof.GatherBatch
public import proofs.«01_k».proof.Proof.TileProg
public import proofs.«01_k».proof.Proof.Setup

@[expose] public section

noncomputable section

namespace Cert.KernelIdeal.Run

open Cert.KernelIdeal Cert.KernelIdeal.Gen Cert.KernelIdeal.Tile
open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch pending)

variable {F : FTy → Type} [FloatOps F] [Named F]

local notation "𝕄" => MT nD τ sig (HIx 1) (Elt F) ℕ UU ℕ

local notation "tV" => (Memref.whole main_v43_scv : Memref sig Kind.scVector Space.hbm S4096x16 EltTy.f32)
local notation "lV" => (Memref.whole main_v51_scv : Memref sig Kind.scVector Space.hbm S32x30x128 EltTy.i32)
local notation "oV" => (Memref.whole main_v52_scv : Memref sig Kind.scVector Space.hbm S122880x16 EltTy.f32)
local notation "sV" => (Memref.whole cc0_scratch0 : Memref sig Kind.scVector Space.vmem S30x128 EltTy.i32)
local notation "rV" => (Memref.whole cc0_scratch1 : Memref sig Kind.scVector Space.vmem S3840x16 EltTy.f32)

section Geometry

/-! ## Where the views' elements lie -/

/-- Row `r` of the row buffer. -/
def rowSet (r : Fin 3840) : Finset S3840x16.Idx := Finset.univ.filter fun x => (x 0).val = r.val
/-- Entry `r` of the tile's list. -/
def ent (r : Fin 3840) : S30x128.Idx := S30x128.rowMajor.symm (r.cast numel_mine.symm)

/-- Row `j` of the rows of gather `c` in the row buffer's own numbering. -/
def rowNo (c : Fin 30) (j : Fin 128) : Fin 3840 := ⟨128 * c.val + j.val, by have := c.isLt; have := j.isLt; omega⟩

theorem rows_emb (c : Fin 30) (y : S128x16.Idx) (a : Fin 2) :
    ((rowsView rV c).view.emb y a : ℕ) = (![128 * c.val, 0] : Fin 2 → ℕ) a + (y a).val := by
  show (![128 * c.val, 0] : Fin 2 → ℕ) a + 1 * (y a).val = _
  rw [Nat.one_mul]

theorem rows_set (c : Fin 30) (j : Fin 128) (h : S4096x16.Gathers 0 S128x16) :
    ((rowsView rV c).view.slice (S128x16.rowRect h.axis' j)).set = rowSet (rowNo c j) := by
  ext x
  simp only [View.set, Finset.mem_map, Finset.mem_univ, true_and, rowSet, Finset.mem_filter]
  constructor
  · rintro ⟨y, rfl⟩
    have hy : (y 0).val < 1 := (y 0).isLt
    show 128 * c.val + 1 * (j.val + 1 * (y 0).val) = 128 * c.val + j.val
    omega
  · intro hx
    refine ⟨fun a => match a with | 0 => ⟨0, Nat.one_pos⟩ | 1 => (x 1 : Fin 16), ?_⟩
    funext a
    match a with
    | 0 =>
      refine Fin.ext ?_
      show 128 * c.val + 1 * (j.val + 1 * 0) = (x 0).val
      change (x 0).val = 128 * c.val + j.val at hx
      omega
    | 1 =>
      refine Fin.ext ?_
      show 0 + 1 * (0 + 1 * (x 1).val) = (x 1).val
      omega

theorem list_emb (c : Fin 30) (j : Fin 128) (y : S128.Idx) (hy : (y 0).val = j.val) : (listView sV c).view.emb y = ent (rowNo c j) := by
  apply S30x128.rowMajor.injective
  unfold ent
  rw [Equiv.apply_symm_apply]
  refine Fin.ext ?_
  rw [Shape.rowMajor_val_two]
  have h := Shape.rowMajor_reshapeEquiv (s := S1x128) (s' := S128) squeezes_S1x128_S128.numel_eq y
  set z : S1x128.Idx := Shape.reshapeEquiv squeezes_S1x128_S128.numel_eq y with hz
  have h1 : (S1x128.rowMajor z).val = (z 0).val * 128 + (z 1).val := Shape.rowMajor_val_two z
  have h2 : (S128.rowMajor y).val = (y 0).val := Shape.rowMajor_val_one y
  have h0 : (z 0).val < 1 := (z 0).isLt
  have e0 : ((listView sV c).view.emb y 0).val = c.val + 1 * (z 0).val := rfl
  have e1 : ((listView sV c).view.emb y 1).val = 0 + 1 * (z 1).val := rfl
  show ((listView sV c).view.emb y 0).val * 128 + ((listView sV c).view.emb y 1).val = 128 * c.val + j.val
  rw [e0, e1]
  omega

theorem table_emb (y : S4096x16.Idx) : (tableView tV).view.emb y = y := by
  funext a
  refine Fin.ext ?_
  match a with
  | 0 => show 0 + 1 * (y 0).val = _; omega
  | 1 => show 0 + 1 * (y 1).val = _; omega

theorem table_set : (tableView tV).view.set = Finset.univ := by
  ext x
  simp only [View.set, Finset.mem_map, Finset.mem_univ, true_and, iff_true]
  exact ⟨x, table_emb x⟩

/-- The tile's list is its stretch of the list of offsets. -/
theorem myList_emb (L : grid0.Coords) (r : Fin 3840) :
    (myList L lV).view.emb (ent r) = S32x30x128.rowMajor.symm ((⟨3840 * (wid L).val + r.val, by have := (wid L).isLt; have := r.isLt; omega⟩ : Fin 122880).cast numel_lst.symm) := by
  apply S32x30x128.rowMajor.injective
  rw [Equiv.apply_symm_apply]
  refine Fin.ext ?_
  rw [Shape.rowMajor_val_three]
  have h := Shape.rowMajor_reshapeEquiv (s := S1x30x128) (s' := S30x128) squeezes_S1x30x128_S30x128.numel_eq (ent r)
  set z : S1x30x128.Idx := Shape.reshapeEquiv squeezes_S1x30x128_S30x128.numel_eq (ent r) with hz
  have h1 : (S1x30x128.rowMajor z).val = ((z 0).val * 30 + (z 1).val) * 128 + (z 2).val := Shape.rowMajor_val_three z
  have h2 : (S30x128.rowMajor (ent r)).val = r.val := by unfold ent; rw [Equiv.apply_symm_apply]; rfl
  have h0 : (z 0).val < 1 := (z 0).isLt
  have e0 : ((myList L lV).view.emb (ent r) 0).val = k0_off1 L 0 + 1 * (z 0).val := rfl
  have e1 : ((myList L lV).view.emb (ent r) 1).val = k0_off1 L 1 + 1 * (z 1).val := rfl
  have e2 : ((myList L lV).view.emb (ent r) 2).val = k0_off1 L 2 + 1 * (z 2).val := rfl
  have o0 : k0_off1 L 0 = 2 * (L 1).val + (L 0).val := by rw [k0_off1_eq]; rfl
  have o1 : k0_off1 L 1 = 0 := by rw [k0_off1_eq]; rfl
  have o2 : k0_off1 L 2 = 0 := by rw [k0_off1_eq]; rfl
  show (((myList L lV).view.emb (ent r) 0).val * 30 + ((myList L lV).view.emb (ent r) 1).val) * 128 + ((myList L lV).view.emb (ent r) 2).val
    = 3840 * (2 * (L 1).val + (L 0).val) + r.val
  rw [e0, e1, e2, o0, o1, o2]
  omega

theorem myList_set (L : grid0.Coords) : (myList L lV).view.set = lstSet (wid L) := by
  ext x
  simp only [View.set, Finset.mem_map, Finset.mem_univ, true_and, lstSet, Finset.mem_filter]
  have hm : (S32x30x128.rowMajor x).val = ((x 0).val * 30 + (x 1).val) * 128 + (x 2).val := Shape.rowMajor_val_three x
  have x1 : (x 1).val < 30 := (x 1).isLt
  have x2 : (x 2).val < 128 := (x 2).isLt
  constructor
  · rintro ⟨y, rfl⟩
    obtain ⟨r, rfl⟩ : ∃ r, y = ent r := ⟨(S30x128.rowMajor y).cast numel_mine, (by unfold ent; simp)⟩
    have e : (S32x30x128.rowMajor ((myList L lV).view.emb (ent r))).val = 3840 * (wid L).val + r.val := by
      rw [myList_emb, Equiv.apply_symm_apply]; rfl
    change ((myList L lV).view.emb (ent r) 0).val = (wid L).val
    clear hm x1 x2
    generalize hq : ((myList L lV).view.emb (ent r) : S32x30x128.Idx) = q at e ⊢
    have hm' : (S32x30x128.rowMajor q).val = ((q 0).val * 30 + (q 1).val) * 128 + (q 2).val := Shape.rowMajor_val_three q
    have l1 : (q 1).val < 30 := (q 1).isLt
    have l2 : (q 2).val < 128 := (q 2).isLt
    have := r.isLt
    omega
  · intro h0
    refine ⟨ent ⟨(x 1).val * 128 + (x 2).val, by omega⟩, ?_⟩
    rw [myList_emb]
    apply S32x30x128.rowMajor.injective
    rw [Equiv.apply_symm_apply]
    refine Fin.ext ?_
    show 3840 * (wid L).val + ((x 1).val * 128 + (x 2).val) = (S32x30x128.rowMajor x).val
    omega

theorem myRows_emb (L : grid0.Coords) (y : S3840x16.Idx) :
    ((myRows L oV).view.emb y 0).val = 3840 * (wid L).val + (y 0).val ∧ ((myRows L oV).view.emb y 1).val = (y 1).val := by
  have e0 : ((myRows L oV).view.emb y 0).val = k0_off2 L 0 + 1 * (y 0).val := rfl
  have e1 : ((myRows L oV).view.emb y 1).val = k0_off2 L 1 + 1 * (y 1).val := rfl
  have o0 : k0_off2 L 0 = 7680 * (L 1).val + 3840 * (L 0).val := by rw [k0_off2_eq]; rfl
  have o1 : k0_off2 L 1 = 0 := by rw [k0_off2_eq]; rfl
  have hw : (wid L).val = 2 * (L 1).val + (L 0).val := rfl
  rw [e0, e1, o0, o1, hw]
  omega

theorem myRows_set (L : grid0.Coords) : (myRows L oV).view.set = outSet (wid L) := by
  ext x
  simp only [View.set, Finset.mem_map, Finset.mem_univ, true_and, outSet, Finset.mem_filter]
  constructor
  · rintro ⟨y, rfl⟩
    have := (myRows_emb L y).1
    have hy : (y 0).val < 3840 := (y 0).isLt
    change ((myRows L oV).view.emb y 0).val / 3840 = _
    omega
  · intro hx
    have h0 : (x 0).val < 122880 := (x 0).isLt
    refine ⟨fun a => match a with | 0 => ⟨(x 0).val - 3840 * (wid L).val, by show _ < 3840; omega⟩ | 1 => (x 1 : Fin 16), ?_⟩
    funext a
    refine Fin.ext ?_
    match a with
    | 0 => rw [(myRows_emb L _).1]; show 3840 * (wid L).val + ((x 0).val - 3840 * (wid L).val) = (x 0).val; omega
    | 1 => rw [(myRows_emb L _).2]

end Geometry

end Cert.KernelIdeal.Run

end
-- ==== Proof.TileRun.lean ====
/- The rounds of one vector subcore: a round's ten streams are one batch of 1280 row transfers, each delivering its row of the
   result, its entry of the list and its share of the table. -/
module

public import proofs.«01_k».proof.Proof.TileBody

@[expose] public section

noncomputable section

namespace Cert.KernelIdeal.Run

open Cert.KernelIdeal Cert.KernelIdeal.Gen Cert.KernelIdeal.Tile Cert.GatherBatch
open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch pending)

variable {F : FTy → Type} [FloatOps F] [Named F]

local notation "𝕄" => MT nD τ sig (HIx 1) (Elt F) ℕ UU ℕ

local notation "tV" => (Memref.whole main_v43_scv : Memref sig Kind.scVector Space.hbm S4096x16 EltTy.f32)
local notation "lV" => (Memref.whole main_v51_scv : Memref sig Kind.scVector Space.hbm S32x30x128 EltTy.i32)
local notation "oV" => (Memref.whole main_v52_scv : Memref sig Kind.scVector Space.hbm S122880x16 EltTy.f32)
local notation "sV" => (Memref.whole cc0_scratch0 : Memref sig Kind.scVector Space.vmem S30x128 EltTy.i32)
local notation "rV" => (Memref.whole cc0_scratch1 : Memref sig Kind.scVector Space.vmem S3840x16 EltTy.f32)

section Rounds

variable (d : Dev nD) (c : Fin τ.nSC) (j : Fin τ.nSub)
variable (tab : Buf (Elt F) (tabLoc d)) (q : PosShare TreeShare)
  (l : Buf (Elt F) ((V d c j).loc cc0_scratch0)) (f g : Buf (Elt F) ((V d c j).loc cc0_scratch1))

/-- Row `r` of the row buffer at contents `f`, entry `r` of the list, piece `r` of the table's share. -/
def row (r : Fin 3840) : sProp 𝕄 :=
  iprop(((V d c j).loc cc0_scratch1 ↦[rowSet r]{fullShare} f) ∗ ((V d c j).loc cc0_scratch0 ↦[{ent r}]{fullShare} l)
    ∗ (tabLoc d ↦{pieceOf q 3840 (by decide) r} tab))

instance row_storable (r : Fin 3840) : Storable (upEmb : UEmb _ 𝕄) (row d c j tab q l f r) := by
  unfold row; infer_instance

/-- One row transfer's amount. -/
abbrev rowAmt : ℕ := ((rowsView rV 0).slice (S128x16.rowRect (gathers_S4096x16_S128x16).axis' (0 : Fin 128)) (S128x16.stride_rowRect _ _)).view.dmaCredit

theorem rowAmt_eq (k : Fin 30) (i : Fin 128) :
    ((rowsView rV k).slice (S128x16.rowRect (gathers_S4096x16_S128x16).axis' i) (S128x16.stride_rowRect _ _)).view.dmaCredit = rowAmt := rfl

theorem rowAmt_pos : 0 < rowAmt := by decide

theorem rowsAmt_eq (k : Fin 30) : (rowsView rV k).view.dmaCredit = 128 * rowAmt := by
  revert k; decide

/-- The list's words in range: what the gathers' streams take. -/
theorem list_inb (hin : ∀ x, (l x).toNat < 4096) (k : Fin 30) :
    ∀ x, ((listView sV k).view.read (Elt F) l x).toNat < S4096x16.size (gathers_S4096x16_S128x16).axis := fun x => by
  rw [show (listView sV k).view.read (Elt F) l x = l ((listView sV k).view.emb x) from (View.read_apply _ _).trans (cast_eq _ _)]
  exact hin _

theorem list_entry (k : Fin 30) (i : Fin 128) : (listView sV k).view.emb (S128.rowMajor.symm (i.cast rfl)) = ent (rowNo k i) :=
  list_emb k i _ (by
    have := Shape.rowMajor_val_one (S128.rowMajor.symm (i.cast rfl))
    rw [Equiv.apply_symm_apply] at this
    exact this.symm)

/-- What gather `k` takes for its row `i`. -/
theorem row_pre (k : Fin 30) (i : Fin 128) :
    (row d c j tab q l f (rowNo k i) : sProp 𝕄) ⊢
      iprop(((rowsView rV k).view.loc (V d c j) ↦[((rowsView rV k).view.slice (S128x16.rowRect (gathers_S4096x16_S128x16).axis' i)).set]{fullShare} f)
      ∗ ((listView sV k).view.loc (V d c j) ↦[{(listView sV k).view.emb (S128.rowMajor.symm (i.cast rfl))}]{fullShare} l)
      ∗ ((tableView tV).view.loc (V d c j) ↦[(tableView tV).view.set]{pieceOf q 3840 (by decide) (rowNo k i)} tab)) := by
  unfold row
  rw [rows_set k i gathers_S4096x16_S128x16, list_entry, table_set]

theorem rows_pre (k : ℕ) (hk : k < 30) :
    (bigSep Finset.univ fun i : Fin 128 => (row d c j tab q l f ⟨128 * k + i.val, by have := i.isLt; omega⟩ : sProp 𝕄)) ⊢
      bigSep Finset.univ fun i : Fin 128 =>
        iprop(((rowsView rV ⟨k, hk⟩).view.loc (V d c j) ↦[((rowsView rV ⟨k, hk⟩).view.slice (S128x16.rowRect (gathers_S4096x16_S128x16).axis' i)).set]{fullShare} f)
      ∗ ((listView sV ⟨k, hk⟩).view.loc (V d c j) ↦[{(listView sV ⟨k, hk⟩).view.emb (S128.rowMajor.symm (i.cast rfl))}]{fullShare} l)
      ∗ ((tableView tV).view.loc (V d c j) ↦[(tableView tV).view.set]{pieceOf q 3840 (by decide) (rowNo ⟨k, hk⟩ i)} tab)) :=
  bigSep_mono fun i _ => row_pre d c j tab q l f ⟨k, hk⟩ i

/-- What gather `k` leaves of its row `i`. -/
theorem row_post (hin : ∀ x, (l x).toNat < 4096) (hg : g = gath tab l) (k : Fin 30) (i : Fin 128) :
    iprop(((rowsView rV k).view.loc (V d c j) ↦[((rowsView rV k).view.slice (S128x16.rowRect (gathers_S4096x16_S128x16).axis' i)).set]{fullShare}
        (((rowsView rV k).view.slice (S128x16.rowRect (gathers_S4096x16_S128x16).axis' i)).write (Elt F) f
          (fun y => (tableView tV).view.read (Elt F) tab ((gathers_S4096x16_S128x16).rowIdx
            (SparseCore.rows ((listView sV k).view.read (Elt F) l) rfl (list_inb d c j l hin k) i) y)) Finset.univ))
      ∗ ((listView sV k).view.loc (V d c j) ↦[{(listView sV k).view.emb (S128.rowMajor.symm (i.cast rfl))}]{fullShare} l)
      ∗ ((tableView tV).view.loc (V d c j) ↦[(tableView tV).view.set]{pieceOf q 3840 (by decide) (rowNo k i)} tab))
      ⊢ (row d c j tab q l g (rowNo k i) : sProp 𝕄) := by
  have he := list_entry k i
  unfold row
  rw [rows_set k i gathers_S4096x16_S128x16, he, table_set]
  refine BI.sep_mono (Entails.of_eq (pointsTo_congr fun x hx => ?_)) (BI.Entails.refl _)
  rw [← rows_set k i gathers_S4096x16_S128x16] at hx
  obtain ⟨y, -, rfl⟩ := Finset.mem_map.mp hx
  subst hg
  rw [View.write_emb_of_mem _ _ (Finset.mem_univ y)]
  simp only [cast_eq]
  rw [show ∀ z, (tableView tV).view.read (Elt F) tab z = tab ((tableView tV).view.emb z) from fun z => (View.read_apply _ _).trans (cast_eq _ _), table_emb]
  unfold gath
  congr 1
  have hy : (y 0).val < 1 := (y 0).isLt
  have hr : ((((rowsView rV k).view.slice (S128x16.rowRect (gathers_S4096x16_S128x16).axis' i)).emb y 0 : Fin 3840).cast numel_mine.symm)
      = (rowNo k i).cast numel_mine.symm := by
    refine Fin.ext ?_
    show 128 * k.val + 1 * (i.val + 1 * (y 0).val) = 128 * k.val + i.val
    omega
  funext a
  match a with
  | 0 =>
    refine Fin.ext ((congrArg Fin.val (Shape.Gathers.rowIdx_axis gathers_S4096x16_S128x16 _ y)).trans ?_)
    show ((listView sV k).view.read (Elt F) l (S128.rowMajor.symm (i.cast rfl))).toNat = (l (S30x128.rowMajor.symm _)).toNat % 4096
    rw [Nat.mod_eq_of_lt (hin _)]
    refine congrArg BitVec.toNat (((View.read_apply _ _).trans (cast_eq _ _)).trans (congrArg l (he.trans ?_)))
    exact (congrArg S30x128.rowMajor.symm hr).symm
  | 1 =>
    refine Fin.ext ((Shape.Gathers.rowIdx_of_ne gathers_S4096x16_S128x16 _ _ 1 (by decide)).trans ?_)
    show (y 1).val = 0 + 1 * (0 + 1 * (y 1).val)
    omega

/-- What a round's batch delivers: the rows from `128 * k0` on, filled. -/
abbrev delivers (k0 : ℕ) (h0 : k0 + 10 ≤ 30) (t : Fin 1280) : sProp 𝕄 :=
  row d c j tab q l g ⟨128 * k0 + t.val, by have := t.isLt; omega⟩

local notation "EC" => (Idealize.ShloMosaic.countersEmb : UEmb Counters 𝕄)

variable {tab q l f g}

/-- The gathers numbered `k0 + i`, …: each gives up its rows to the batch. -/
theorem gathers_wp (hin : ∀ x, (l x).toNat < 4096) (hg : g = gath tab l) {Q : PUnit → sProp 𝕄}
    {K : Prog (TpuEff nD τ sig (Elt F) Λ₀ (.scVector c j)) PUnit} (k0 : ℕ) (h0 : k0 + 10 ≤ 30) :
    ∀ (n i : ℕ) (hi : i + n ≤ 10) (h : k0 + i + n ≤ 30),
    iprop(bigSep (pending (n := 3840) (128 * (k0 + i))) (row d c j tab q l f)
        ∗ Batch EC (V d c j) (.dma cc0_scratch2.sem) (default : HIx 1) rowAmt (delivers d c j tab q l g k0 h0) (128 * i) 0)
      ⊢ iprop((iprop(bigSep (pending (n := 3840) (128 * (k0 + i + n))) (row d c j tab q l f)
            ∗ Batch EC (V d c j) (.dma cc0_scratch2.sem) (default : HIx 1) rowAmt (delivers d c j tab q l g k0 h0) (128 * (i + n)) 0)
          -∗ wp frame (wpE (defs₀ (F := F)) 𝒱₀ (V d c j) none) Set.univ K Q)
        -∗ wp frame (wpE (defs₀ (F := F)) 𝒱₀ (V d c j) none) Set.univ (gathers tV sV rV cc0_scratch2 n (k0 + i) h K) Q)
  | 0, i, hi, h => by
    iintro ⟨HI, HB⟩ Hk
    unfold gathers
    iapply Hk
    isplitl [HI]; · iexact HI
    iexact HB
  | n + 1, i, hi, h => by
    iintro ⟨HI, HB⟩ Hk
    unfold gathers
    ihave H := (Entails.of_eq (pending_add (n := 3840) (128 * (k0 + i)) 128 (by omega) (row d c j tab q l f))) $$ HI
    icases H with ⟨Hnow, HI⟩
    have hk : k0 + i < 30 := by omega
    iapply (wp_gatherRows EC 𝒱₀ (V d c j) none (src := tableView tV) (dst := rowsView rV ⟨k0 + i, hk⟩) (offs := listView sV ⟨k0 + i, hk⟩) (hg := gathers_S4096x16_S128x16) (qo := fullShare) (fs := tab) (fd := f) (fo := l)
      (qs := fun x => pieceOf q 3840 (by decide) (rowNo ⟨k0 + i, hk⟩ x)) (D := delivers d c j tab q l g k0 h0) (k := 128 * i)
      (default : HIx 1) rowAmt (by show 128 * i + 128 ≤ 1280; omega) (fun _ => rfl) (list_inb d c j l hin ⟨k0 + i, hk⟩)
      (fun x => (row_post d c j tab q l f g hin hg ⟨k0 + i, hk⟩ x).trans (Entails.of_eq (congrArg (row d c j tab q l g) (Fin.ext (by
        show 128 * (k0 + i) + x.val = 128 * k0 + (128 * i + x.val); omega)))))) $$ [Hnow HB]
    · isplitl [Hnow]
      · ihave H := (rows_pre d c j tab q l f (k0 + i) hk) $$ Hnow
        iexact H
      · iexact HB
    iintro HB
    have h1 : k0 + (i + 1) + n ≤ 30 := by omega
    iapply (gathers_wp hin hg k0 h0 n (i + 1) (by omega) h1) $$ [HI HB]
    · isplitl [HI]
      · rw [show 128 * (k0 + (i + 1)) = 128 * (k0 + i) + 128 by omega]; iexact HI
      · rw [show 128 * (i + 1) = 128 * i + 128 by omega]; iexact HB
    rw [show k0 + (i + 1) + n = k0 + i + (n + 1) by omega, show i + 1 + n = i + (n + 1) by omega]
    iexact Hk

/-- The waits for them: each consumes 128 rows' amounts. -/
theorem waits_wp {Q : PUnit → sProp 𝕄} {K : Prog (TpuEff nD τ sig (Elt F) Λ₀ (.scVector c j)) PUnit} (k0 : ℕ) (h0 : k0 + 10 ≤ 30)
    {O : CellTallies nD τ sig (HIx 1)} {W₀ : Waits sig (HIx 1)} :
    ∀ (n i : ℕ) (hi : i + n ≤ 10) (h : k0 + i + n ≤ 30) (W : Waits sig (HIx 1)) (hW : ∀ p ∈ W, p ∈ W₀ ∨ p.2 = none),
    iprop(Batch EC (V d c j) (.dma cc0_scratch2.sem) (default : HIx 1) rowAmt (delivers d c j tab q l g k0 h0) 1280 (rowAmt * (128 * i))
        ∗ owes (V d c j) O W ∗ Transfers.MayWaits (V d c j) (default : HIx 1) O)
      ⊢ iprop((∀ W', iprop(⌜∀ p ∈ W', p ∈ W₀ ∨ p.2 = none⌝
            ∗ Batch EC (V d c j) (.dma cc0_scratch2.sem) (default : HIx 1) rowAmt (delivers d c j tab q l g k0 h0) 1280 (rowAmt * (128 * (i + n)))
            ∗ owes (V d c j) O W')
          -∗ wp frame (wpE (defs₀ (F := F)) 𝒱₀ (V d c j) none) Set.univ K Q)
        -∗ wp frame (wpE (defs₀ (F := F)) 𝒱₀ (V d c j) none) Set.univ (waits tV rV cc0_scratch2 n (k0 + i) h K) Q)
  | 0, i, hi, h, W, hW => by
    iintro ⟨HB, HO, -⟩ Hk
    unfold waits
    iapply Hk $$ %W
    isplitr; · ipureintro; exact hW
    isplitl [HB]; · iexact HB
    iexact HO
  | n + 1, i, hi, h, W, hW => by
    iintro ⟨HB, HO, #Hmw⟩ Hk
    unfold waits
    have hk : k0 + i < 30 := by omega
    have hle : rowAmt * (128 * i) + 128 * rowAmt ≤ rowAmt * 1280 := by
      rw [Nat.mul_comm 128 rowAmt, ← Nat.mul_add]; exact Nat.mul_le_mul_left _ (by omega)
    have hst : rowAmt * (128 * (i + 1)) = rowAmt * (128 * i) + 128 * rowAmt := by
      rw [Nat.mul_comm 128 rowAmt, ← Nat.mul_add]; rfl
    ihave Hm := (Transfers.MayWaits.elim (SemLoc.dma cc0_scratch2.sem)) $$ Hmw
    iapply (Transfers.wp_waitBatchMulO EC 𝒱₀ (V d c j) none (default : HIx 1) (N := rowAmt) 128 (rowsAmt_eq ⟨k0 + i, hk⟩)
      hle) $$ [HB HO Hm]
    · isplitl [HB]; · iexact HB
      isplitl [HO]; · iexact HO
      iexact Hm
    iintro ⟨HB, HO⟩
    have h1 : k0 + (i + 1) + n ≤ 30 := by omega
    iapply (waits_wp k0 h0 (W₀ := W₀) n (i + 1) (by omega) h1 (insert (SemLoc.dma cc0_scratch2.sem, (default : HIx 1)) W) (fun p hp => by
      rcases Finset.mem_insert.mp hp with rfl | hp
      · exact Or.inr rfl
      · exact hW p hp)) $$ [HB HO Hmw]
    · isplitl [HB]
      · rw [hst]; iexact HB
      isplitl [HO]; · iexact HO
      iexact Hmw
    rw [show i + 1 + n = i + (n + 1) by omega]
    iexact Hk

/-- One round: the rows from `128 * k0` on are filled, the semaphore is back at zero. -/
theorem round_wp (hin : ∀ x, (l x).toNat < 4096) (hg : g = gath tab l) {Q : PUnit → sProp 𝕄}
    {K : Prog (TpuEff nD τ sig (Elt F) Λ₀ (.scVector c j)) PUnit} (k0 : ℕ) (h0 : k0 + 10 ≤ 30)
    {O : CellTallies nD τ sig (HIx 1)} {W₀ : Waits sig (HIx 1)} (W : Waits sig (HIx 1)) (hW : ∀ p ∈ W, p ∈ W₀ ∨ p.2 = none) :
    iprop(bigSep (pending (n := 3840) (128 * k0)) (row d c j tab q l f) ∗ semVal ((V d c j), .dma cc0_scratch2.sem) 0
        ∗ owes (V d c j) O W ∗ Transfers.MayWaits (V d c j) (default : HIx 1) O)
      ⊢ iprop((∀ W', iprop(⌜∀ p ∈ W', p ∈ W₀ ∨ p.2 = none⌝
            ∗ bigSep (pending (n := 3840) (128 * (k0 + 10))) (row d c j tab q l f)
            ∗ bigSep Finset.univ (delivers d c j tab q l g k0 h0) ∗ semVal ((V d c j), .dma cc0_scratch2.sem) 0
            ∗ owes (V d c j) O W')
          -∗ wp frame (wpE (defs₀ (F := F)) 𝒱₀ (V d c j) none) Set.univ K Q)
        -∗ wp frame (wpE (defs₀ (F := F)) 𝒱₀ (V d c j) none) Set.univ (Tile.round tV sV rV cc0_scratch2 k0 h0 K) Q) := by
  iintro ⟨HI, Hv, HO, #Hmw⟩ Hk
  unfold Tile.round
  imod (Transfers.batch_alloc' EC (V d c j) (default : HIx 1) rowAmt (delivers d c j tab q l g k0 h0) (E := Set.univ)) $$ Hv with HB
  have h1 : k0 + 0 + 10 ≤ 30 := by omega
  iapply (gathers_wp d c j hin hg k0 h0 10 0 (by omega) h1) $$ [HI HB]
  · isplitl [HI]; · iexact HI
    iexact HB
  iintro ⟨HI, HB⟩
  iapply (waits_wp d c j k0 h0 (W₀ := W₀) 10 0 (by omega) h1 W hW) $$ [HB HO Hmw]
  · isplitl [HB]; · iexact HB
    isplitl [HO]; · iexact HO
    iexact Hmw
  iintro %W' ⟨%hW', HB, HO⟩
  imod (Transfers.batch_collect' EC (V d c j) (D := delivers d c j tab q l g k0 h0) rowAmt_pos) $$ HB with ⟨HD, Hv⟩
  iapply Hk $$ %W'
  isplitr; · ipureintro; exact hW'
  isplitl [HI]; · iexact HI
  isplitl [HD]; · iexact HD
  isplitl [Hv]; · iexact Hv
  iexact HO

end Rounds

end Cert.KernelIdeal.Run

end
-- ==== Proof.TileObl.lean ====
/- One vector subcore's task: the list fetched, three rounds of gathers, the rows written back, at any subcore. -/
module

public import proofs.«01_k».proof.Proof.TileRun

@[expose] public section

noncomputable section

namespace Cert.KernelIdeal.Run

open Cert.KernelIdeal Cert.KernelIdeal.Gen Cert.KernelIdeal.Tile Cert.GatherBatch
open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch pending)

variable {F : FTy → Type} [FloatOps F] [Named F]

local notation "𝕄" => MT nD τ sig (HIx 1) (Elt F) ℕ UU ℕ

local notation "tV" => (Memref.whole main_v43_scv : Memref sig Kind.scVector Space.hbm S4096x16 EltTy.f32)
local notation "lV" => (Memref.whole main_v51_scv : Memref sig Kind.scVector Space.hbm S32x30x128 EltTy.i32)
local notation "oV" => (Memref.whole main_v52_scv : Memref sig Kind.scVector Space.hbm S122880x16 EltTy.f32)
local notation "sV" => (Memref.whole cc0_scratch0 : Memref sig Kind.scVector Space.vmem S30x128 EltTy.i32)
local notation "rV" => (Memref.whole cc0_scratch1 : Memref sig Kind.scVector Space.vmem S3840x16 EltTy.f32)

/-- What tile `w` is handed and hands back: its rows of the list, its share of the table, its rows of the result. -/
def tileRes (d : Dev nD) (tab : Buf (Elt F) (tabLoc d)) (lst : Buf (Elt F) (lstLoc d)) (w : Fin 32) (o : Buf (Elt F) (outLoc d)) : sProp 𝕄 :=
  iprop((lstLoc d ↦[lstSet w]{fullShare} lst) ∗ (tabLoc d ↦{tabShare w} tab) ∗ (outLoc d ↦[outSet w]{fullShare} o))

instance tileRes_storable (d : Dev nD) (tab : Buf (Elt F) (tabLoc d)) (lst : Buf (Elt F) (lstLoc d)) (w : Fin 32) (o : Buf (Elt F) (outLoc d)) :
    Storable (upEmb : UEmb _ 𝕄) (tileRes d tab lst w o) := by
  unfold tileRes; infer_instance

section Rows

variable (d : Dev nD) (c : Fin τ.nSC) (j : Fin τ.nSub)
variable (tab : Buf (Elt F) (tabLoc d)) (q : PosShare TreeShare)
  (l : Buf (Elt F) ((V d c j).loc cc0_scratch0)) (f g : Buf (Elt F) ((V d c j).loc cc0_scratch1))

theorem rowSets_cover : (Finset.univ : Finset (Fin 3840)).biUnion rowSet = Finset.univ := by
  ext x
  simp only [Finset.mem_biUnion, Finset.mem_univ, true_and, rowSet, Finset.mem_filter, iff_true]
  exact ⟨x 0, rfl⟩

theorem rowSets_disjoint : ∀ r ∈ (Finset.univ : Finset (Fin 3840)), ∀ r' ∈ (Finset.univ : Finset (Fin 3840)), r ≠ r' →
    Disjoint (rowSet r) (rowSet r') := by
  intro r _ r' _ hne
  rw [Finset.disjoint_left]
  intro x hx hx'
  simp only [rowSet, Finset.mem_filter, Finset.mem_univ, true_and] at hx hx'
  exact hne (Fin.ext (hx.symm.trans hx'))

theorem ents_cover : (Finset.univ : Finset (Fin 3840)).biUnion (fun r => ({ent r} : Finset S30x128.Idx)) = Finset.univ := by
  ext x
  simp only [Finset.mem_biUnion, Finset.mem_univ, true_and, Finset.mem_singleton, iff_true]
  exact ⟨(S30x128.rowMajor x).cast numel_mine, by unfold ent; exact (S30x128.rowMajor.symm_apply_apply x).symm⟩

theorem ents_disjoint : ∀ r ∈ (Finset.univ : Finset (Fin 3840)), ∀ r' ∈ (Finset.univ : Finset (Fin 3840)), r ≠ r' →
    Disjoint ({ent r} : Finset S30x128.Idx) {ent r'} := by
  intro r _ r' _ hne
  rw [Finset.disjoint_singleton]
  intro he
  exact hne (Fin.ext (congrArg Fin.val (S30x128.rowMajor.symm.injective he) : _))

/-- The row buffer, the list and the table's share are their rows, entries and pieces. -/
theorem rows_split :
    (iprop(((V d c j).loc cc0_scratch1 ↦{fullShare} f) ∗ ((V d c j).loc cc0_scratch0 ↦{fullShare} l) ∗ (tabLoc d ↦{q} tab)) : sProp 𝕄)
      = bigSep Finset.univ (row d c j tab q l f) := by
  have e1 : ((V d c j).loc cc0_scratch1 ↦{fullShare} f : sProp 𝕄)
      = bigSep Finset.univ fun r : Fin 3840 => ((V d c j).loc cc0_scratch1 ↦[rowSet r]{fullShare} f) :=
    (congrArg (fun I : Finset S3840x16.Idx => ((V d c j).loc cc0_scratch1 ↦[I]{fullShare} f : sProp 𝕄)) rowSets_cover.symm).trans
      (pointsTo_biUnion _ _ rowSets_disjoint)
  have e2 : ((V d c j).loc cc0_scratch0 ↦{fullShare} l : sProp 𝕄)
      = bigSep Finset.univ fun r : Fin 3840 => ((V d c j).loc cc0_scratch0 ↦[{ent r}]{fullShare} l) :=
    (congrArg (fun I : Finset S30x128.Idx => ((V d c j).loc cc0_scratch0 ↦[I]{fullShare} l : sProp 𝕄)) ents_cover.symm).trans
      (pointsTo_biUnion _ _ ents_disjoint)
  rw [e1, e2, pointsTo_piecesOf Finset.univ tab (show 0 < 3840 by decide) q, ← bigSep_sep', ← bigSep_sep']
  rfl

/-- The three rounds' deliveries are all the rows. -/
theorem delivered :
    (iprop(bigSep Finset.univ (delivers d c j tab q l g 0 (by omega)) ∗ bigSep Finset.univ (delivers d c j tab q l g 10 (by omega))
      ∗ bigSep Finset.univ (delivers d c j tab q l g 20 (by omega))) : sProp 𝕄) ⊢ bigSep Finset.univ (row d c j tab q l g) := by
  have hd : ∀ (k0 : ℕ) (h0 : k0 + 10 ≤ 30) (o : ℕ) (ho : o + 1280 ≤ 3840) (_ : o = 128 * k0),
      (bigSep Finset.univ (delivers d c j tab q l g k0 h0) : sProp 𝕄)
        = bigSep Finset.univ fun t : Fin 1280 => row d c j tab q l g ⟨o + t.val, by have := t.isLt; omega⟩ := by
    intro k0 h0 o ho e; subst e; rfl
  have he : (pending (0 + 1280 + 1280 + 1280) : Finset (Fin 3840)) = ∅ :=
    Finset.filter_eq_empty_iff.mpr fun t _ => by have := t.isLt; omega
  rw [Transfers.bigSep_pending_zero (row d c j tab q l g), pending_add (n := 3840) 0 1280 (by omega) (row d c j tab q l g), pending_add (n := 3840) (0 + 1280) 1280 (by omega) (row d c j tab q l g),
    pending_add (n := 3840) (0 + 1280 + 1280) 1280 (by omega) (row d c j tab q l g), he, bigSep_empty,
    hd 0 (by omega) 0 (by omega) (by omega), hd 10 (by omega) (0 + 1280) (by omega) (by omega), hd 20 (by omega) (0 + 1280 + 1280) (by omega) (by omega)]
  iintro ⟨H0, H1, H2⟩
  isplitl [H0]; · iexact H0
  isplitl [H1]; · iexact H1
  isplitl [H2]; · iexact H2
  iempintro

local notation "EC" => (Idealize.ShloMosaic.countersEmb : UEmb Counters 𝕄)

variable {tab q l f}

/-- The three rounds: the row buffer ends at the gathered rows. -/
theorem rounds_wp (hin : ∀ x, (l x).toNat < 4096) {Q : PUnit → sProp 𝕄}
    {K : Prog (TpuEff nD τ sig (Elt F) Λ₀ (.scVector c j)) PUnit} {O : CellTallies nD τ sig (HIx 1)} {W₀ : Waits sig (HIx 1)}
    (W : Waits sig (HIx 1)) (hW : ∀ p ∈ W, p ∈ W₀ ∨ p.2 = none) (h0 h1 h2) :
    iprop((((V d c j).loc cc0_scratch1 ↦{fullShare} f) ∗ ((V d c j).loc cc0_scratch0 ↦{fullShare} l) ∗ (tabLoc d ↦{q} tab))
        ∗ semVal ((V d c j), .dma cc0_scratch2.sem) 0 ∗ owes (V d c j) O W ∗ Transfers.MayWaits (V d c j) (default : HIx 1) O)
      ⊢ iprop((∀ W', iprop(⌜∀ p ∈ W', p ∈ W₀ ∨ p.2 = none⌝
            ∗ (((V d c j).loc cc0_scratch1 ↦{fullShare} (gath tab l : Buf (Elt F) ((V d c j).loc cc0_scratch1))) ∗ ((V d c j).loc cc0_scratch0 ↦{fullShare} l) ∗ (tabLoc d ↦{q} tab))
            ∗ semVal ((V d c j), .dma cc0_scratch2.sem) 0 ∗ owes (V d c j) O W')
          -∗ wp frame (wpE (defs₀ (F := F)) 𝒱₀ (V d c j) none) Set.univ K Q)
        -∗ wp frame (wpE (defs₀ (F := F)) 𝒱₀ (V d c j) none) Set.univ
          (Tile.round tV sV rV cc0_scratch2 0 h0 (Tile.round tV sV rV cc0_scratch2 10 h1 (Tile.round tV sV rV cc0_scratch2 20 h2 K))) Q) := by
  rw [rows_split, rows_split, Transfers.bigSep_pending_zero]
  iintro ⟨HI, Hv, HO, #Hmw⟩ Hk
  iapply (round_wp d c j hin rfl 0 h0 (W₀ := W₀) W hW) $$ [HI Hv HO]
  · isplitl [HI]; · iexact HI
    isplitl [Hv]; · iexact Hv
    isplitl [HO]; · iexact HO
    iexact Hmw
  iintro %W1 ⟨%hW1, HI, H0, Hv, HO⟩
  iapply (round_wp d c j hin rfl 10 h1 (W₀ := W₀) W1 hW1) $$ [HI Hv HO]
  · isplitl [HI]; · iexact HI
    isplitl [Hv]; · iexact Hv
    isplitl [HO]; · iexact HO
    iexact Hmw
  iintro %W2 ⟨%hW2, HI, H1, Hv, HO⟩
  iapply (round_wp d c j hin rfl 20 h2 (W₀ := W₀) W2 hW2) $$ [HI Hv HO]
  · isplitl [HI]; · iexact HI
    isplitl [Hv]; · iexact Hv
    isplitl [HO]; · iexact HO
    iexact Hmw
  iintro %W3 ⟨%hW3, -, H2, Hv, HO⟩
  iapply Hk $$ %W3
  isplitr; · ipureintro; exact hW3
  isplitl [H0 H1 H2]
  · iapply (delivered d c j tab q l _)
    isplitl [H0]; · iexact H0
    isplitl [H1]; · iexact H1
    iexact H2
  isplitl [Hv]; · iexact Hv
  iexact HO

end Rows

section Tile

variable (d : Dev nD) (L : grid0.Coords)

abbrev cV (L : grid0.Coords) : Fin τ.nSC := (L 0).castLE hcore0
abbrev jV (L : grid0.Coords) : Fin τ.nSub := (L 1).castLE hsub0

theorem pts_myList (f : Buf (Elt F) (lstLoc d)) :
    ((myList L lV).view.loc (V d (cV L) (jV L)) ↦[(myList L lV).view.set]{fullShare} f : sProp 𝕄) = lstLoc d ↦[lstSet (wid L)]{fullShare} f := by
  rw [myList_set]
theorem pts_myRows (f : Buf (Elt F) (outLoc d)) :
    ((myRows L oV).view.loc (V d (cV L) (jV L)) ↦[(myRows L oV).view.set]{fullShare} f : sProp 𝕄) = outLoc d ↦[outSet (wid L)]{fullShare} f := by
  rw [myRows_set]

abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scratch2.sem)
abbrev cCcell (d : Dev nD) (c : Fin τ.nSC) (i : Fin τ.nSub) : GSem nD τ sig := (V d c i, .dma cc0_scoped1.sem)

omit [FloatOps F] [Named F] in
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scratch2.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped1.sem : SemLoc sig).isScoped .scVector = true; decide⟩⟩⟩)]

omit [FloatOps F] [Named F] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

variable (tab : Buf (Elt F) (tabLoc d)) (lst : Buf (Elt F) (lstLoc d)) (o0 : Buf (Elt F) (outLoc d))

/-- The tile's list once fetched. -/
def fetched : Buf (Elt F) ((V d (cV L) (jV L)).loc cc0_scratch0) := fun y => lst ((myList L lV).view.emb y)

/-- The rows the tile gathered are its rows of the call's result. -/
theorem gath_eq_gout (y : S3840x16.Idx) : gath tab (fetched d L lst) y = gout tab lst ((myRows L oV).view.emb y) := by
  obtain ⟨e0, e1⟩ := myRows_emb L y
  have hl := myList_emb L (y 0)
  unfold gath gout fetched
  unfold ent at hl
  rw [hl]
  generalize hq : ((myRows L oV).view.emb y : S122880x16.Idx) = w at e0 e1 ⊢
  have h0 : (⟨3840 * (wid L).val + (y 0).val, by have := (wid L).isLt; have : (y 0).val < 3840 := (y 0).isLt; omega⟩ : Fin 122880) = w 0 :=
    Fin.ext e0.symm
  have h1 : y 1 = w 1 := Fin.ext e1.symm
  rw [← h0, ← h1]

set_option maxHeartbeats 4000000 in
theorem tile_body (hF : (K (F := F)).Facts) (hin : ∀ x, (lst x).toNat < 4096) (O : CellTallies nD τ sig (HIx 1)) (W : Waits sig (HIx 1))
    (hO : ∀ g, O g none = 0) :
    iprop(levAts (K (F := F)).L (K (F := F)).lev ∗ emp
        ∗ tileRes d tab lst (wid L) o0
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_k L tV (Memref.isWhole_whole _) lV (Memref.isWhole_whole _) oV (Memref.isWhole_whole _)
            sV (Memref.isWhole_whole _) rV (Memref.isWhole_whole _) cc0_scratch2 cc0_scoped0 cc0_scoped1)
          fun _ => iprop(tileRes d tab lst (wid L) (gout tab lst)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [body_eq]; unfold Tile.body tileRes
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_myList (F := F) d L _).symm) $$ Hi
  ihave Ho' := (Entails.of_eq (pts_myRows (F := F) d L _).symm) $$ Ho
  ihave Hs' := (Entails.of_eq (show ((V d (cV L) (jV L)).loc cc0_scratch0 ↦{fullShare} fs : sProp 𝕄) = (sV).view.loc (V d (cV L) (jV L)) ↦{fullShare} fs from rfl)) $$ Hs
  generalize hR : Tile.round tV sV rV cc0_scratch2 0 _ _ = R
  sl_exec
  have hs : View.write (Elt F) (sV).view fs (tile_body.sl.dma0 d L lst) Finset.univ = fetched d L lst := by
    rw [View.write_whole_univ]
    funext y
    exact (View.read_apply _ _).trans (cast_eq _ _)
  rw [hs]
  rw [← hR]
  iapply (rounds_wp d (cV L) (jV L) (l := fetched d L lst) (fun x => hin _) (W₀ := W) (insert (SemLoc.dma cc0_scoped0.sem, (default : HIx 1)) W) (fun p hp => by
      rcases Finset.mem_insert.mp hp with rfl | hp
      · exact Or.inr rfl
      · exact Or.inl hp)) $$ [Hr Hs' Hx HsemB HO]
  · isplitl [Hr Hs' Hx]
    · isplitl [Hr]; · iexact Hr
      isplitl [Hs']; · iexact Hs'
      iexact Hx
    isplitl [HsemB]; · iexact HsemB
    isplitl [HO]; · iexact HO
    iexact Hmw
  iintro %W' ⟨%hW', ⟨Hr, Hs, Hx⟩, HsemB, HO⟩
  ihave Hr' := (Entails.of_eq (show ((V d (cV L) (jV L)).loc cc0_scratch1 ↦{fullShare} (gath tab (fetched d L lst) : Buf (Elt F) ((V d (cV L) (jV L)).loc cc0_scratch1)) : sProp 𝕄) = (rV).view.loc (V d (cV L) (jV L)) ↦{fullShare} (gath tab (fetched d L lst) : Buf (Elt F) ((V d (cV L) (jV L)).loc cc0_scratch1)) from rfl)) $$ Hr
  sl_exec
  have hw : ∀ i ∈ (myRows L oV).view.set, (myRows L oV).view.writes (Elt F) o0 [⟨Rect.whole S3840x16, tile_body.sl.dma0_1 d L tab lst⟩] i
      = gout tab lst i := by
    intro i hi
    obtain ⟨y, -, rfl⟩ := Finset.mem_map.mp hi
    have h := congrFun (View.read_writes_whole (Val := Elt F) (myRows L oV).view o0 (tile_body.sl.dma0_1 d L tab lst)) y
    rw [View.read_apply, cast_eq] at h
    rw [h, ← gath_eq_gout]
    exact (View.read_apply _ _).trans (cast_eq _ _)
  ihave Ho := (Entails.of_eq ((pointsTo_congr hw).trans (pts_myRows (F := F) d L (gout tab lst)))) $$ Ho'
  sl_step
  isplitl [Hi' Hx Ho]
  · isplitl [Hi']; · iapply (Entails.of_eq (pts_myList (F := F) d L _)); iexact Hi'
    isplitl [Hx]; · iexact Hx
    iexact Ho
  isplitl [Hs Hr' Hbufs]
  · isplitl [Hs]; · iexists _; iexact Hs
    isplitl [Hr']; · iexists _; iexact Hr'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  exact hW' p hp

end Tile

end Cert.KernelIdeal.Run

end
-- ==== Proof.Calls.lean ====
/- The SparseCore call: what it hands to each subcore and takes back, each subcore's task against that, and the table, the
   offsets and the result cut into the thirty-two tiles' parts and put together again. -/
module

public import proofs.«01_k».proof.Proof.TileObl

@[expose] public section

noncomputable section

namespace Cert.KernelIdeal.Run

open Cert.KernelIdeal Cert.KernelIdeal.Gen Cert.KernelIdeal.Tile Cert.GatherBatch
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

variable (tab : (d : Dev nD) → Buf (Elt F) (tabLoc d)) (lst : (d : Dev nD) → Buf (Elt F) (lstLoc d))
  (o0 : (d : Dev nD) → Buf (Elt F) (outLoc d))

/-- The tile on SparseCore `c`, subcore `i`. -/
def wid2 (c : Fin 2) (i : Fin 16) : Fin 32 := ⟨2 * i.val + c.val, by omega⟩

/-- The tiles numbered by their core and their subcore. -/
def widEquiv : Fin 2 × Fin 16 ≃ Fin 32 where
  toFun p := wid2 p.1 p.2
  invFun w := (⟨w.val % 2, by omega⟩, ⟨w.val / 2, by omega⟩)
  left_inv := by
    rintro ⟨c, i⟩
    refine Prod.ext (Fin.ext ?_) (Fin.ext ?_) <;> simp only [wid2] <;> omega
  right_inv := by
    intro w
    refine Fin.ext ?_
    simp only [wid2]; omega

/-- The one call hands each subcore its tile's part, the result at what it held, and takes the part back with the rows gathered. -/
def P : (K (F := F)).Pay (nD := nD) (Val := Elt F) (Name := ℕ) (U := UU) where
  st := fun q d c => match q with
    | 0 => bigSep Finset.univ fun i : Fin 16 => tileRes d (tab d) (lst d) (wid2 (Fin.cast nCore_zero c) i) (o0 d)
  dn := fun q d c => match q with
    | 0 => bigSep Finset.univ fun i : Fin 16 => tileRes d (tab d) (lst d) (wid2 (Fin.cast nCore_zero c) i) (gout (tab d) (lst d))
  go := fun q d c i => match q with
    | 0 => tileRes d (tab d) (lst d) (wid2 (Fin.cast nCore_zero c) (Fin.cast nSub_zero i)) (o0 d)
  td := fun q d c i => match q with
    | 0 => tileRes d (tab d) (lst d) (wid2 (Fin.cast nCore_zero c) (Fin.cast nSub_zero i)) (gout (tab d) (lst d))
  x := fun _ _ => iprop(emp)

instance P_storable : (P tab lst o0).IsStorable where
  st q d c := match q with
    | 0 => (inferInstance : BI.Storable (upEmb : UEmb _ 𝕄)
      (bigSep Finset.univ fun i : Fin 16 => tileRes d (tab d) (lst d) (wid2 (Fin.cast nCore_zero c) i) (o0 d)))
  dn q d c := match q with
    | 0 => (inferInstance : BI.Storable (upEmb : UEmb _ 𝕄)
      (bigSep Finset.univ fun i : Fin 16 => tileRes d (tab d) (lst d) (wid2 (Fin.cast nCore_zero c) i) (gout (tab d) (lst d))))
  go q d c i := match q with
    | 0 => (inferInstance : BI.Storable (upEmb : UEmb _ 𝕄)
      (tileRes d (tab d) (lst d) (wid2 (Fin.cast nCore_zero c) (Fin.cast nSub_zero i)) (o0 d)))
  td q d c i := match q with
    | 0 => (inferInstance : BI.Storable (upEmb : UEmb _ 𝕄)
      (tileRes d (tab d) (lst d) (wid2 (Fin.cast nCore_zero c) (Fin.cast nSub_zero i)) (gout (tab d) (lst d))))

/-! ## Each subcore's task -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_k (coordsV c s)
          (Memref.whole main_v43_scv) (Memref.isWhole_whole _) (Memref.whole main_v51_scv) (Memref.isWhole_whole _)
          (Memref.whole main_v52_scv) (Memref.isWhole_whole _) (Memref.whole cc0_scratch0) (Memref.isWhole_whole _)
          (Memref.whole cc0_scratch1) (Memref.isWhole_whole _) cc0_scratch2 cc0_scoped0 cc0_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hin : ∀ d x, (lst d x).toNat < 4096) :
    (K (F := F)).TileObl (D (F := F)) 𝒱 (P tab lst o0) v₀ 0 := by
  intro d c i O W hO _ _
  simp only [show (P tab lst o0).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (tab d) (lst d) (o0 d) hF (hin d) O W hO).trans (wp_mono frame _ _ fun _ => obl_post)

/-! ## Splitting and joining -/

theorem bigSep_subs (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

theorem vecSplit : (K (F := F)).VecSplit' (P tab lst o0) 0 := by
  intro d c
  show (bigSep Finset.univ fun i : Fin 16 => tileRes d (tab d) (lst d) (wid2 (Fin.cast nCore_zero c) i) (o0 d)) ⊢ |={Set.univ}=> iprop(
      (bigSep Finset.univ fun i : Fin ((K (F := F)).nSub 0) =>
        tileRes d (tab d) (lst d) (wid2 (Fin.cast nCore_zero c) (Fin.cast nSub_zero i)) (o0 d))
      ∗ ((bigSep Finset.univ fun i : Fin ((K (F := F)).nSub 0) =>
          tileRes d (tab d) (lst d) (wid2 (Fin.cast nCore_zero c) (Fin.cast nSub_zero i)) (gout (tab d) (lst d)))
          -∗ bigSep Finset.univ fun i : Fin 16 => tileRes d (tab d) (lst d) (wid2 (Fin.cast nCore_zero c) i) (gout (tab d) (lst d))))
  rw [bigSep_subs (F := F) (fun i => tileRes d (tab d) (lst d) (wid2 (Fin.cast nCore_zero c) i) (o0 d)),
    bigSep_subs (F := F) (fun i => tileRes d (tab d) (lst d) (wid2 (Fin.cast nCore_zero c) i) (gout (tab d) (lst d)))]
  iintro H; imodintro
  isplitl [H]; · iexact H
  iintro H; iexact H

theorem lstSets_cover : (Finset.univ : Finset (Fin 32)).biUnion lstSet = Finset.univ := by
  ext x
  simp only [Finset.mem_biUnion, Finset.mem_univ, true_and, lstSet, Finset.mem_filter, iff_true]
  exact ⟨x 0, rfl⟩

theorem lstSets_disjoint : ∀ w ∈ (Finset.univ : Finset (Fin 32)), ∀ w' ∈ (Finset.univ : Finset (Fin 32)), w ≠ w' →
    Disjoint (lstSet w) (lstSet w') := by
  intro w _ w' _ hne
  rw [Finset.disjoint_left]
  intro x hx hx'
  simp only [lstSet, Finset.mem_filter, Finset.mem_univ, true_and] at hx hx'
  exact hne (Fin.ext (hx.symm.trans hx'))

theorem outSets_cover : (Finset.univ : Finset (Fin 32)).biUnion outSet = Finset.univ := by
  ext x
  simp only [Finset.mem_biUnion, Finset.mem_univ, true_and, outSet, Finset.mem_filter, iff_true]
  have h : (x 0).val < 122880 := (x 0).isLt
  exact ⟨⟨(x 0).val / 3840, by omega⟩, rfl⟩

theorem outSets_disjoint : ∀ w ∈ (Finset.univ : Finset (Fin 32)), ∀ w' ∈ (Finset.univ : Finset (Fin 32)), w ≠ w' →
    Disjoint (outSet w) (outSet w') := by
  intro w _ w' _ hne
  rw [Finset.disjoint_left]
  intro x hx hx'
  simp only [outSet, Finset.mem_filter, Finset.mem_univ, true_and] at hx hx'
  exact hne (Fin.ext (hx.symm.trans hx'))

/-- The three buffers, whole, are the thirty-two tiles' parts. -/
theorem tiles_split (d : Dev nD) (t : Buf (Elt F) (tabLoc d)) (l : Buf (Elt F) (lstLoc d)) (o : Buf (Elt F) (outLoc d)) :
    (iprop((lstLoc d ↦{fullShare} l) ∗ (tabLoc d ↦{fullShare} t) ∗ (outLoc d ↦{fullShare} o)) : sProp 𝕄)
      = bigSep Finset.univ fun c : Fin ((K (F := F)).nCore 0) => bigSep Finset.univ fun i : Fin 16 =>
          tileRes d t l (wid2 (Fin.cast nCore_zero c) i) o := by
  have e1 : (lstLoc d ↦{fullShare} l : sProp 𝕄) = bigSep Finset.univ fun w : Fin 32 => (lstLoc d ↦[lstSet w]{fullShare} l) :=
    (congrArg (fun I : Finset S32x30x128.Idx => (lstLoc d ↦[I]{fullShare} l : sProp 𝕄)) lstSets_cover.symm).trans
      (pointsTo_biUnion _ _ lstSets_disjoint)
  have e2 : (outLoc d ↦{fullShare} o : sProp 𝕄) = bigSep Finset.univ fun w : Fin 32 => (outLoc d ↦[outSet w]{fullShare} o) :=
    (congrArg (fun I : Finset S122880x16.Idx => (outLoc d ↦[I]{fullShare} o : sProp 𝕄)) outSets_cover.symm).trans
      (pointsTo_biUnion _ _ outSets_disjoint)
  rw [e1, e2, pointsTo_piecesOf Finset.univ t (show 0 < 32 by decide) fullShare, ← bigSep_sep', ← bigSep_sep',
    bigSep_cores (F := F) (fun c => bigSep Finset.univ fun i : Fin 16 => tileRes d t l (wid2 c i) o)]
  have e3 := bigSep_univ_equiv widEquiv (fun w : Fin 32 => tileRes (F := F) d t l w o)
  rw [bigSep_univ_prod] at e3
  exact e3

theorem st_eq (d : Dev nD) : (bigSep Finset.univ fun c : Fin ((K (F := F)).nCore 0) => (P tab lst o0).st 0 d c)
    = iprop((lstLoc d ↦{fullShare} lst d) ∗ (tabLoc d ↦{fullShare} tab d) ∗ (outLoc d ↦{fullShare} o0 d)) :=
  (tiles_split d (tab d) (lst d) (o0 d)).symm

theorem dn_eq (d : Dev nD) : (bigSep Finset.univ fun c : Fin ((K (F := F)).nCore 0) => (P tab lst o0).dn 0 d c)
    = iprop((lstLoc d ↦{fullShare} lst d) ∗ (tabLoc d ↦{fullShare} tab d) ∗ (outLoc d ↦{fullShare} gout (tab d) (lst d))) :=
  (tiles_split d (tab d) (lst d) (gout (tab d) (lst d))).symm

end Cert.KernelIdeal.Run

end
-- ==== Proof.HostOps.lean ====
/- The host operations of the program, as lists between its two kernels: before the gather, between the gather and the dense
   kernel, and after it. -/
module

public import proofs.«01_k».proof.Proof.Gen.KernelIdeal
public import Idealize.ShloMosaic.Lib.StableHlo.Run
public import Idealize.ShloMosaic.Lib.Pipeline.Frame

@[expose] public section

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F] [Named F]

/-- The operations that make the five tables, the four atoms of each residue, and the two bond vectors. -/
abbrev opsChain : List (HloOp τ sig (Elt F)) :=
  [ nullary main_cst (fun i => FloatOps.ofBits .bf16 (lit0 (S16x75.rowMajor i))),
    nullary main_cst_0 (fun i => FloatOps.ofBits .bf16 (lit1 (S16x75.rowMajor i))),
    nullary main_cst_1 (fun i => FloatOps.ofBits .bf16 (lit2 (S75x25.rowMajor i))),
    nullary main_cst_2 (fun i => FloatOps.ofBits .bf16 (lit3 (S25x400.rowMajor i))),
    nullary main_cst_3 (fun i => FloatOps.ofBits .f32 (lit4 (S1x400.rowMajor i))),
    unary main_arg0 main_v0 ((extractStridedSlice S4x1024x1x3 ![0, 0, 0, 0] · slices_S4x1024x4x3_S4x1024x1x3_0_0_0_0) : (⟨S4x1024x4x3, .f32⟩ : BufTy).Contents (Elt F) → (⟨S4x1024x1x3, .f32⟩ : BufTy).Contents (Elt F)),
    reshape main_v0 main_v1 (rfl : (.f32 : EltTy) = .f32) shapeCasts_S4x1024x1x3_S4x1024x3,
    unary main_arg0 main_v2 ((extractStridedSlice S4x1024x1x3 ![0, 0, 1, 0] · slices_S4x1024x4x3_S4x1024x1x3_0_0_1_0) : (⟨S4x1024x4x3, .f32⟩ : BufTy).Contents (Elt F) → (⟨S4x1024x1x3, .f32⟩ : BufTy).Contents (Elt F)),
    reshape main_v2 main_v3 (rfl : (.f32 : EltTy) = .f32) shapeCasts_S4x1024x1x3_S4x1024x3,
    unary main_arg0 main_v4 ((extractStridedSlice S4x1024x1x3 ![0, 0, 2, 0] · slices_S4x1024x4x3_S4x1024x1x3_0_0_2_0) : (⟨S4x1024x4x3, .f32⟩ : BufTy).Contents (Elt F) → (⟨S4x1024x1x3, .f32⟩ : BufTy).Contents (Elt F)),
    reshape main_v4 main_v5 (rfl : (.f32 : EltTy) = .f32) shapeCasts_S4x1024x1x3_S4x1024x3,
    unary main_arg0 main_v6 ((extractStridedSlice S4x1024x1x3 ![0, 0, 3, 0] · slices_S4x1024x4x3_S4x1024x1x3_0_0_3_0) : (⟨S4x1024x4x3, .f32⟩ : BufTy).Contents (Elt F) → (⟨S4x1024x1x3, .f32⟩ : BufTy).Contents (Elt F)),
    reshape main_v6 main_v7 (rfl : (.f32 : EltTy) = .f32) shapeCasts_S4x1024x1x3_S4x1024x3,
    binary main_v3 main_v1 main_v8 (subf : (⟨S4x1024x3, .f32⟩ : BufTy).Contents (Elt F) → (⟨S4x1024x3, .f32⟩ : BufTy).Contents (Elt F) → (⟨S4x1024x3, .f32⟩ : BufTy).Contents (Elt F)),
    binary main_v5 main_v3 main_v9 (subf : (⟨S4x1024x3, .f32⟩ : BufTy).Contents (Elt F) → (⟨S4x1024x3, .f32⟩ : BufTy).Contents (Elt F) → (⟨S4x1024x3, .f32⟩ : BufTy).Contents (Elt F)) ]

/-- The operations that make the cross product. -/
abbrev opsCross : List (HloOp τ sig (Elt F)) :=
  [ TRef.unary (TRef.of (T := ⟨S4x1024x3, .f32⟩) main_v8) (TRef.of (T := ⟨S4x1024x1, .f32⟩) main_call0_v0) (extractStridedSlice S4x1024x1 ![0, 0, 0] · slices_S4x1024x3_S4x1024x1_0_0_0),
    TRef.reshape (TRef.of (T := ⟨S4x1024x1, .f32⟩) main_call0_v0) (TRef.of (T := ⟨S4x1024, .f32⟩) main_call0_v1) (rfl : (.f32 : EltTy) = .f32) shapeCasts_S4x1024x1_S4x1024,
    TRef.unary (TRef.of (T := ⟨S4x1024x3, .f32⟩) main_v8) (TRef.of (T := ⟨S4x1024x1, .f32⟩) main_call0_v2) (extractStridedSlice S4x1024x1 ![0, 0, 1] · slices_S4x1024x3_S4x1024x1_0_0_1),
    TRef.reshape (TRef.of (T := ⟨S4x1024x1, .f32⟩) main_call0_v2) (TRef.of (T := ⟨S4x1024, .f32⟩) main_call0_v3) (rfl : (.f32 : EltTy) = .f32) shapeCasts_S4x1024x1_S4x1024,
    TRef.unary (TRef.of (T := ⟨S4x1024x3, .f32⟩) main_v8) (TRef.of (T := ⟨S4x1024x1, .f32⟩) main_call0_v4) (extractStridedSlice S4x1024x1 ![0, 0, 2] · slices_S4x1024x3_S4x1024x1_0_0_2),
    TRef.reshape (TRef.of (T := ⟨S4x1024x1, .f32⟩) main_call0_v4) (TRef.of (T := ⟨S4x1024, .f32⟩) main_call0_v5) (rfl : (.f32 : EltTy) = .f32) shapeCasts_S4x1024x1_S4x1024,
    TRef.unary (TRef.of (T := ⟨S4x1024x3, .f32⟩) main_v9) (TRef.of (T := ⟨S4x1024x1, .f32⟩) main_call0_v6) (extractStridedSlice S4x1024x1 ![0, 0, 0] · slices_S4x1024x3_S4x1024x1_0_0_0),
    TRef.reshape (TRef.of (T := ⟨S4x1024x1, .f32⟩) main_call0_v6) (TRef.of (T := ⟨S4x1024, .f32⟩) main_call0_v7) (rfl : (.f32 : EltTy) = .f32) shapeCasts_S4x1024x1_S4x1024,
    TRef.unary (TRef.of (T := ⟨S4x1024x3, .f32⟩) main_v9) (TRef.of (T := ⟨S4x1024x1, .f32⟩) main_call0_v8) (extractStridedSlice S4x1024x1 ![0, 0, 1] · slices_S4x1024x3_S4x1024x1_0_0_1),
    TRef.reshape (TRef.of (T := ⟨S4x1024x1, .f32⟩) main_call0_v8) (TRef.of (T := ⟨S4x1024, .f32⟩) main_call0_v9) (rfl : (.f32 : EltTy) = .f32) shapeCasts_S4x1024x1_S4x1024,
    TRef.unary (TRef.of (T := ⟨S4x1024x3, .f32⟩) main_v9) (TRef.of (T := ⟨S4x1024x1, .f32⟩) main_call0_v10) (extractStridedSlice S4x1024x1 ![0, 0, 2] · slices_S4x1024x3_S4x1024x1_0_0_2),
    TRef.reshape (TRef.of (T := ⟨S4x1024x1, .f32⟩) main_call0_v10) (TRef.of (T := ⟨S4x1024, .f32⟩) main_call0_v11) (rfl : (.f32 : EltTy) = .f32) shapeCasts_S4x1024x1_S4x1024,
    TRef.binary (TRef.of (T := ⟨S4x1024, .f32⟩) main_call0_v3) (TRef.of (T := ⟨S4x1024, .f32⟩) main_call0_v11) (TRef.of (T := ⟨S4x1024, .f32⟩) main_call0_v12) mulf,
    TRef.binary (TRef.of (T := ⟨S4x1024, .f32⟩) main_call0_v5) (TRef.of (T := ⟨S4x1024, .f32⟩) main_call0_v9) (TRef.of (T := ⟨S4x1024, .f32⟩) main_call0_v13) mulf,
    TRef.binary (TRef.of (T := ⟨S4x1024, .f32⟩) main_call0_v12) (TRef.of (T := ⟨S4x1024, .f32⟩) main_call0_v13) (TRef.of (T := ⟨S4x1024, .f32⟩) main_call0_v14) subf,
    TRef.binary (TRef.of (T := ⟨S4x1024, .f32⟩) main_call0_v5) (TRef.of (T := ⟨S4x1024, .f32⟩) main_call0_v7) (TRef.of (T := ⟨S4x1024, .f32⟩) main_call0_v15) mulf,
    TRef.binary (TRef.of (T := ⟨S4x1024, .f32⟩) main_call0_v1) (TRef.of (T := ⟨S4x1024, .f32⟩) main_call0_v11) (TRef.of (T := ⟨S4x1024, .f32⟩) main_call0_v16) mulf,
    TRef.binary (TRef.of (T := ⟨S4x1024, .f32⟩) main_call0_v15) (TRef.of (T := ⟨S4x1024, .f32⟩) main_call0_v16) (TRef.of (T := ⟨S4x1024, .f32⟩) main_call0_v17) subf,
    TRef.binary (TRef.of (T := ⟨S4x1024, .f32⟩) main_call0_v1) (TRef.of (T := ⟨S4x1024, .f32⟩) main_call0_v9) (TRef.of (T := ⟨S4x1024, .f32⟩) main_call0_v18) mulf,
    TRef.binary (TRef.of (T := ⟨S4x1024, .f32⟩) main_call0_v3) (TRef.of (T := ⟨S4x1024, .f32⟩) main_call0_v7) (TRef.of (T := ⟨S4x1024, .f32⟩) main_call0_v19) mulf,
    TRef.binary (TRef.of (T := ⟨S4x1024, .f32⟩) main_call0_v18) (TRef.of (T := ⟨S4x1024, .f32⟩) main_call0_v19) (TRef.of (T := ⟨S4x1024, .f32⟩) main_call0_v20) subf,
    TRef.unary (TRef.of (T := ⟨S4x1024, .f32⟩) main_call0_v14) (TRef.of (T := ⟨S1x4x1024, .f32⟩) main_call0_v21) (broadcastInDim S1x4x1024 ![1, 2] bcast_S4x1024_S1x4x1024_1_2),
    TRef.unary (TRef.of (T := ⟨S4x1024, .f32⟩) main_call0_v17) (TRef.of (T := ⟨S1x4x1024, .f32⟩) main_call0_v22) (broadcastInDim S1x4x1024 ![1, 2] bcast_S4x1024_S1x4x1024_1_2),
    TRef.unary (TRef.of (T := ⟨S4x1024, .f32⟩) main_call0_v20) (TRef.of (T := ⟨S1x4x1024, .f32⟩) main_call0_v23) (broadcastInDim S1x4x1024 ![1, 2] bcast_S4x1024_S1x4x1024_1_2),
    TRef.nary ![(TRef.of (T := ⟨S1x4x1024, .f32⟩) main_call0_v21), (TRef.of (T := ⟨S1x4x1024, .f32⟩) main_call0_v22), (TRef.of (T := ⟨S1x4x1024, .f32⟩) main_call0_v23)] (TRef.of (T := ⟨S3x4x1024, .f32⟩) main_call0_v24) (fun u => (concatenate S3x4x1024 0 [⟨S1x4x1024, (u 0 : (⟨S1x4x1024, .f32⟩ : BufTy).Contents (Elt F))⟩, ⟨S1x4x1024, (u 1 : (⟨S1x4x1024, .f32⟩ : BufTy).Contents (Elt F))⟩, ⟨S1x4x1024, (u 2 : (⟨S1x4x1024, .f32⟩ : BufTy).Contents (Elt F))⟩] concatenates_S1x4x1024_S1x4x1024_S1x4x1024_S3x4x1024_d0 : (⟨S3x4x1024, .f32⟩ : BufTy).Contents (Elt F))),
    TRef.unary (TRef.of (T := ⟨S3x4x1024, .f32⟩) main_call0_v24) (TRef.of (T := ⟨S4x1024x3, .f32⟩) main_v10) (transpose S4x1024x3 [1, 2, 0] · transposes_S3x4x1024_S4x1024x3_1_2_0) ]

/-- The operations that make the virtual fifth atom. -/
abbrev opsBeta : List (HloOp τ sig (Elt F)) :=
  [ nullary main_cst_4 (constant S_ .f32 0xBF152E13#32),
    unary main_cst_4 main_v11 (broadcastInDim S4x1024x3 ![] bcast_S_S4x1024x3 : (⟨S_, .f32⟩ : BufTy).Contents (Elt F) → (⟨S4x1024x3, .f32⟩ : BufTy).Contents (Elt F)),
    binary main_v11 main_v10 main_v12 (mulf : (⟨S4x1024x3, .f32⟩ : BufTy).Contents (Elt F) → (⟨S4x1024x3, .f32⟩ : BufTy).Contents (Elt F) → (⟨S4x1024x3, .f32⟩ : BufTy).Contents (Elt F)),
    nullary main_cst_5 (constant S_ .f32 0x3F116A4D#32),
    unary main_cst_5 main_v13 (broadcastInDim S4x1024x3 ![] bcast_S_S4x1024x3 : (⟨S_, .f32⟩ : BufTy).Contents (Elt F) → (⟨S4x1024x3, .f32⟩ : BufTy).Contents (Elt F)),
    binary main_v13 main_v8 main_v14 (mulf : (⟨S4x1024x3, .f32⟩ : BufTy).Contents (Elt F) → (⟨S4x1024x3, .f32⟩ : BufTy).Contents (Elt F) → (⟨S4x1024x3, .f32⟩ : BufTy).Contents (Elt F)),
    binary main_v12 main_v14 main_v15 (addf : (⟨S4x1024x3, .f32⟩ : BufTy).Contents (Elt F) → (⟨S4x1024x3, .f32⟩ : BufTy).Contents (Elt F) → (⟨S4x1024x3, .f32⟩ : BufTy).Contents (Elt F)),
    nullary main_cst_6 (constant S_ .f32 0x3F0A69A8#32),
    unary main_cst_6 main_v16 (broadcastInDim S4x1024x3 ![] bcast_S_S4x1024x3 : (⟨S_, .f32⟩ : BufTy).Contents (Elt F) → (⟨S4x1024x3, .f32⟩ : BufTy).Contents (Elt F)),
    binary main_v16 main_v9 main_v17 (mulf : (⟨S4x1024x3, .f32⟩ : BufTy).Contents (Elt F) → (⟨S4x1024x3, .f32⟩ : BufTy).Contents (Elt F) → (⟨S4x1024x3, .f32⟩ : BufTy).Contents (Elt F)),
    binary main_v15 main_v17 main_v18 (subf : (⟨S4x1024x3, .f32⟩ : BufTy).Contents (Elt F) → (⟨S4x1024x3, .f32⟩ : BufTy).Contents (Elt F) → (⟨S4x1024x3, .f32⟩ : BufTy).Contents (Elt F)),
    binary main_v18 main_v3 main_v19 (addf : (⟨S4x1024x3, .f32⟩ : BufTy).Contents (Elt F) → (⟨S4x1024x3, .f32⟩ : BufTy).Contents (Elt F) → (⟨S4x1024x3, .f32⟩ : BufTy).Contents (Elt F)) ]

/-- The operations that make where a chain starts. -/
abbrev opsStarts : List (HloOp τ sig (Elt F)) :=
  [ nullary main_c (constantI S_ 32 0#32),
    unary main_c main_v20 (broadcastInDim S4x1 ![] bcast_S_S4x1 : (⟨S_, .i32⟩ : BufTy).Contents (Elt F) → (⟨S4x1, .i32⟩ : BufTy).Contents (Elt F)),
    unary main_arg1 main_v21 ((extractStridedSlice S4x1023 ![0, 1] · slices_S4x1024_S4x1023_0_1) : (⟨S4x1024, .i32⟩ : BufTy).Contents (Elt F) → (⟨S4x1023, .i32⟩ : BufTy).Contents (Elt F)),
    unary main_arg1 main_v22 ((extractStridedSlice S4x1023 ![0, 0] · slices_S4x1024_S4x1023_0_0) : (⟨S4x1024, .i32⟩ : BufTy).Contents (Elt F) → (⟨S4x1023, .i32⟩ : BufTy).Contents (Elt F)),
    binary main_v21 main_v22 main_v23 (cmpi .ne : (⟨S4x1023, .i32⟩ : BufTy).Contents (Elt F) → (⟨S4x1023, .i32⟩ : BufTy).Contents (Elt F) → (⟨S4x1023, .i1⟩ : BufTy).Contents (Elt F)),
    unary main_v23 main_v24 ((extui 32 · natLt_1_32) : (⟨S4x1023, .i1⟩ : BufTy).Contents (Elt F) → (⟨S4x1023, .i32⟩ : BufTy).Contents (Elt F)),
    binary main_v20 main_v24 main_v25 ((fun a b => concatenate S4x1024 1 [⟨S4x1, a⟩, ⟨S4x1023, b⟩] concatenates_S4x1_S4x1023_S4x1024_d1) : (⟨S4x1, .i32⟩ : BufTy).Contents (Elt F) → (⟨S4x1023, .i32⟩ : BufTy).Contents (Elt F) → (⟨S4x1024, .i32⟩ : BufTy).Contents (Elt F)),
    TRef.nullary (TRef.of (T := ⟨S_, .i32⟩) main_call1_call0_c) (constantI S_ 32 0#32),
    TRef.unary (TRef.of (T := ⟨S_, .i32⟩) main_call1_call0_c) (TRef.of (T := ⟨S_, .i32⟩) main_call1_call0_v0) (broadcastInDim S_ ![] bcast_S_S_),
    TRef.binary (TRef.of (T := ⟨S4x1024, .i32⟩) main_v25) (TRef.of (T := ⟨S_, .i32⟩) main_call1_call0_v0) (TRef.of (T := ⟨S4x1024, .i32⟩) main_v26) (fun x v => Host.reduceWindow IntOp.addi ![1, 1024] ![1, 1] ![0, 1023] ![0, 0] x v reduceWindows_S4x1024_S4x1024_w1s1p0_0_w1024s1p1023_0 h_S_) ]

/-- The operations that make the residue offset of each chain. -/
abbrev opsOffset : List (HloOp τ sig (Elt F)) :=
  [ nullary main_c_7 (constantI S_ 32 100#32),
    unary main_c_7 main_v27 (broadcastInDim S4x1024 ![] bcast_S_S4x1024 : (⟨S_, .i32⟩ : BufTy).Contents (Elt F) → (⟨S4x1024, .i32⟩ : BufTy).Contents (Elt F)),
    binary main_v27 main_v26 main_v28 (muli : (⟨S4x1024, .i32⟩ : BufTy).Contents (Elt F) → (⟨S4x1024, .i32⟩ : BufTy).Contents (Elt F) → (⟨S4x1024, .i32⟩ : BufTy).Contents (Elt F)),
    nullary main_v29 (iotaInDim S1024 32 0),
    unary main_v29 main_v30 (broadcastInDim S1x1024 ![1] bcast_S1024_S1x1024_1 : (⟨S1024, .i32⟩ : BufTy).Contents (Elt F) → (⟨S1x1024, .i32⟩ : BufTy).Contents (Elt F)),
    unary main_v30 main_v31 (broadcastInDim S4x1024 ![0, 1] bcast_S1x1024_S4x1024_0_1 : (⟨S1x1024, .i32⟩ : BufTy).Contents (Elt F) → (⟨S4x1024, .i32⟩ : BufTy).Contents (Elt F)),
    binary main_v28 main_v31 main_v32 (addi : (⟨S4x1024, .i32⟩ : BufTy).Contents (Elt F) → (⟨S4x1024, .i32⟩ : BufTy).Contents (Elt F) → (⟨S4x1024, .i32⟩ : BufTy).Contents (Elt F)),
    unary main_v26 main_v33 ((extractStridedSlice S4x1 ![0, 1023] · slices_S4x1024_S4x1_0_1023) : (⟨S4x1024, .i32⟩ : BufTy).Contents (Elt F) → (⟨S4x1, .i32⟩ : BufTy).Contents (Elt F)),
    unary main_v33 main_v34 (broadcastInDim S4x1024 ![0, 1] bcast_S4x1_S4x1024_0_1 : (⟨S4x1, .i32⟩ : BufTy).Contents (Elt F) → (⟨S4x1024, .i32⟩ : BufTy).Contents (Elt F)),
    binary main_v26 main_v34 main_v35 (cmpi .eq : (⟨S4x1024, .i32⟩ : BufTy).Contents (Elt F) → (⟨S4x1024, .i32⟩ : BufTy).Contents (Elt F) → (⟨S4x1024, .i1⟩ : BufTy).Contents (Elt F)),
    nullary main_c_8 (constantI S_ 32 4294967196#32),
    TRef.unary (TRef.of (T := ⟨S_, .i32⟩) main_c_8) (TRef.of (T := ⟨S_, .i32⟩) main_call2_v0) id,
    TRef.unary (TRef.of (T := ⟨S_, .i32⟩) main_call2_v0) (TRef.of (T := ⟨S4x1024, .i32⟩) main_call2_v1) (broadcastInDim S4x1024 ![] bcast_S_S4x1024),
    TRef.ternary (TRef.of (T := ⟨S4x1024, .i1⟩) main_v35) (TRef.of (T := ⟨S4x1024, .i32⟩) main_call2_v1) (TRef.of (T := ⟨S4x1024, .i32⟩) main_v32) (TRef.of (T := ⟨S4x1024, .i32⟩) main_v36) select ]

/-- The operations that make the row of each residue: its coordinates and its packed position. -/
abbrev opsTable : List (HloOp τ sig (Elt F)) :=
  [ nullary main_c_9 (constantI S_ 32 4#32),
    unary main_c_9 main_v37 (broadcastInDim S4x1024 ![] bcast_S_S4x1024 : (⟨S_, .i32⟩ : BufTy).Contents (Elt F) → (⟨S4x1024, .i32⟩ : BufTy).Contents (Elt F)),
    binary main_v37 main_v36 main_v38 (muli : (⟨S4x1024, .i32⟩ : BufTy).Contents (Elt F) → (⟨S4x1024, .i32⟩ : BufTy).Contents (Elt F) → (⟨S4x1024, .i32⟩ : BufTy).Contents (Elt F)),
    binary main_v38 main_arg1 main_v39 (addi : (⟨S4x1024, .i32⟩ : BufTy).Contents (Elt F) → (⟨S4x1024, .i32⟩ : BufTy).Contents (Elt F) → (⟨S4x1024, .i32⟩ : BufTy).Contents (Elt F)),
    unary main_v39 main_v40 (sitofp .f32 : (⟨S4x1024, .i32⟩ : BufTy).Contents (Elt F) → (⟨S4x1024, .f32⟩ : BufTy).Contents (Elt F)),
    unary main_v40 main_v41 (broadcastInDim S4x1024x1 ![0, 1] bcast_S4x1024_S4x1024x1_0_1 : (⟨S4x1024, .f32⟩ : BufTy).Contents (Elt F) → (⟨S4x1024x1, .f32⟩ : BufTy).Contents (Elt F)),
    nary ![main_v1, main_v3, main_v5, main_v7, main_v19, main_v41] main_v42 (fun u => (concatenate S4x1024x16 2 [⟨S4x1024x3, (u 0 : (⟨S4x1024x3, .f32⟩ : BufTy).Contents (Elt F))⟩, ⟨S4x1024x3, (u 1 : (⟨S4x1024x3, .f32⟩ : BufTy).Contents (Elt F))⟩, ⟨S4x1024x3, (u 2 : (⟨S4x1024x3, .f32⟩ : BufTy).Contents (Elt F))⟩, ⟨S4x1024x3, (u 3 : (⟨S4x1024x3, .f32⟩ : BufTy).Contents (Elt F))⟩, ⟨S4x1024x3, (u 4 : (⟨S4x1024x3, .f32⟩ : BufTy).Contents (Elt F))⟩, ⟨S4x1024x1, (u 5 : (⟨S4x1024x1, .f32⟩ : BufTy).Contents (Elt F))⟩] concatenates_S4x1024x3_S4x1024x3_S4x1024x3_S4x1024x3_S4x1024x3_S4x1024x1_S4x1024x16_d2 : (⟨S4x1024x16, .f32⟩ : BufTy).Contents (Elt F))),
    reshape main_v42 main_v43 (rfl : (.f32 : EltTy) = .f32) shapeCasts_S4x1024x16_S4096x16,
    nullary main_v44 (iotaInDim S4 32 0),
    nullary main_c_10 (constantI S_ 32 1024#32),
    unary main_c_10 main_v45 (broadcastInDim S4 ![] bcast_S_S4 : (⟨S_, .i32⟩ : BufTy).Contents (Elt F) → (⟨S4, .i32⟩ : BufTy).Contents (Elt F)),
    binary main_v44 main_v45 main_v46 (muli : (⟨S4, .i32⟩ : BufTy).Contents (Elt F) → (⟨S4, .i32⟩ : BufTy).Contents (Elt F) → (⟨S4, .i32⟩ : BufTy).Contents (Elt F)) ]

/-- The operations that make the list of rows the gather takes. -/
abbrev opsList : List (HloOp τ sig (Elt F)) :=
  [ unary main_v46 main_v47 (broadcastInDim S4x1x1 ![0] bcast_S4_S4x1x1_0 : (⟨S4, .i32⟩ : BufTy).Contents (Elt F) → (⟨S4x1x1, .i32⟩ : BufTy).Contents (Elt F)),
    unary main_v47 main_v48 (broadcastInDim S4x1024x30 ![0, 1, 2] bcast_S4x1x1_S4x1024x30_0_1_2 : (⟨S4x1x1, .i32⟩ : BufTy).Contents (Elt F) → (⟨S4x1024x30, .i32⟩ : BufTy).Contents (Elt F)),
    binary main_arg3 main_v48 main_v49 (addi : (⟨S4x1024x30, .i32⟩ : BufTy).Contents (Elt F) → (⟨S4x1024x30, .i32⟩ : BufTy).Contents (Elt F) → (⟨S4x1024x30, .i32⟩ : BufTy).Contents (Elt F)),
    reshape main_v49 main_v50 (rfl : (.i32 : EltTy) = .i32) shapeCasts_S4x1024x30_S122880,
    reshape main_v50 main_v51 (rfl : (.i32 : EltTy) = .i32) shapeCasts_S122880_S32x30x128 ]

/-- The operations that make what the dense kernel reads beside the gathered rows. -/
abbrev opsDense : List (HloOp τ sig (Elt F)) :=
  [ unary main_v42 main_v53 (broadcastInDim S4x1024x1x16 ![0, 1, 3] bcast_S4x1024x16_S4x1024x1x16_0_1_3 : (⟨S4x1024x16, .f32⟩ : BufTy).Contents (Elt F) → (⟨S4x1024x1x16, .f32⟩ : BufTy).Contents (Elt F)),
    unary main_v53 main_v54 (broadcastInDim S4x1024x30x16 ![0, 1, 2, 3] bcast_S4x1024x1x16_S4x1024x30x16_0_1_2_3 : (⟨S4x1024x1x16, .f32⟩ : BufTy).Contents (Elt F) → (⟨S4x1024x30x16, .f32⟩ : BufTy).Contents (Elt F)),
    reshape main_v54 main_v55 (rfl : (.f32 : EltTy) = .f32) shapeCasts_S4x1024x30x16_S122880x16,
    reshape main_arg4 main_v56 (rfl : (.f32 : EltTy) = .f32) shapeCasts_S4x1024x30_S122880x1,
    unary main_arg7 main_v57 ((extractStridedSlice S128x16 ![0, 0] · slices_S128x416_S128x16_0_0) : (⟨S128x416, .f32⟩ : BufTy).Contents (Elt F) → (⟨S128x16, .f32⟩ : BufTy).Contents (Elt F)),
    unary main_arg5 main_v58 ((transpose S66x16 [1, 0] · transposes_S16x66_S66x16_1_0) : (⟨S16x66, .f32⟩ : BufTy).Contents (Elt F) → (⟨S66x16, .f32⟩ : BufTy).Contents (Elt F)),
    unary main_arg6 main_v59 (broadcastInDim S1x16 ![1] bcast_S16_S1x16_1 : (⟨S16, .f32⟩ : BufTy).Contents (Elt F) → (⟨S1x16, .f32⟩ : BufTy).Contents (Elt F)),
    unary main_v59 main_v60 (broadcastInDim S66x16 ![0, 1] bcast_S1x16_S66x16_0_1 : (⟨S1x16, .f32⟩ : BufTy).Contents (Elt F) → (⟨S66x16, .f32⟩ : BufTy).Contents (Elt F)),
    binary main_v58 main_v60 main_v61 (addf : (⟨S66x16, .f32⟩ : BufTy).Contents (Elt F) → (⟨S66x16, .f32⟩ : BufTy).Contents (Elt F) → (⟨S66x16, .f32⟩ : BufTy).Contents (Elt F)),
    unary main_v57 main_v62 ((transpose S16x128 [1, 0] · transposes_S128x16_S16x128_1_0) : (⟨S128x16, .f32⟩ : BufTy).Contents (Elt F) → (⟨S16x128, .f32⟩ : BufTy).Contents (Elt F)),
    binary main_v61 main_v62 main_v63 ((fun l r => Host.dotGeneral dot_S66x16_S16x128_S66x128_1_0_0_1_n_n none l r) : (⟨S66x16, .f32⟩ : BufTy).Contents (Elt F) → (⟨S16x128, .f32⟩ : BufTy).Contents (Elt F) → (⟨S66x128, .f32⟩ : BufTy).Contents (Elt F)),
    nullary main_cst_11 (constant S_ .f32 0x00000000#32),
    unary main_cst_11 main_v64 (broadcastInDim S6x128 ![] bcast_S_S6x128 : (⟨S_, .f32⟩ : BufTy).Contents (Elt F) → (⟨S6x128, .f32⟩ : BufTy).Contents (Elt F)),
    binary main_v63 main_v64 main_v65 ((fun a b => concatenate S72x128 0 [⟨S66x128, a⟩, ⟨S6x128, b⟩] concatenates_S66x128_S6x128_S72x128_d0) : (⟨S66x128, .f32⟩ : BufTy).Contents (Elt F) → (⟨S6x128, .f32⟩ : BufTy).Contents (Elt F) → (⟨S72x128, .f32⟩ : BufTy).Contents (Elt F)),
    unary main_v65 main_v66 ((truncf .bf16 · bitsLt_bf16_f32) : (⟨S72x128, .f32⟩ : BufTy).Contents (Elt F) → (⟨S72x128, .bf16⟩ : BufTy).Contents (Elt F)),
    unary main_arg7 main_v67 ((extractStridedSlice S128x400 ![0, 16] · slices_S128x416_S128x400_0_16) : (⟨S128x416, .f32⟩ : BufTy).Contents (Elt F) → (⟨S128x400, .f32⟩ : BufTy).Contents (Elt F)),
    unary main_v67 main_v68 ((transpose S400x128 [1, 0] · transposes_S128x400_S400x128_1_0) : (⟨S128x400, .f32⟩ : BufTy).Contents (Elt F) → (⟨S400x128, .f32⟩ : BufTy).Contents (Elt F)),
    unary main_v68 main_v69 ((truncf .bf16 · bitsLt_bf16_f32) : (⟨S400x128, .f32⟩ : BufTy).Contents (Elt F) → (⟨S400x128, .bf16⟩ : BufTy).Contents (Elt F)),
    reshape main_arg8 main_v70 (rfl : (.f32 : EltTy) = .f32) shapeCasts_S128_S1x128,
    reshape main_arg9 main_v71 (rfl : (.f32 : EltTy) = .f32) shapeCasts_S128_S1x128 ]

/-- The operations that make the result in its final shape. -/
abbrev opsLast : List (HloOp τ sig (Elt F)) :=
  [ reshape main_v72 main_v73 (rfl : (.f32 : EltTy) = .f32) shapeCasts_S122880x128_S4x1024x30x128 ]

/-- What `opsChain` writes. -/
abbrev opsChainW : List (Ref sig .tc) := [main_cst, main_cst_0, main_cst_1, main_cst_2, main_cst_3, main_v0, main_v1, main_v2, main_v3, main_v4, main_v5, main_v6, main_v7, main_v8, main_v9]
theorem opsChain_writes : (opsChain : List (HloOp τ sig (Elt F))).Forall fun op => op.writes ⊆ (opsChainW.map (Proc.devRef (τ := τ) .tc)).toFinset :=
  forall_writes_sub_of_map rfl

/-- What `opsCross` writes. -/
abbrev opsCrossW : List (Ref sig .tc) := [main_call0_v0, main_call0_v1, main_call0_v2, main_call0_v3, main_call0_v4, main_call0_v5, main_call0_v6, main_call0_v7, main_call0_v8, main_call0_v9, main_call0_v10, main_call0_v11, main_call0_v12, main_call0_v13, main_call0_v14, main_call0_v15, main_call0_v16, main_call0_v17, main_call0_v18, main_call0_v19, main_call0_v20, main_call0_v21, main_call0_v22, main_call0_v23, main_call0_v24, main_v10]
theorem opsCross_writes : (opsCross : List (HloOp τ sig (Elt F))).Forall fun op => op.writes ⊆ (opsCrossW.map (Proc.devRef (τ := τ) .tc)).toFinset :=
  forall_writes_sub_of_map rfl

/-- What `opsBeta` writes. -/
abbrev opsBetaW : List (Ref sig .tc) := [main_cst_4, main_v11, main_v12, main_cst_5, main_v13, main_v14, main_v15, main_cst_6, main_v16, main_v17, main_v18, main_v19]
theorem opsBeta_writes : (opsBeta : List (HloOp τ sig (Elt F))).Forall fun op => op.writes ⊆ (opsBetaW.map (Proc.devRef (τ := τ) .tc)).toFinset :=
  forall_writes_sub_of_map rfl

/-- What `opsStarts` writes. -/
abbrev opsStartsW : List (Ref sig .tc) := [main_c, main_v20, main_v21, main_v22, main_v23, main_v24, main_v25, main_call1_call0_c, main_call1_call0_v0, main_v26]
theorem opsStarts_writes : (opsStarts : List (HloOp τ sig (Elt F))).Forall fun op => op.writes ⊆ (opsStartsW.map (Proc.devRef (τ := τ) .tc)).toFinset :=
  forall_writes_sub_of_map rfl

/-- What `opsOffset` writes. -/
abbrev opsOffsetW : List (Ref sig .tc) := [main_c_7, main_v27, main_v28, main_v29, main_v30, main_v31, main_v32, main_v33, main_v34, main_v35, main_c_8, main_call2_v0, main_call2_v1, main_v36]
theorem opsOffset_writes : (opsOffset : List (HloOp τ sig (Elt F))).Forall fun op => op.writes ⊆ (opsOffsetW.map (Proc.devRef (τ := τ) .tc)).toFinset :=
  forall_writes_sub_of_map rfl

/-- What `opsTable` writes. -/
abbrev opsTableW : List (Ref sig .tc) := [main_c_9, main_v37, main_v38, main_v39, main_v40, main_v41, main_v42, main_v43, main_v44, main_c_10, main_v45, main_v46]
theorem opsTable_writes : (opsTable : List (HloOp τ sig (Elt F))).Forall fun op => op.writes ⊆ (opsTableW.map (Proc.devRef (τ := τ) .tc)).toFinset :=
  forall_writes_sub_of_map rfl

/-- What `opsList` writes. -/
abbrev opsListW : List (Ref sig .tc) := [main_v47, main_v48, main_v49, main_v50, main_v51]
theorem opsList_writes : (opsList : List (HloOp τ sig (Elt F))).Forall fun op => op.writes ⊆ (opsListW.map (Proc.devRef (τ := τ) .tc)).toFinset :=
  forall_writes_sub_of_map rfl

/-- What `opsDense` writes. -/
abbrev opsDenseW : List (Ref sig .tc) := [main_v53, main_v54, main_v55, main_v56, main_v57, main_v58, main_v59, main_v60, main_v61, main_v62, main_v63, main_cst_11, main_v64, main_v65, main_v66, main_v67, main_v68, main_v69, main_v70, main_v71]
theorem opsDense_writes : (opsDense : List (HloOp τ sig (Elt F))).Forall fun op => op.writes ⊆ (opsDenseW.map (Proc.devRef (τ := τ) .tc)).toFinset :=
  forall_writes_sub_of_map rfl

/-- What `opsLast` writes. -/
abbrev opsLastW : List (Ref sig .tc) := [main_v73]
theorem opsLast_writes : (opsLast : List (HloOp τ sig (Elt F))).Forall fun op => op.writes ⊆ (opsLastW.map (Proc.devRef (τ := τ) .tc)).toFinset :=
  forall_writes_sub_of_map rfl

/-- Everything before the gather. -/
def opsBefore : List (HloOp τ sig (Elt F)) :=
  opsChain ++ (opsCross ++ (opsBeta ++ (opsStarts ++ (opsOffset ++ (opsTable ++ opsList)))))

/-- The operations touch the TensorCore's buffers only, and give no buffer away. -/
def Plain (ops : List (HloOp τ sig (Elt F))) : Prop := ∀ op ∈ ops, op.bufs ⊆ Pipeline.ucRefs τ sig ∧ op.fresh = ∅

theorem Plain.append {l₁ l₂ : List (HloOp τ sig (Elt F))} (h₁ : Plain l₁) (h₂ : Plain l₂) : Plain (l₁ ++ l₂) := fun op h =>
  (List.mem_append.mp h).elim (h₁ op) (h₂ op)

theorem Plain.nil : Plain ([] : List (HloOp τ sig (Elt F))) := fun _ h => nomatch h

theorem Plain.cons {op : HloOp τ sig (Elt F)} {l : List (HloOp τ sig (Elt F))} (h : op.bufs ⊆ tcRefs τ sig) (hf : op.fresh = ∅)
    (hl : Plain l) : Plain (op :: l) := fun o ho =>
  (List.mem_cons.mp ho).elim (fun e => e ▸ ⟨Pipeline.sub_ucRefs op h, hf⟩) (hl o)

set_option maxHeartbeats 2000000 in
theorem before_plain : Plain (opsBefore (F := F)) := by
  refine .append ?_ (.append ?_ (.append ?_ (.append ?_ (.append ?_ (.append ?_ ?_)))))
  all_goals
    repeat
      refine Plain.cons ?_ rfl ?_
      · simp only [TRef.nullary, TRef.unary, TRef.binary, TRef.ternary, TRef.reshape, TRef.nary, nullary_bufs_sub, unary_bufs_sub,
          binary_bufs_sub, ternary_bufs_sub, reshape_bufs_sub, nary_bufs_sub]
    exact Plain.nil

set_option maxHeartbeats 2000000 in
theorem dense_plain : Plain (opsDense (F := F)) := by
  repeat
    refine Plain.cons ?_ rfl ?_
    · simp only [TRef.nullary, TRef.unary, TRef.binary, TRef.ternary, TRef.reshape, TRef.nary, nullary_bufs_sub, unary_bufs_sub,
          binary_bufs_sub, ternary_bufs_sub, reshape_bufs_sub, nary_bufs_sub]
  exact Plain.nil

theorem last_plain : Plain (opsLast (F := F)) :=
  .cons (reshape_bufs_sub ..) rfl .nil

set_option maxRecDepth 16384 in
set_option maxHeartbeats 4000000 in
theorem part0_eq (d : Dev nD) : main_part0 (F := F) d
    = seq (opsChain ++ (opsCross ++ (opsBeta ++ (opsStarts ++ (opsOffset ++ opsTable))))) := rfl

set_option maxRecDepth 16384 in
theorem part1_eq (d : Dev nD) : main_part1 (F := F) d
    = seqK opsList ((sc (F := F)).run d 0 >>= fun _ => seqK opsDense
        ((Prog.lift (.customCall (SparseCore.inner (Pipeline.entry 0)) ()) : Prog (TpuEff nD τ sig (Elt F) (SparseCore.Sig (Pipeline.Sig Λ₀ (Fin 1) fun p => (pcfgs (F := F) p).Adm) 1) .tc) PUnit)
          >>= fun _ => seqK opsLast (pure ⟨⟩))) := rfl

/-- The program of the TensorCore: host operations, the gather, host operations, the dense kernel, the last reshape. -/
theorem main_eq (d : Dev nD) : main (F := F) d
    = (seq opsBefore >>= fun _ => (sc (F := F)).run d 0 >>= fun _ => seq opsDense >>= fun _ =>
        ((Prog.lift (.customCall (SparseCore.inner (Pipeline.entry 0)) ()) : Prog (TpuEff nD τ sig (Elt F) (SparseCore.Sig (Pipeline.Sig Λ₀ (Fin 1) fun p => (pcfgs (F := F) p).Adm) 1) .tc) PUnit)
          >>= fun _ => seq opsLast >>= fun _ => pure ⟨⟩)) := by
  have h : main (F := F) d = main_part0 d >>= fun _ => main_part1 d := rfl
  rw [h, part0_eq, part1_eq]
  simp only [opsBefore, seq_append, ← seq_bind_seqK, bind_assoc]

end Cert.KernelIdeal.Host

end
-- ==== Proof.Dense.lean ====
/- The dense kernel: one block of 1024 rows, computed from the blocks its windows stage. -/
module

public import proofs.«01_k».proof.Proof.Setup
public import proofs.«01_k».proof.Proof.Gen.KernelIdeal.Launch
public import proofs.«01_k».proof.Proof.Gen.KernelIdeal.Points
public import Idealize.ShloMosaic.Lib.Pipeline.RegionArraysS
public import Idealize.ShloMosaic.Lib.Pipeline.FrameBody
public import Idealize.ShloMosaic.Lib.VecWindow

@[expose] public section

noncomputable section

namespace Cert.KernelIdeal.Run

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig (HIx 1) (Elt F) ℕ UU ℕ

/-- One block of the result, from the blocks the windows stage. -/
def block (x0 x1 : Vec F S1024x16 .f32) (x2 : Vec F S1024x1 .f32) (x3 x4 : Vec F S16x75 .bf16) (x5 : Vec F S75x25 .bf16)
    (x6 : Vec F S25x400 .bf16) (x7 : Vec F S1x400 .f32) (x8 : Vec F S400x128 .bf16) (x9 : Vec F S72x128 .bf16)
    (x10 x11 : Vec F S1x128 .f32) : Vec F S1024x128 .f32 :=
  k1_pay8 (k1_pay4 (k1_pay3 x0 x1 x3 x3 x4 x4 x5 x5) x2 x6 x6 x7 x8) (k1_pay6 (k1_pay1 x0) (k1_pay2 x1))
    (k1_pay7 (k1_pay1 x0) (k1_pay2 x1)) x9 x10 x11

/-- What is read after one store over the whole of a buffer. -/
theorem read_store {κ : Kind} {sp : Space} {S : Shape} {e : EltTy} (v : View sig κ sp S e) (f : v.ty.Contents (Elt F))
    {off : Fin S.rank → ℕ} (h : off = fun _ => 0) (inb) (w : S.Idx → Elt F e) :
    v.read (Elt F) (v.writes (Elt F) f [⟨Rect.unit off S.size inb, w⟩]) = w := by
  subst h
  exact View.read_writes_whole v f w

theorem zeros2 : (![0, 0] : Fin 2 → ℕ) = fun _ => 0 := by funext a; fin_cases a <;> rfl

theorem dense_wp (c : Dev nD) (i : grid1.Coords)
    (M0 : Memref sig .tc .vmem S1024x16 .f32) (h0 : M0.IsWhole) (M1 : Memref sig .tc .vmem S1024x16 .f32) (h1 : M1.IsWhole)
    (M2 : Memref sig .tc .vmem S1024x1 .f32) (h2 : M2.IsWhole) (M3 : Memref sig .tc .vmem S16x75 .bf16) (h3 : M3.IsWhole)
    (M4 : Memref sig .tc .vmem S16x75 .bf16) (h4 : M4.IsWhole) (M5 : Memref sig .tc .vmem S75x25 .bf16) (h5 : M5.IsWhole)
    (M6 : Memref sig .tc .vmem S25x400 .bf16) (h6 : M6.IsWhole) (M7 : Memref sig .tc .vmem S1x400 .f32) (h7 : M7.IsWhole)
    (M8 : Memref sig .tc .vmem S400x128 .bf16) (h8 : M8.IsWhole) (M9 : Memref sig .tc .vmem S72x128 .bf16) (h9 : M9.IsWhole)
    (M10 : Memref sig .tc .vmem S1x128 .f32) (h10 : M10.IsWhole) (M11 : Memref sig .tc .vmem S1x128 .f32) (h11 : M11.IsWhole)
    (M12 : Memref sig .tc .vmem S1024x128 .f32) (h12 : M12.IsWhole)
    (x0 x1 : Vec F S1024x16 .f32) (x2 : Vec F S1024x1 .f32) (x3 x4 : Vec F S16x75 .bf16) (x5 : Vec F S75x25 .bf16)
    (x6 : Vec F S25x400 .bf16) (x7 : Vec F S1x400 .f32) (x8 : Vec F S400x128 .bf16) (x9 : Vec F S72x128 .bf16)
    (x10 x11 : Vec F S1x128 .f32) (x12 : Vec F S1024x128 .f32) (E : Set ℕ) (Q : PUnit → sProp 𝕄) :
    iprop(owns c M0 fullShare x0 ∗ owns c M1 fullShare x1 ∗ owns c M2 fullShare x2 ∗ owns c M3 fullShare x3 ∗ owns c M4 fullShare x4
        ∗ owns c M5 fullShare x5 ∗ owns c M6 fullShare x6 ∗ owns c M7 fullShare x7 ∗ owns c M8 fullShare x8 ∗ owns c M9 fullShare x9
        ∗ owns c M10 fullShare x10 ∗ owns c M11 fullShare x11 ∗ owns c M12 fullShare x12
        ∗ (iprop(owns c M0 fullShare x0 ∗ owns c M1 fullShare x1 ∗ owns c M2 fullShare x2 ∗ owns c M3 fullShare x3 ∗ owns c M4 fullShare x4
        ∗ owns c M5 fullShare x5 ∗ owns c M6 fullShare x6 ∗ owns c M7 fullShare x7 ∗ owns c M8 fullShare x8 ∗ owns c M9 fullShare x9
        ∗ owns c M10 fullShare x10 ∗ owns c M11 fullShare x11
        ∗ owns c M12 fullShare (block x0 x1 x2 x3 x4 x5 x6 x7 x8 x9 x10 x11)) -∗ Q ⟨⟩))
      ⊢ wp frame (wpE (defs₀ (F := F)) Variants.none c none) E
          (cc1__dense_body i M0 h0 M1 h1 M2 h2 M3 h3 M4 h4 M5 h5 M6 h6 M7 h7 M8 h8 M9 h9 M10 h10 M11 h11 M12 h12) Q := by
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩,
    ⟨%f7, %e7, H7⟩, ⟨%f8, %e8, H8⟩, ⟨%f9, %e9, H9⟩, ⟨%f10, %e10, H10⟩, ⟨%f11, %e11, H11⟩, ⟨%f12, %e12, H12⟩, Hk⟩
  rw [cc1__dense_body_eq_skeleton]
  unfold cc1__dense_body_skel
  rw [k1_part1_eq_skeleton, k1_part2_eq_skeleton, k1_part3_eq_skeleton]
  unfold k1_part1_skel k1_part2_skel k1_part3_skel
  sl_exec
  sl_step
  iapply Hk
  isplitl [H0]; · iexists _; isplitr; swap; (· iexact H0); ipureintro; exact e0
  isplitl [H1]; · iexists _; isplitr; swap; (· iexact H1); ipureintro; exact e1
  isplitl [H2]; · iexists _; isplitr; swap; (· iexact H2); ipureintro; exact e2
  isplitl [H3]; · iexists _; isplitr; swap; (· iexact H3); ipureintro; exact e3
  isplitl [H4]; · iexists _; isplitr; swap; (· iexact H4); ipureintro; exact e4
  isplitl [H5]; · iexists _; isplitr; swap; (· iexact H5); ipureintro; exact e5
  isplitl [H6]; · iexists _; isplitr; swap; (· iexact H6); ipureintro; exact e6
  isplitl [H7]; · iexists _; isplitr; swap; (· iexact H7); ipureintro; exact e7
  isplitl [H8]; · iexists _; isplitr; swap; (· iexact H8); ipureintro; exact e8
  isplitl [H9]; · iexists _; isplitr; swap; (· iexact H9); ipureintro; exact e9
  isplitl [H10]; · iexists _; isplitr; swap; (· iexact H10); ipureintro; exact e10
  isplitl [H11]; · iexists _; isplitr; swap; (· iexact H11); ipureintro; exact e11
  iexists _
  isplitr; swap
  · iexact H12
  ipureintro
  refine (read_store M12.view f12 zeros2 _ _).trans ?_
  rw [View.readAt_full, View.readAt_full, View.readAt_full, View.readAt_full, View.readAt_full, View.readAt_full, View.readAt_full,
    View.readAt_full, View.readAt_full, View.readAt_full, View.readAt_full, View.readAt_full,
    e0, e1, e2, e3, e4, e5, e6, e7, e8, e9, e10, e11]
  unfold block
  with_reducible rfl

end Cert.KernelIdeal.Run

end
-- ==== Proof.Region.lean ====
/- The dense kernel's region: its proof data, and the run of its body at every point. -/
module

public import proofs.«01_k».proof.Proof.Dense
public import proofs.«01_k».proof.Proof.Gen.KernelIdeal.Launch
public import proofs.«01_k».proof.Proof.Gen.KernelIdeal.Points
public import Idealize.ShloMosaic.Lib.Pipeline.RegionArraysS
public import Idealize.ShloMosaic.Lib.Pipeline.FrameBody
public import Idealize.ShloMosaic.Lib.VecWindow

@[expose] public section

noncomputable section

namespace Cert.KernelIdeal.Run

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig (HIx 1) (Elt F) ℕ UU ℕ

/-! ## The proof data of the region, entered from the valuation `V` -/

variable (V : Dev nD → Valuation τ sig (Elt F))

/-! What each window stages at point `t`: its block of the array. -/

abbrev stg0 (c : Dev nD) (t : Fin cfg1.N) : Vec F S1024x16 .f32 := ((cfg1.win 0).blk t).view.read (Elt F) (V c (Proc.devRef .tc (Pipeline.arrRef spec1 0)))
abbrev stg1 (c : Dev nD) (t : Fin cfg1.N) : Vec F S1024x16 .f32 := ((cfg1.win 1).blk t).view.read (Elt F) (V c (Proc.devRef .tc (Pipeline.arrRef spec1 1)))
abbrev stg2 (c : Dev nD) (t : Fin cfg1.N) : Vec F S1024x1 .f32 := ((cfg1.win 2).blk t).view.read (Elt F) (V c (Proc.devRef .tc (Pipeline.arrRef spec1 2)))
abbrev stg3 (c : Dev nD) (t : Fin cfg1.N) : Vec F S16x75 .bf16 := ((cfg1.win 3).blk t).view.read (Elt F) (V c (Proc.devRef .tc (Pipeline.arrRef spec1 3)))
abbrev stg4 (c : Dev nD) (t : Fin cfg1.N) : Vec F S16x75 .bf16 := ((cfg1.win 4).blk t).view.read (Elt F) (V c (Proc.devRef .tc (Pipeline.arrRef spec1 4)))
abbrev stg5 (c : Dev nD) (t : Fin cfg1.N) : Vec F S75x25 .bf16 := ((cfg1.win 5).blk t).view.read (Elt F) (V c (Proc.devRef .tc (Pipeline.arrRef spec1 5)))
abbrev stg6 (c : Dev nD) (t : Fin cfg1.N) : Vec F S25x400 .bf16 := ((cfg1.win 6).blk t).view.read (Elt F) (V c (Proc.devRef .tc (Pipeline.arrRef spec1 6)))
abbrev stg7 (c : Dev nD) (t : Fin cfg1.N) : Vec F S1x400 .f32 := ((cfg1.win 7).blk t).view.read (Elt F) (V c (Proc.devRef .tc (Pipeline.arrRef spec1 7)))
abbrev stg8 (c : Dev nD) (t : Fin cfg1.N) : Vec F S400x128 .bf16 := ((cfg1.win 8).blk t).view.read (Elt F) (V c (Proc.devRef .tc (Pipeline.arrRef spec1 8)))
abbrev stg9 (c : Dev nD) (t : Fin cfg1.N) : Vec F S72x128 .bf16 := ((cfg1.win 9).blk t).view.read (Elt F) (V c (Proc.devRef .tc (Pipeline.arrRef spec1 9)))
abbrev stg10 (c : Dev nD) (t : Fin cfg1.N) : Vec F S1x128 .f32 := ((cfg1.win 10).blk t).view.read (Elt F) (V c (Proc.devRef .tc (Pipeline.arrRef spec1 10)))
abbrev stg11 (c : Dev nD) (t : Fin cfg1.N) : Vec F S1x128 .f32 := ((cfg1.win 11).blk t).view.read (Elt F) (V c (Proc.devRef .tc (Pipeline.arrRef spec1 11)))

/-- The block of the result point `t` leaves. -/
def blockAt (c : Dev nD) (t : Fin cfg1.N) : Vec F S1024x128 .f32 :=
  block (stg0 V c t) (stg1 V c t) (stg2 V c t) (stg3 V c t) (stg4 V c t) (stg5 V c t) (stg6 V c t) (stg7 V c t) (stg8 V c t) (stg9 V c t) (stg10 V c t) (stg11 V c t)

def dat (c : Dev nD) : Dat τ (Elt F) (HIx 1) ℕ UU ℕ cfg1 c where
  A w := V c (Proc.devRef .tc (Pipeline.arrRef spec1 w))
  after w t := match w with
    | ⟨0, _⟩ => stg0 V c t
    | ⟨1, _⟩ => stg1 V c t
    | ⟨2, _⟩ => stg2 V c t
    | ⟨3, _⟩ => stg3 V c t
    | ⟨4, _⟩ => stg4 V c t
    | ⟨5, _⟩ => stg5 V c t
    | ⟨6, _⟩ => stg6 V c t
    | ⟨7, _⟩ => stg7 V c t
    | ⟨8, _⟩ => stg8 V c t
    | ⟨9, _⟩ => stg9 V c t
    | ⟨10, _⟩ => stg10 V c t
    | ⟨11, _⟩ => stg11 V c t
    | ⟨12, _⟩ => blockAt V c t
  Φ _ := Pipeline.scopedRest (Ix := HIx 1) (Name := ℕ) (U := UU) (Lvl := ℕ) (Val := Elt F) spec1 c
  q _ := fullShare
  owed _ := 0

theorem before0 (c : Dev nD) (t : Fin cfg1.N) (d) : (dat V c).before 0 t d = stg0 V c t :=
  (dat V c).before_in_eq_fetched 0 rfl (fun _ => rfl) (fun _ _ _ => rfl) (fun _ => rfl) t d
theorem before1 (c : Dev nD) (t : Fin cfg1.N) (d) : (dat V c).before 1 t d = stg1 V c t :=
  (dat V c).before_in_eq_fetched 1 rfl (fun _ => rfl) (fun _ _ _ => rfl) (fun _ => rfl) t d
theorem before2 (c : Dev nD) (t : Fin cfg1.N) (d) : (dat V c).before 2 t d = stg2 V c t :=
  (dat V c).before_in_eq_fetched 2 rfl (fun _ => rfl) (fun _ _ _ => rfl) (fun _ => rfl) t d
theorem before3 (c : Dev nD) (t : Fin cfg1.N) (d) : (dat V c).before 3 t d = stg3 V c t :=
  (dat V c).before_in_eq_fetched 3 rfl (fun _ => rfl) (fun _ _ _ => rfl) (fun _ => rfl) t d
theorem before4 (c : Dev nD) (t : Fin cfg1.N) (d) : (dat V c).before 4 t d = stg4 V c t :=
  (dat V c).before_in_eq_fetched 4 rfl (fun _ => rfl) (fun _ _ _ => rfl) (fun _ => rfl) t d
theorem before5 (c : Dev nD) (t : Fin cfg1.N) (d) : (dat V c).before 5 t d = stg5 V c t :=
  (dat V c).before_in_eq_fetched 5 rfl (fun _ => rfl) (fun _ _ _ => rfl) (fun _ => rfl) t d
theorem before6 (c : Dev nD) (t : Fin cfg1.N) (d) : (dat V c).before 6 t d = stg6 V c t :=
  (dat V c).before_in_eq_fetched 6 rfl (fun _ => rfl) (fun _ _ _ => rfl) (fun _ => rfl) t d
theorem before7 (c : Dev nD) (t : Fin cfg1.N) (d) : (dat V c).before 7 t d = stg7 V c t :=
  (dat V c).before_in_eq_fetched 7 rfl (fun _ => rfl) (fun _ _ _ => rfl) (fun _ => rfl) t d
theorem before8 (c : Dev nD) (t : Fin cfg1.N) (d) : (dat V c).before 8 t d = stg8 V c t :=
  (dat V c).before_in_eq_fetched 8 rfl (fun _ => rfl) (fun _ _ _ => rfl) (fun _ => rfl) t d
theorem before9 (c : Dev nD) (t : Fin cfg1.N) (d) : (dat V c).before 9 t d = stg9 V c t :=
  (dat V c).before_in_eq_fetched 9 rfl (fun _ => rfl) (fun _ _ _ => rfl) (fun _ => rfl) t d
theorem before10 (c : Dev nD) (t : Fin cfg1.N) (d) : (dat V c).before 10 t d = stg10 V c t :=
  (dat V c).before_in_eq_fetched 10 rfl (fun _ => rfl) (fun _ _ _ => rfl) (fun _ => rfl) t d
theorem before11 (c : Dev nD) (t : Fin cfg1.N) (d) : (dat V c).before 11 t d = stg11 V c t :=
  (dat V c).before_in_eq_fetched 11 rfl (fun _ => rfl) (fun _ _ _ => rfl) (fun _ => rfl) t d

set_option maxHeartbeats 4000000 in
theorem dat_obligation (c : Dev nD) : BodyObligation (dat V c) (defs₀ (F := F)) 𝒱₀ none Set.univ := fun t => by
  rw [bigSep_W1, bigSep_W1]
  rw [show (dat V c).Φ t.castSucc = (dat V c).Φ t.succ from rfl,
    show (dat V c).owesAt none t.succ = (dat V c).owesAt none t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  rw [before0, before1, before2, before3, before4, before5, before6, before7, before8, before9, before10, before11]
  have h := dense_wp c (grid1.coords t) (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2))
    (win1_3.stage (cfg1.slots t 3)) (hstage1_3 ((cfg1.slots t 3).cast nbuf1_3))
    (win1_4.stage (cfg1.slots t 4)) (hstage1_4 ((cfg1.slots t 4).cast nbuf1_4))
    (win1_5.stage (cfg1.slots t 5)) (hstage1_5 ((cfg1.slots t 5).cast nbuf1_5))
    (win1_6.stage (cfg1.slots t 6)) (hstage1_6 ((cfg1.slots t 6).cast nbuf1_6))
    (win1_7.stage (cfg1.slots t 7)) (hstage1_7 ((cfg1.slots t 7).cast nbuf1_7))
    (win1_8.stage (cfg1.slots t 8)) (hstage1_8 ((cfg1.slots t 8).cast nbuf1_8))
    (win1_9.stage (cfg1.slots t 9)) (hstage1_9 ((cfg1.slots t 9).cast nbuf1_9))
    (win1_10.stage (cfg1.slots t 10)) (hstage1_10 ((cfg1.slots t 10).cast nbuf1_10))
    (win1_11.stage (cfg1.slots t 11)) (hstage1_11 ((cfg1.slots t 11).cast nbuf1_11))
    (win1_12.stage (cfg1.slots t 12)) (hstage1_12 ((cfg1.slots t 12).cast nbuf1_12))
    (stg0 V c t) (stg1 V c t) (stg2 V c t) (stg3 V c t) (stg4 V c t) (stg5 V c t) (stg6 V c t) (stg7 V c t) (stg8 V c t) (stg9 V c t) (stg10 V c t) (stg11 V c t) ((dat V c).before 12 t d12) Set.univ
    (fun _ => iprop((dat V c).Φ t.succ ∗ (dat V c).owesAt none t.castSucc ∗ owns c (win1_0.stage (cfg1.slots t 0)) fullShare (stg0 V c t) ∗ owns c (win1_1.stage (cfg1.slots t 1)) fullShare (stg1 V c t) ∗ owns c (win1_2.stage (cfg1.slots t 2)) fullShare (stg2 V c t) ∗ owns c (win1_3.stage (cfg1.slots t 3)) fullShare (stg3 V c t) ∗ owns c (win1_4.stage (cfg1.slots t 4)) fullShare (stg4 V c t) ∗ owns c (win1_5.stage (cfg1.slots t 5)) fullShare (stg5 V c t) ∗ owns c (win1_6.stage (cfg1.slots t 6)) fullShare (stg6 V c t) ∗ owns c (win1_7.stage (cfg1.slots t 7)) fullShare (stg7 V c t) ∗ owns c (win1_8.stage (cfg1.slots t 8)) fullShare (stg8 V c t) ∗ owns c (win1_9.stage (cfg1.slots t 9)) fullShare (stg9 V c t) ∗ owns c (win1_10.stage (cfg1.slots t 10)) fullShare (stg10 V c t) ∗ owns c (win1_11.stage (cfg1.slots t 11)) fullShare (stg11 V c t) ∗ owns c (win1_12.stage (cfg1.slots t 12)) fullShare (blockAt V c t)))
  iapply h
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro H
  isplitl [HΦ]; · iexact HΦ
  isplitl [Howes]; · iexact Howes
  iexact H

end Cert.KernelIdeal.Run

end
-- ==== Proof.RegionRun.lean ====
/- The dense kernel's region entered from every unscoped buffer held at a valuation, and what it leaves in its result. -/
module

public import proofs.«01_k».proof.Proof.Region
public import proofs.«01_k».proof.Proof.Setup
public import Idealize.ShloMosaic.Lib.SparseCore.Threads

@[expose] public section

noncomputable section

namespace Cert.KernelIdeal.Run

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig (HIx 1) (Elt F) ℕ UU ℕ

variable (V : Dev nD → Valuation τ sig (Elt F))

/-- The one choice of the pipeline's static arguments. -/
abbrev adm : (p : Fin 1) → (pcfgs (F := F) p).Adm := fun p => (cfgs p).toPCfg_adm

/-- The proof data of the one pipeline. -/
def pdats : (p : Fin 1) → (c : Dev nD) → Dat τ (Elt F) (HIx 1) ℕ UU ℕ (Pipeline.pin (pcfgs (F := F)) adm p) c
  | ⟨0, _⟩ => fun c => dat V c

theorem levelCut : Pipeline.LevelCut (Val := Elt F) (pcfgs (F := F)) adm (none : HIx 1) (K (F := F)).L (K (F := F)).lev 0
    (fun _ => (0 : CellTallies nD τ sig (HIx 1))) (fun _ => 0) :=
  ⟨fun _ _ _ => Finset.mem_univ _, fun _ _ _ => le_refl _, fun _ _ _ h => absurd h (lt_irrefl _)⟩

/-- The scoped buffers the pipeline stages nothing in. -/
abbrev Φc (c : Dev nD) : sProp 𝕄 := Pipeline.scopedRest (Ix := HIx 1) (Name := ℕ) (U := UU) (Lvl := ℕ) (Val := Elt F) spec1 c

theorem reg_in (c : Dev nD) : iprop(Φc (F := F) c ∗ emp) ⊢ (pdats V 0 c).Φ 0 := by
  rw [show (pdats V 0 c).Φ 0 = Φc (F := F) c from rfl]
  iintro ⟨H, -⟩; iexact H

theorem reg_out (c : Dev nD) : (pdats V 0 c).Φ (Fin.last (Pipeline.pin (pcfgs (F := F)) adm 0).N)
    ⊢ iprop(Φc (F := F) c ∗ emp) := by
  rw [show (pdats V 0 c).Φ (Fin.last (Pipeline.pin (pcfgs (F := F)) adm 0).N) = Φc (F := F) c from rfl]
  iintro H
  isplitl [H]; · iexact H
  iempintro

theorem reg_body (c : Dev nD) : Pipeline.BodyObligationLoose (pdats V 0 c) (defs₀ (F := F)) 𝒱₀ none Set.univ := (dat_obligation V c).loose

theorem reg_share (c : Dev nD) : ∀ w, (pdats V 0 c).share w = fullShare := (pdats V 0 c).share_full fun _ => rfl

/-- The region, entered from the unscoped buffers at `V`. -/
abbrev reg : Pipeline.RegionSeg (pcfgs (F := F)) adm (pdats V) (none : HIx 1) (defs₀ (F := F)) 𝒱₀ (K (F := F)).L (K (F := F)).lev 0 :=
  Pipeline.RegionSeg.ofHeldIn (pcfgs (F := F)) adm (pdats V) none defs₀ 𝒱₀ (K (F := F)).L (K (F := F)).lev 0 (fun _ => 0)
    (Pipeline.ucRefs τ sig) (fun _ => iprop(emp)) (fun _ => iprop(emp)) (launch1.toP) rfl
    (reg_body V) (fun _ _ => rfl) (fun _ => rfl) (reg_share V) (reg_in V) (reg_out V)
    (fun _ => 0) levelCut (fun _ => iprop(emp)) V (fun _ _ => rfl)

theorem arrs_sub : Pipeline.arrRefs (τ := τ) spec1 ⊆ Pipeline.ucRefs τ sig :=
  Pipeline.arrRefs_sub_ucRefs spec1 (by decide)

/-- What the region leaves. -/
def afterDense (c : Dev nD) : Valuation τ sig (Elt F) := Pipeline.afterRegion (dat V c) (V c)

theorem reg_pre (c : Dev nD) : iprop(StableHlo.held (c.tc : Thread nD τ) (Pipeline.ucRefs τ sig) (V c)
      ∗ ((∃ Wd, owes (c.tc : Thread nD τ) (0 : CellTallies nD τ sig (HIx 1)) Wd) ∗ emp ∗ emp)) ⊢ (reg V).pre c :=
  by
  have h : _ ⊢ (reg V).pre c := Pipeline.RegionSeg.ofHeldIn_pre (by exact arrs_sub) c
  exact h

theorem reg_post (c : Dev nD) : (reg V).post c ⊢ iprop(StableHlo.held (c.tc : Thread nD τ) (Pipeline.ucRefs τ sig) (afterDense V c)
      ∗ ((∃ Wd, owes (c.tc : Thread nD τ) (0 : CellTallies nD τ sig (HIx 1)) Wd) ∗ emp ∗ emp)) :=
  Pipeline.RegionSeg.ofHeldIn_post (by exact arrs_sub) c

theorem cells_inj : Function.Injective (Pipeline.cellOf (nD := nD) (τ := τ) (Pipeline.pin (pcfgs (F := F)) adm)) := cellOf_inj

set_option maxHeartbeats 2000000 in
/-- The region's call in the program without its SparseCore launch. -/
theorem reg_wp [∀ e, Nonempty (Elt F e)] (c : Dev nD) (Q : PUnit → sProp 𝕄) :
    iprop((iprop(boundary (c.tc : Thread nD τ) ∗ (reg V).post c) -∗ wp frame (wpE (D (F := F)) 𝒱 (c.tc : Thread nD τ) none) Set.univ (pure ⟨⟩) Q)
        ∗ boundary (c.tc : Thread nD τ) ∗ (reg V).pre c ∗ levAts (K (F := F)).L (K (F := F)).lev
        ∗ Pipeline.cellsGhost (Pipeline.pin (pcfgs (F := F)) adm) EP 0 c ∗ Pipeline.toksInit (Pipeline.pin (pcfgs (F := F)) adm) EP 0 c)
      ⊢ wp frame (wpE (D (F := F)) 𝒱 (c.tc : Thread nD τ) none) Set.univ (.op (.customCall (Pipeline.entry 0) ()) fun _ => pure ⟨⟩) Q :=
  Pipeline.RegionSeg.wp (pcfgs (F := F)) adm (pdats V) (none : HIx 1) cells_inj EP (defs₀ (F := F)) 𝒱₀ (K (F := F)).L (K (F := F)).lev (reg V) c none
    (fun _ h => by simp at h) (fun _ => pure ⟨⟩) Q

/-- What the call takes and what it leaves. -/
abbrev Before (c : Dev nD) : sProp 𝕄 := iprop(boundary (c.tc : Thread nD τ) ∗ StableHlo.held (c.tc : Thread nD τ) (Pipeline.ucRefs τ sig) (V c)
          ∗ (∃ Wd, owes (c.tc : Thread nD τ) (0 : CellTallies nD τ sig (HIx 1)) Wd)
          ∗ levAts (K (F := F)).L (K (F := F)).lev
          ∗ Pipeline.cellsGhost (Pipeline.pin (pcfgs (F := F)) adm) EP 0 c ∗ Pipeline.toksInit (Pipeline.pin (pcfgs (F := F)) adm) EP 0 c)
abbrev After (c : Dev nD) : sProp 𝕄 := iprop(boundary (c.tc : Thread nD τ) ∗ StableHlo.held (c.tc : Thread nD τ) (Pipeline.ucRefs τ sig) (afterDense V c)
          ∗ (∃ Wd, owes (c.tc : Thread nD τ) (0 : CellTallies nD τ sig (HIx 1)) Wd))

theorem reg_left (c : Dev nD) (Q : PUnit → sProp 𝕄) :
    iprop(After V c -∗ Q ⟨⟩)
      ⊢ iprop(iprop(boundary (c.tc : Thread nD τ) ∗ (reg V).post c) -∗ wp frame (wpE (D (F := F)) 𝒱 (c.tc : Thread nD τ) none) Set.univ (pure ⟨⟩) Q) := by
  have h := reg_post V c
  generalize (reg V).post c = X at h ⊢
  iintro Hk ⟨Hb, Hpost⟩
  ihave H := h $$ Hpost
  icases H with ⟨Hheld, Howes, -⟩
  rw [wp_pure]
  imodintro
  iapply Hk
  isplitl [Hb]; · iexact Hb
  isplitl [Hheld]; · iexact Hheld
  iexact Howes

theorem reg_entered (c : Dev nD) : Before V c ⊢ iprop(boundary (c.tc : Thread nD τ) ∗ (reg V).pre c ∗ levAts (K (F := F)).L (K (F := F)).lev
        ∗ Pipeline.cellsGhost (Pipeline.pin (pcfgs (F := F)) adm) EP 0 c ∗ Pipeline.toksInit (Pipeline.pin (pcfgs (F := F)) adm) EP 0 c) := by
  have h := reg_pre V c
  generalize (reg V).pre c = X at h ⊢
  iintro ⟨Hb, Hheld, Howes, Hlev, Hg, Ht⟩
  isplitl [Hb]; · iexact Hb
  isplitl [Hheld Howes]
  · iapply h
    isplitl [Hheld]; · iexact Hheld
    isplitl [Howes]; · iexact Howes
    isplitr <;> iempintro
  isplitl [Hlev]; · iexact Hlev
  isplitl [Hg] <;> iassumption

theorem region_lift (c : Dev nD) (Q : PUnit → sProp 𝕄) :
    wp frame (wpE (D (F := F)) 𝒱 (c.tc : Thread nD τ) none) Set.univ (.op (.customCall (Pipeline.entry 0) ()) fun _ => pure ⟨⟩) Q
      ⊢ wp frame (wpE ((K (F := F)).defs (D (F := F))) 𝒱 (c.tc : Thread nD τ) none) Set.univ
          (Prog.lift (.customCall (SparseCore.inner (Pipeline.entry 0)) ())) Q := by
  have h := (K (F := F)).wp_liftProg (D (F := F)) 𝒱 (c.tc : Thread nD τ) Set.univ none (.op (.customCall (Pipeline.entry 0) ()) fun _ => pure ⟨⟩) Q
  exact h

/-- The region's call inside the whole program. -/
theorem region_wp [∀ e, Nonempty (Elt F e)] (c : Dev nD) (Q : PUnit → sProp 𝕄) :
    iprop((After V c -∗ Q ⟨⟩) ∗ Before V c)
      ⊢ wp frame (wpE ((K (F := F)).defs (D (F := F))) 𝒱 (c.tc : Thread nD τ) none) Set.univ
          (Prog.lift (.customCall (SparseCore.inner (Pipeline.entry 0)) ())) Q :=
  (BI.sep_mono (reg_left V c Q) (reg_entered V c)).trans ((reg_wp V c Q).trans (region_lift c Q))

end Cert.KernelIdeal.Run

end
-- ==== Proof.Main.lean ====
/- The whole program's run: the host's operations, the gather, the dense kernel's region, and what every buffer holds at the end. -/
module

public import proofs.«01_k».proof.Proof.Calls
public import proofs.«01_k».proof.Proof.HostOps
public import proofs.«01_k».proof.Proof.RegionRun
public import Idealize.ShloMosaic.Lib.SparseCore.Quiescent

@[expose] public section

noncomputable section

namespace Cert.KernelIdeal.Run

open Cert.KernelIdeal Cert.KernelIdeal.Gen Cert.KernelIdeal.Host
open Idealize.ShloMosaic Idealize.ShloMosaic.TcCoe
open Idealize.ShloMosaic.StableHlo (held seq after launchContents)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-- The references of the gather's three buffers. -/
abbrev tabRef : DevRef τ sig := Proc.devRef .tc main_v43
abbrev lstRef : DevRef τ sig := Proc.devRef .tc main_v51
abbrev outRef : DevRef τ sig := Proc.devRef .tc main_v52

/-- What device `d`'s buffers hold before the gather, after it, before the dense kernel, after it, at the end. -/
def V1 (d : Dev nD) : Valuation τ sig (Elt F) := after opsBefore (launchContents m d)
def V2 (d : Dev nD) : Valuation τ sig (Elt F) := Function.update (V1 m d) outRef (gout (V1 m d tabRef) (V1 m d lstRef))
def V3 (d : Dev nD) : Valuation τ sig (Elt F) := after opsDense (V2 m d)
def V4 (d : Dev nD) : Valuation τ sig (Elt F) := afterDense (V3 m) d
def V5 (d : Dev nD) : Valuation τ sig (Elt F) := after opsLast (V4 m d)

/-- The gather's payload at those contents. -/
abbrev PP : (K (F := F)).Pay (nD := nD) (Val := Elt F) (Name := ℕ) (U := UU) :=
  P (fun d => V1 m d tabRef) (fun d => V1 m d lstRef) (fun d => V1 m d outRef)

/-! ## The ghost state at launch -/

def u₀ : UU := (initOf (K (F := F)).hsCells (K (F := F)).hsToks,
  (initOf (Pipeline.cells (nD := nD) (τ := τ) (Pipeline.pin (pcfgs (F := F)) adm) cells_inj) (Pipeline.launchToks (nD := nD) (τ := τ) (Pipeline.pin (pcfgs (F := F)) adm) cells_inj), 1))

/-- What the region's pipeline takes from it. -/
abbrev G (d : Dev nD) : sProp 𝕄 := iprop(Pipeline.cellsGhost (Pipeline.pin (pcfgs (F := F)) adm) EP 0 d ∗ Pipeline.toksInit (Pipeline.pin (pcfgs (F := F)) adm) EP 0 d)

theorem ghost_G : iprop((bigSep Finset.univ fun c : Dev nD => bigSep Finset.univ fun p : Fin 1 => Pipeline.cellsGhost (Pipeline.pin (pcfgs (F := F)) adm) EP p c)
      ∗ (bigSep Finset.univ fun c : Dev nD => bigSep Finset.univ fun p : Fin 1 => (Pipeline.toksInit (Pipeline.pin (pcfgs (F := F)) adm) EP p c : sProp 𝕄)))
    ⊢ bigSep Finset.univ G := by
  rw [bigSep_sep']
  refine BI.sep_mono (Entails.of_eq (bigSep_congr fun d _ => ?_)) (Entails.of_eq (bigSep_congr fun d _ => ?_))
  · exact bigSep_univ_of_subsingleton (0 : Fin 1)
  · exact bigSep_univ_of_subsingleton (0 : Fin 1)

theorem x_emp : (bigSep Finset.univ fun thr : Thread nD τ => bigSep Finset.univ fun q : Fin 1 => (PP m).x q thr) = (iprop(emp) : sProp 𝕄) := by
  rw [show (bigSep Finset.univ fun thr : Thread nD τ => bigSep Finset.univ fun q : Fin 1 => (PP (F := F) m).x q thr) = bigSep Finset.univ fun _ => iprop(emp) from
    bigSep_congr fun _ _ => bigSep_univ_of_subsingleton (0 : Fin 1)]
  exact bigSep_emp_const _

theorem hu₀ : (ownU (u₀ (F := F)) : sProp 𝕄)
    ⊢ |={Set.univ}=> iprop(BI.own (EH (initOf (K (F := F)).hsCells (K (F := F)).hsToks)) ∗ bigSep Finset.univ (G (F := F))
        ∗ bigSep Finset.univ fun thr : Thread nD τ => bigSep Finset.univ fun q : Fin 1 => (PP m).x q thr) := by
  rw [x_emp]
  have hG := ghost_G (F := F)
  have hf := Pipeline.fund_ghost (Ix := HIx 1) (Val := Elt F) (Name := ℕ) (U := UU) (Lvl := ℕ) (Pipeline.pin (pcfgs (F := F)) adm) EP (cells_inj (F := F))
  unfold u₀
  iintro Hu
  ihave H := (ownU_pair (initOf (K (F := F)).hsCells (K (F := F)).hsToks) _) $$ Hu
  icases H with ⟨HH, HR⟩
  ihave H := (own_pair_emb embR _ (1 : Counters)) $$ HR
  icases H with ⟨HP, -⟩
  imod hf $$ HP with HG
  ihave HG' := hG $$ HG
  imodintro
  isplitl [HH]; · iexact HH
  isplitl [HG']; · iexact HG'
  iempintro

/-! ## The TensorCore's program -/

/-- The gather's three buffers. -/
def three : Finset (DevRef τ sig) := {lstRef, tabRef, outRef}

theorem three_sub : three ⊆ Pipeline.ucRefs τ sig := by
  intro b hb
  simp only [three, Finset.mem_insert, Finset.mem_singleton] at hb
  rcases hb with rfl | rfl | rfl
  all_goals exact Finset.mem_filter.mpr ⟨StableHlo.devRef_mem_tcRefs _, by decide⟩

theorem held_three (d : Dev nD) (W : Valuation τ sig (Elt F)) : (held (d.tc : Thread nD τ) (Pipeline.ucRefs τ sig) W : sProp 𝕄)
    = iprop(((lstLoc d ↦{fullShare} W lstRef) ∗ (tabLoc d ↦{fullShare} W tabRef) ∗ (outLoc d ↦{fullShare} W outRef))
        ∗ held (d.tc : Thread nD τ) (Pipeline.ucRefs τ sig \ three) W) := by
  rw [StableHlo.held_sub_split _ three_sub]
  congr 1
  unfold held three
  rw [SparseCore.bigSep_insert' (by decide), SparseCore.bigSep_insert' (by decide), bigSep_singleton]

theorem V2_lst (d : Dev nD) : V2 m d lstRef = V1 m d lstRef := Function.update_of_ne (by decide) _ _
theorem V2_tab (d : Dev nD) : V2 m d tabRef = V1 m d tabRef := Function.update_of_ne (by decide) _ _
theorem V2_out (d : Dev nD) : V2 m d outRef = gout (V1 m d tabRef) (V1 m d lstRef) := Function.update_self ..
theorem V2_rest (d : Dev nD) : (held (d.tc : Thread nD τ) (Pipeline.ucRefs τ sig \ three) (V2 m d) : sProp 𝕄)
    = held (d.tc : Thread nD τ) (Pipeline.ucRefs τ sig \ three) (V1 m d) :=
  StableHlo.held_congr _ fun b hb => Function.update_of_ne (fun e => (Finset.mem_sdiff.mp hb).2 (by subst e; decide)) _ _

/-- The gather, from the buffers before it to the buffers after it. -/
theorem gather_wp (κ : GSem nD τ sig → ℕ) (d : Dev nD) (Q : PUnit → sProp 𝕄) :
    iprop((K (F := F)).ctx EH (PP m) κ ∗ (K (F := F)).tcSt EH d 0 ∗ held (d.tc : Thread nD τ) (Pipeline.ucRefs τ sig) (V1 m d)
        ∗ (((K (F := F)).tcSt EH d 1 ∗ held (d.tc : Thread nD τ) (Pipeline.ucRefs τ sig) (V2 m d)) -∗ Q ⟨⟩))
      ⊢ wp frame (wpE ((K (F := F)).defs (D (F := F))) 𝒱 (d.tc : Thread nD τ) none) Set.univ ((K (F := F)).run d 0) Q := by
  have hs := st_eq (fun d => V1 m d tabRef) (fun d => V1 m d lstRef) (fun d => V1 m d outRef) d
  have hd := dn_eq (fun d => V1 m d tabRef) (fun d => V1 m d lstRef) (fun d => V1 m d outRef) d
  rw [held_three, held_three, V2_rest, V2_lst, V2_tab, V2_out, ← hs, ← hd]
  iintro ⟨Hctx, Hst, ⟨H3, Hrest⟩, Hk⟩
  iapply ((K (F := F)).wp_run (D (F := F)) 𝒱 (EH := EH) (P := PP m) κ d 0) $$ [Hctx Hst H3 Hrest Hk]
  isplitl [Hctx]; · iexact Hctx
  isplitl [Hst]; · iexact Hst
  isplitl [H3]; · iexact H3
  iintro ⟨Hst, Hdn⟩
  iapply Hk
  isplitl [Hst]; · iexact Hst
  isplitl [Hdn]; · iexact Hdn
  iexact Hrest

/-- What the TensorCore owes between the calls, taken out of its state after the gather and put back. -/
theorem tcSt_owes (d : Dev nD) : ((K (F := F)).tcSt EH d 1 : sProp 𝕄)
    ⊢ iprop((∃ Wd, owes (d.tc : Thread nD τ) (0 : CellTallies nD τ sig (HIx 1)) Wd)
        ∗ ((∃ Wd, owes (d.tc : Thread nD τ) (0 : CellTallies nD τ sig (HIx 1)) Wd) -∗ (K (F := F)).tcSt EH d 1)) := by
  unfold SparseCore.Cfg.tcSt
  rw [(K (F := F)).Otc_end d (le_refl 1)]
  iintro ⟨⟨%W, -, HO⟩, Hr⟩
  isplitl [HO]
  · iexists W; iexact HO
  iintro ⟨%W', HO⟩
  isplitl [HO]
  · iexists W'
    isplitr
    · ipureintro
      intro p _
      rcases h : p.2 with _ | q
      · exact Nat.zero_le _
      · refine ((K (F := F)).lev_some_le _ q).trans ?_
        have : q.val = 0 := by omega
        rw [this]; decide
    iexact HO
  iexact Hr

abbrev FIN (d : Dev nD) : sProp 𝕄 := held (d.tc : Thread nD τ) (Pipeline.ucRefs τ sig) (V5 m d)

set_option maxHeartbeats 1000000 in
theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ G d)
      ⊢ wp frame (wpE ((K (F := F)).defs (D (F := F))) 𝒱 (d.tc : Thread nD τ) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((d.tc : Thread nD τ).loc b)) : sProp 𝕄) = held (d.tc : Thread nD τ) (Pipeline.ucRefs τ sig) (launchContents m d) from
    Pipeline.unscopedBufs_held d (launchContents m d), main_eq]
  iintro ⟨#Hctx, Hst, ⟨Hb, Hheld, Hts, -⟩, Hg⟩
  iapply (StableHlo.wp_seq 𝒱 none Set.univ d (Pipeline.ucRefs τ sig) _ opsBefore (fun op h => (before_plain op h).1) (fun op h => (before_plain op h).2) (launchContents m d)) $$ [Hb Hheld]
  · isplitl [Hb] <;> iassumption
  iintro ⟨Hb, Hheld⟩
  rw [wp_bind]
  iapply (gather_wp m κ d) $$ [Hst Hheld Hb Hts Hg]
  isplitr; · iexact Hctx
  isplitl [Hst]; · iexact Hst
  isplitl [Hheld]; · iexact Hheld
  iintro ⟨Hst, Hheld⟩
  iapply (StableHlo.wp_seq 𝒱 none Set.univ d (Pipeline.ucRefs τ sig) _ opsDense (fun op h => (dense_plain op h).1) (fun op h => (dense_plain op h).2) (V2 m d)) $$ [Hb Hheld]
  · isplitl [Hb] <;> iassumption
  iintro ⟨Hb, Hheld⟩
  rw [wp_bind]
  ihave H := (tcSt_owes d) $$ Hst
  icases H with ⟨HO, Hst⟩
  ihave Hlev := ((K (F := F)).ctx_levAts κ) $$ Hctx
  iapply (region_wp (V3 m) d) $$ [HO Hlev Hst Hheld Hb Hts Hg]
  isplitr [Hb Hheld HO Hlev Hg]
  · iintro ⟨Hb, Hheld, HO⟩
    iapply (StableHlo.wp_seq 𝒱 none Set.univ d (Pipeline.ucRefs τ sig) _ opsLast (fun op h => (last_plain op h).1) (fun op h => (last_plain op h).2) (V4 m d)) $$ [Hb Hheld]
    · isplitl [Hb]; · iexact Hb
      iexact Hheld
    iintro ⟨Hb, Hheld⟩
    rw [wp_pure]
    imodintro
    isplitl [Hst HO]
    · iapply Hst; iexact HO
    isplitl [Hheld]; · iexact Hheld
    isplitl [Hb]; · iexact Hb
    iexact Hts
  isplitl [Hb]; · iexact Hb
  isplitl [Hheld]; · iexact Hheld
  isplitl [HO]; · iexact HO
  isplitl [Hlev]; · iexact Hlev
  iexact Hg

/-! ## The run -/

/-- The final memory holds the unscoped buffers at `V5`. -/
def fq (d : Dev nD) (s' : Phys nD τ sig (Elt F)) : Prop := ∀ b ∈ Pipeline.ucRefs τ sig, s'.mem.mem (d, b) = V5 m d b

theorem hfin (d : Dev nD) (s' : Phys nD τ sig (Elt F)) : iprop(FIN m d ∗ SI s') ⊢ (⌜fq m d s'⌝ : sProp 𝕄) := by
  exact (pointsTo_read_all (Pipeline.ucRefs τ sig) (fun b => (d, b)) (V5 m d) s').trans sep_elim_left

def QC : PUnit × MemSt nD τ sig (Elt F) → Prop := fun r =>
  (∀ c : Dev nD, ∀ b ∈ Pipeline.ucRefs τ sig, r.2.mem (c, b) = V5 m c b) ∧ r.2.sem = fun _ => 0

set_option maxRecDepth 16384 in
set_option maxHeartbeats 4000000 in
theorem run_main [∀ e, Nonempty (Elt F e)] (hin : ∀ d x, ((V1 m d lstRef : S32x30x128.Idx → BitVec 32) x).toNat < 4096) :
    θ_run (defs (F := F)) (threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl _ _ _ facts hin)
    (fun q _ => match q with | 0 => SparseCore.Cfg.VecSplit.of_plain (vecSplit _ _ _))
    m ρ main (G (F := F)) (FIN m) (u₀ (F := F)) (sep_elim_left.trans (hu₀ m)) (hmain m ρ) (fq m) (hfin m) (QC m) (fun _ h hz => ⟨h, hz⟩)

end Cert.KernelIdeal.Run

end
-- ==== Proof.Before.lean ====
/- What the host's operations leave before the gather: the arguments as they were, and the list of rows to gather. -/
module

public import proofs.«01_k».proof.Proof.Main

@[expose] public section

set_option maxRecDepth 16384

noncomputable section

namespace Cert.KernelIdeal.Run

open Cert.KernelIdeal Cert.KernelIdeal.Gen Cert.KernelIdeal.Host
open Idealize.ShloMosaic Idealize.ShloMosaic.TcCoe Idealize.ShloMosaic.StableHlo
open Idealize.SL.Sem

variable {F : FTy → Type} [FloatOps F] [Named F]
variable (m : (ℓ : Loc nD τ sig) → Buf (Elt F) ℓ)

/-- The contents after each group of operations before the gather. -/
def X0 (d : Dev nD) : Valuation τ sig (Elt F) := launchContents m d
def X1 (d : Dev nD) : Valuation τ sig (Elt F) := after opsChain (X0 m d)
def X2 (d : Dev nD) : Valuation τ sig (Elt F) := after opsCross (X1 m d)
def X3 (d : Dev nD) : Valuation τ sig (Elt F) := after opsBeta (X2 m d)
def X4 (d : Dev nD) : Valuation τ sig (Elt F) := after opsStarts (X3 m d)
def X5 (d : Dev nD) : Valuation τ sig (Elt F) := after opsOffset (X4 m d)
def X6 (d : Dev nD) : Valuation τ sig (Elt F) := after opsTable (X5 m d)

theorem V1_eq (d : Dev nD) : V1 m d = after opsList (X6 m d) := by
  simp only [V1, opsBefore, after_append, X6, X5, X4, X3, X2, X1, X0]

/-- A reference no operation before the gather writes. -/
theorem X6_keeps (d : Dev nD) (r : Ref sig .tc) (h : r ∉ opsChainW ++ opsCrossW ++ opsBetaW ++ opsStartsW ++ opsOffsetW ++ opsTableW) :
    X6 m d (Proc.devRef .tc r) = m ((d.tc : Thread nD τ).loc r) := by
  simp only [List.mem_append, not_or] at h
  obtain ⟨⟨⟨⟨⟨h1, h2⟩, h3⟩, h4⟩, h5⟩, h6⟩ := h
  unfold X6; rw [after_of_writes_sub _ _ opsTable_writes h6]
  unfold X5; rw [after_of_writes_sub _ _ opsOffset_writes h5]
  unfold X4; rw [after_of_writes_sub _ _ opsStarts_writes h4]
  unfold X3; rw [after_of_writes_sub _ _ opsBeta_writes h3]
  unfold X2; rw [after_of_writes_sub _ _ opsCross_writes h2]
  unfold X1; rw [after_of_writes_sub _ _ opsChain_writes h1]
  rfl

theorem V1_keeps (d : Dev nD) (r : Ref sig .tc) (h : r ∉ opsListW)
    (h' : r ∉ opsChainW ++ opsCrossW ++ opsBetaW ++ opsStartsW ++ opsOffsetW ++ opsTableW) :
    V1 m d (Proc.devRef .tc r) = m ((d.tc : Thread nD τ).loc r) := by
  rw [V1_eq, after_of_writes_sub _ _ opsList_writes h, X6_keeps m d r h']

theorem V2_keeps (d : Dev nD) (r : Ref sig .tc) (h : r ≠ main_v52) : V2 m d (Proc.devRef .tc r) = V1 m d (Proc.devRef .tc r) :=
  Function.update_of_ne (fun e => h (Proc.devRef_injective _ e)) _ _

theorem V4_keeps (d : Dev nD) (r : Ref sig .tc) (h : r ≠ main_v72) : V4 m d (Proc.devRef .tc r) = V3 m d (Proc.devRef .tc r) :=
  Pipeline.afterRegion_keeps (dat (V3 m) d) (V3 m d) winFacts1.arr_inj (fun _ => rfl) r fun w e => by
    subst e
    revert h
    revert w
    decide

/-- A reference the program does not write ends as it began. -/
theorem V5_keeps (d : Dev nD) (r : Ref sig .tc) (h73 : r ∉ opsLastW) (h72 : r ≠ main_v72) (hd : r ∉ opsDenseW) (h52 : r ≠ main_v52)
    (h : r ∉ opsListW) (h' : r ∉ opsChainW ++ opsCrossW ++ opsBetaW ++ opsStartsW ++ opsOffsetW ++ opsTableW) :
    V5 m d (Proc.devRef .tc r) = m ((d.tc : Thread nD τ).loc r) := by
  unfold V5; rw [after_of_writes_sub _ _ opsLast_writes h73, V4_keeps m d r h72]
  unfold V3; rw [after_of_writes_sub _ _ opsDense_writes hd, V2_keeps m d r h52, V1_keeps m d r h h']

/-- Where the rows of each batch begin. -/
theorem X6_v46 (d : Dev nD) : (X6 m d (Proc.devRef .tc main_v46) : S4.Idx → BitVec 32)
    = muli (iotaInDim S4 32 0) (broadcastInDim S4 ![] bcast_S_S4 (constantI S_ 32 1024#32)) := by
  unfold X6
  after_results_simp

theorem V1_v51 (d : Dev nD) : (V1 m d lstRef : S32x30x128.Idx → BitVec 32)
    = shapeCast S32x30x128 (shapeCast S122880 (addi (m ((d.tc : Thread nD τ).loc main_arg3) : S4x1024x30.Idx → BitVec 32)
        (broadcastInDim S4x1024x30 ![0, 1, 2] bcast_S4x1x1_S4x1024x30_0_1_2 (broadcastInDim S4x1x1 ![0] bcast_S4_S4x1x1_0
          (muli (iotaInDim S4 32 0) (broadcastInDim S4 ![] bcast_S_S4 (constantI S_ 32 1024#32))))))
        shapeCasts_S4x1024x30_S122880) shapeCasts_S122880_S32x30x128 := by
  have h3 := X6_keeps m d main_arg3 (by decide)
  have h46 := X6_v46 m d
  rw [V1_eq]
  after_results_simp
  rw [h3, h46]
  rfl

end Cert.KernelIdeal.Run

end
-- ==== Proof.Admitted.lean ====
/- What the precondition says of the two integer arguments, and with it the claims that the kernel runs and keeps its arguments. -/
module

public import proofs.«01_k».proof.Defs
public import proofs.«01_k».proof.Proof.Before
public import Idealize.ShloMosaic.Lib.ReduceAll

@[expose] public section

set_option maxRecDepth 16384

noncomputable section

namespace Cert.KernelIdeal.Run

open Cert.KernelIdeal Cert.KernelIdeal.Gen Cert.KernelIdeal.Host
open Idealize.ShloMosaic Idealize.ShloMosaic.TcCoe Idealize.ShloMosaic.StableHlo
open Idealize.SL.Sem

variable {F : FTy → Type} [FloatOps F] [Named F]
variable (m : (ℓ : Loc nD τ sig) → Buf (Elt F) ℓ)

/-- Every chain label is below 4 and every neighbour below 1024. -/
structure InRange : Prop where
  chain : ∀ (d : Dev nD) (x : S4x1024.Idx), ((m ((d.tc : Thread nD τ).loc main_arg1) : S4x1024.Idx → BitVec 32) x).toNat < 4
  nbr : ∀ (d : Dev nD) (x : S4x1024x30.Idx), ((m ((d.tc : Thread nD τ).loc main_arg3) : S4x1024x30.Idx → BitVec 32) x).toNat < 1024

theorem word_range {n : ℕ} (hn : n < 2 ^ 31) (v : BitVec 32) (h : IntOp.andi (IntOp.cmpi .sge v 0#32) (IntOp.cmpi .slt v (BitVec.ofNat 32 n)) = 1#1) :
    v.toNat < n := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at h
  have h2 : n % 4294967296 = n := Nat.mod_eq_of_lt (by omega)
  rw [h2] at h
  omega

theorem and_one {a b : BitVec 1} (h : IntOp.andi a b = 1#1) : a = 1#1 ∧ b = 1#1 := by
  revert h; revert a b; decide

theorem inRange_of [hP : Cert.Pre_in_range.Facts]
    (h : ∀ c : Dev nD, Cert.Pre_in_range.fn (F := F) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (m ((c.tc : Thread nD τ).loc main_arg9)) = fun _ => 1#1) : InRange m where
  chain d x := by
    have e := congrFun (h d) x
    simp only [Pre_in_range.fn, andi, cmpi, broadcastInDim, constantI] at e
    exact word_range (by decide) _ (and_one e).1
  nbr d x := by
    have e := congrFun (h d) (hP.reducesTo_S4x1024x30_S4x1024_d2.drop x)
    simp only [Pre_in_range.fn, andi] at e
    have e' := Host.reduce_andi_eq_one _ _ _ _ _ (and_one e).2 x rfl
    simp only [andi, cmpi, broadcastInDim, constantI] at e'
    exact word_range (by decide) _ e'

/-- The list before it is cut into the tiles' parts: the neighbour's row in the table of all four batches. -/
def rows (d : Dev nD) : S4x1024x30.Idx → BitVec 32 := addi (m ((d.tc : Thread nD τ).loc main_arg3) : S4x1024x30.Idx → BitVec 32)
        (broadcastInDim S4x1024x30 ![0, 1, 2] bcast_S4x1x1_S4x1024x30_0_1_2 (broadcastInDim S4x1x1 ![0] bcast_S4_S4x1x1_0
          (muli (iotaInDim S4 32 0) (broadcastInDim S4 ![] bcast_S_S4 (constantI S_ 32 1024#32)))))

/-- The index of batch `b`'s residue `i` and its neighbour `k`. -/
def edge (b : Fin 4) (i : Fin 1024) (k : Fin 30) : S4x1024x30.Idx
  | 0 => b
  | 1 => i
  | 2 => k

theorem start_at : ∀ y : Fin 4, ((broadcastInDim S4x1024x30 ![0, 1, 2] bcast_S4x1x1_S4x1024x30_0_1_2 (broadcastInDim S4x1x1 ![0] bcast_S4_S4x1x1_0
          (muli (iotaInDim S4 32 0) (broadcastInDim S4 ![] bcast_S_S4 (constantI S_ 32 1024#32)))) (edge y 0 0))).toNat = 1024 * y.val := by
  decide +kernel

theorem rows_at (h : InRange m) (d : Dev nD) (y : S4x1024x30.Idx) :
    (rows m d y).toNat = 1024 * (y 0).val + ((m ((d.tc : Thread nD τ).loc main_arg3) : S4x1024x30.Idx → BitVec 32) y).toNat := by
  have h1 := h.nbr d y
  have h2 := start_at (y 0)
  have h3 : (broadcastInDim S4x1024x30 ![0, 1, 2] bcast_S4x1x1_S4x1024x30_0_1_2 (broadcastInDim S4x1x1 ![0] bcast_S4_S4x1x1_0
          (muli (iotaInDim S4 32 0) (broadcastInDim S4 ![] bcast_S_S4 (constantI S_ 32 1024#32)))) y).toNat = 1024 * (y 0).val := by
    rw [← h2]; rfl
  have h4 : (y 0).val < 4 := (y 0).isLt
  show (IntOp.addi _ _).toNat = _
  simp only [IntOp.addi, BitVec.toNat_add]
  rw [h3]
  omega

/-- The rows the gather is told to take lie in the table. -/
theorem list_ok (h : InRange m) (d : Dev nD) (x : S32x30x128.Idx) : ((V1 m d lstRef : S32x30x128.Idx → BitVec 32) x).toNat < 4096 := by
  rw [V1_v51]
  have h0 : ∀ y, (rows m d y).toNat < 4096 := fun y => by
    rw [rows_at m h d y]
    have h1 := h.nbr d y
    have h4 : (y 0).val < 4 := (y 0).isLt
    omega
  exact h0 _

/-- The kernel's run: it ends with every argument as it was, every counter at zero, and each buffer of the program at `V5`. -/
theorem run_args [∀ e, Nonempty (Elt F e)] (ρ : Dev nD → PrngReg) (h : InRange m) :
    θ_run (defs (F := F)) (threads (F := F)) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.mem ((c.tc : Thread nD τ).loc main_v73) = V5 m c (Proc.devRef .tc main_v73))
      ∧ r.2.sem = fun _ => 0) := by
  refine (θ_run (defs (F := F)) (threads (F := F)) _).mono (fun r hr => ⟨fun c => ?_, hr.2⟩) (run_main m ρ (list_ok m h))
  have at_ref : ∀ r' : Ref sig .tc, r'.isScoped = false → r.2.mem ((c.tc : Thread nD τ).loc r') = V5 m c (Proc.devRef .tc r') := fun r' hs =>
    hr.1 c _ (Finset.mem_filter.mpr ⟨StableHlo.devRef_mem_tcRefs _, fun h' => Bool.false_ne_true (hs.symm.trans h')⟩)
  have keep : ∀ r' : Ref sig .tc, r'.isScoped = false → r' ∉ opsLastW → r' ≠ main_v72 → r' ∉ opsDenseW → r' ≠ main_v52 → r' ∉ opsListW →
      r' ∉ opsChainW ++ opsCrossW ++ opsBetaW ++ opsStartsW ++ opsOffsetW ++ opsTableW →
      r.2.mem ((c.tc : Thread nD τ).loc r') = m ((c.tc : Thread nD τ).loc r') := fun r' hs h1 h2 h3 h4 h5 h6 =>
    (at_ref r' hs).trans (V5_keeps m c r' h1 h2 h3 h4 h5 h6)
  exact ⟨⟨keep main_arg0 rfl (by decide) (by decide) (by decide) (by decide) (by decide) (by decide),
    keep main_arg1 rfl (by decide) (by decide) (by decide) (by decide) (by decide) (by decide),
    keep main_arg2 rfl (by decide) (by decide) (by decide) (by decide) (by decide) (by decide),
    keep main_arg3 rfl (by decide) (by decide) (by decide) (by decide) (by decide) (by decide),
    keep main_arg4 rfl (by decide) (by decide) (by decide) (by decide) (by decide) (by decide),
    keep main_arg5 rfl (by decide) (by decide) (by decide) (by decide) (by decide) (by decide),
    keep main_arg6 rfl (by decide) (by decide) (by decide) (by decide) (by decide) (by decide),
    keep main_arg7 rfl (by decide) (by decide) (by decide) (by decide) (by decide) (by decide),
    keep main_arg8 rfl (by decide) (by decide) (by decide) (by decide) (by decide) (by decide),
    keep main_arg9 rfl (by decide) (by decide) (by decide) (by decide) (by decide) (by decide)⟩, at_ref main_v73 rfl⟩

end Cert.KernelIdeal.Run

end
-- ==== Proof.Frames.lean ====
/-
  The frame claims: the kernel's two programs and the reference run to the end, fault nowhere, leave their
  arguments as they were and every counter at zero.
-/
module

public import proofs.«01_k».proof.Defs
public import proofs.«01_k».proof.Proof.Admitted
public import proofs.«01_k».proof.Proof.PlainAdmitted
public import proofs.«01_k».proof.Proof.Gen.ReferenceIdeal.Run

@[expose] public section

noncomputable section

namespace Cert.Frames

open Idealize.ShloMosaic Idealize.SL.Sem

/-- The shape relations the precondition's operations take. -/
instance preFacts : Cert.Pre_in_range.Facts := ⟨by decide, by decide, by decide, by decide⟩

theorem frame_kernel : Cert.quiescent_Kernel (hKernel := Cert.Kernel.Gen.facts) := fun m g hpre =>
  (θ_run _ _ _).mono (fun _ h => ⟨fun c => (h.1 c).1, h.2⟩)
    (Cert.Kernel.Run.run_args (F := Bits) m g (Cert.Kernel.Run.inRange_of m hpre))

theorem frame_ideal : Cert.quiescent_KernelIdeal (hKernelIdeal := Cert.KernelIdeal.Gen.facts) := fun m g hpre =>
  (θ_run _ _ _).mono (fun _ h => ⟨fun c => (h.1 c).1, h.2⟩)
    (Cert.KernelIdeal.Run.run_args (F := Ideal) m g (Cert.KernelIdeal.Run.inRange_of m hpre))

theorem frame_ref : Cert.quiescent_ReferenceIdeal (hReferenceIdeal := Cert.ReferenceIdeal.Gen.facts) := fun m g _ =>
  (θ_run _ _ _).mono (fun r h => ⟨fun c => (h c).2, sem_eq_zero_of_no_sems (by decide) r.2⟩)
    (Cert.ReferenceIdeal.Value.run (F := Ideal) m g)

theorem frame_ref_pre : Cert.quiescent_ReferenceIdeal_pre_in_range (hReferenceIdeal := Cert.ReferenceIdeal.Gen.facts) :=
  fun m g _ => frame_ref m g trivial

/-- The width's inverse is the constant the table names. -/
theorem named_width : Cert.preserves_Kernel_KernelIdeal :=
  IdealRules.named_const.statement _ _ _ _ _ rfl

end Cert.Frames

end
-- ==== Proof.Maths.lean ====
/-
  The arithmetic that the kernel and the reference differ by, over the extended reals: a value read as a sum of two
  parts, the distance of two atoms and the bump of it, the LayerNorm's reciprocal root.
-/
module

public import Idealize.ShloMosaic.PureOps
public import Idealize.ShloMosaic.PureOps.Ideal.Laws

@[expose] public section

noncomputable section

namespace Cert.Maths

open Idealize.ShloMosaic

/-- A value as the kernel's split products read it: the value itself and the part that its narrow copy leaves. -/
def twice (x : EReal) : EReal := x + (x - x)

theorem twice_coe (r : ℝ) : twice (r : EReal) = (r : EReal) := by
  unfold twice; rw [← EReal.coe_sub, sub_self, EReal.coe_zero, add_zero]

theorem twice_top : twice ⊤ = ⊥ := by
  unfold twice; simp

theorem twice_bot : twice ⊥ = ⊥ := by
  unfold twice; simp

/-- The smallest squared distance, as the literal spells it. -/
def tiny : EReal := Ideal.ofBits .f32 0x358637BD#32

theorem tiny_real : ∃ e : ℝ, 0 < e ∧ tiny = (e : EReal) := by
  refine ⟨(1 * ((2 ^ 23 + 0x637BD : Nat) : ℝ) * (2 : ℝ) ^ ((107 : Int) - 127 - 23) : ℝ), by positivity, ?_⟩
  unfold tiny
  simp [Ideal.ofBits, Ideal.ieee, -EReal.coe_mul]

/-- What LayerNorm adds to the variance. -/
def small : EReal := Ideal.ofBits .f32 0x3727C5AC#32

theorem small_real : ∃ e : ℝ, 0 < e ∧ small = (e : EReal) := by
  refine ⟨(1 * ((2 ^ 23 + 0x27C5AC : Nat) : ℝ) * (2 : ℝ) ^ ((110 : Int) - 127 - 23) : ℝ), by positivity, ?_⟩
  unfold small
  simp [Ideal.ofBits, Ideal.ieee, -EReal.coe_mul]

theorem ofBits_zero : Ideal.ofBits .f32 0x00000000#32 = 0 := by
  simp [Ideal.ofBits, Ideal.ieee, -EReal.coe_mul]

theorem ofBits_width : Ideal.ofBits .f32 0x3FA00000#32 = ((5 / 4 : ℝ) : EReal) := by
  simp [Ideal.ofBits, Ideal.ieee, -EReal.coe_mul]; norm_num

theorem ofBits_lanes : Ideal.ofBits .f32 0x43000000#32 = ((128 : ℝ) : EReal) := by
  simp [Ideal.ofBits, Ideal.ieee, -EReal.coe_mul]; norm_num

theorem ofBits_quarter : Ideal.ofBits .f32 0x3E800000#32 = ((1 / 4 : ℝ) : EReal) := by
  simp [Ideal.ofBits, Ideal.ieee, -EReal.coe_mul]; norm_num

theorem ofBits_four : Ideal.ofBits .f32 0x40800000#32 = ((4 : ℝ) : EReal) := by
  simp [Ideal.ofBits, Ideal.ieee, -EReal.coe_mul]; norm_num

theorem ofBits_32 : Ideal.ofBits .f32 0x42000000#32 = ((32 : ℝ) : EReal) := by
  simp [Ideal.ofBits, Ideal.ieee, -EReal.coe_mul]; norm_num

theorem ofBits_64 : Ideal.ofBits .f32 0x42800000#32 = ((64 : ℝ) : EReal) := by
  simp [Ideal.ofBits, Ideal.ieee, -EReal.coe_mul]; norm_num

theorem ofBits_65 : Ideal.ofBits .f32 0x42820000#32 = ((65 : ℝ) : EReal) := by
  simp [Ideal.ofBits, Ideal.ieee, -EReal.coe_mul]; norm_num

theorem ofBits_one_narrow : Ideal.ofBits .bf16 0x3F80#16 = 1 := by
  simp [Ideal.ofBits, Ideal.ieee, -EReal.coe_mul]; norm_num

theorem ofBits_zero_narrow : Ideal.ofBits .bf16 0x0000#16 = 0 := by
  simp [Ideal.ofBits, Ideal.ieee, -EReal.coe_mul]

/-- A word whose exponent is not the largest one is a real number. -/
theorem ofBits_real (b : BitVec 32) (h : (b.extractLsb' 23 8).toNat ≠ 255) :
    ∃ r : ℝ, Ideal.ofBits .f32 b = (r : EReal) := by
  show ∃ r : ℝ, Ideal.ieee 8 23 b = (r : EReal)
  unfold Ideal.ieee
  simp only
  rw [if_neg (by simpa using h)]
  split
  · exact ⟨_, rfl⟩
  · exact ⟨_, rfl⟩

/-! ## The distance of two atoms and its bump -/

/-- A squared coordinate difference as the kernel computes it. -/
def part (a b : Fin 3 → EReal) (c : Fin 3) : EReal :=
  (twice (a c) - twice (b c)) * (twice (a c) - twice (b c))

/-- The kernel's distance of two atoms. -/
def kerDist (a b : Fin 3 → EReal) : EReal :=
  Ideal.sqrt (((∑ c, part a b c) + ∑ c, (part a b c - part a b c)) + tiny)

/-- The reference's distance of two atoms. -/
def refDist (a b : Fin 3 → EReal) : EReal :=
  Ideal.sqrt ((∑ c, (a c - b c) * (a c - b c)) + tiny)

/-- The kernel's bump about `μ`. -/
def kerBump (t μ : EReal) : EReal :=
  Ideal.exp (0 - ((t - μ) * ((4 / 5 : ℝ) : EReal)) * ((t - μ) * ((4 / 5 : ℝ) : EReal)))

/-- The reference's bump about `μ`. -/
def refBump (t μ : EReal) : EReal :=
  Ideal.exp (-(Ideal.div (t - μ) ((5 / 4 : ℝ) : EReal) * Ideal.div (t - μ) ((5 / 4 : ℝ) : EReal)))

theorem div_width (x : EReal) : Ideal.div x ((5 / 4 : ℝ) : EReal) = x * ((4 / 5 : ℝ) : EReal) := by
  unfold Ideal.div
  rw [if_neg (by norm_num [EReal.coe_eq_zero]), ← EReal.coe_inv]
  norm_num

theorem refBump_eq_kerBump (t μ : EReal) : refBump t μ = kerBump t μ := by
  unfold refBump kerBump
  rw [div_width, zero_sub]

theorem kerBump_top (m : ℝ) : kerBump ⊤ (m : EReal) = 0 := by
  unfold kerBump
  rw [EReal.top_sub_coe, EReal.top_mul_coe_of_pos (by norm_num), EReal.top_mul_top]; rfl

theorem kerBump_bot (m : ℝ) : kerBump ⊥ (m : EReal) = 0 := by
  unfold kerBump
  rw [EReal.bot_sub, EReal.bot_mul_coe_of_pos (by norm_num), EReal.bot_mul_bot]; rfl

/-- The bump of a value is the same read in two parts. -/
theorem bump_twice (x : EReal) (m : ℝ) : kerBump (twice x) (m : EReal) = refBump x (m : EReal) := by
  rw [refBump_eq_kerBump]
  induction x using EReal.rec with
  | bot => rw [twice_bot]
  | coe r => rw [twice_coe]
  | top => rw [twice_top, kerBump_bot, kerBump_top]

theorem part_coe (a b : Fin 3 → ℝ) (c : Fin 3) :
    part (fun i => (a i : EReal)) (fun i => (b i : EReal)) c = (((a c - b c) * (a c - b c) : ℝ) : EReal) := by
  unfold part; rw [twice_coe, twice_coe, ← EReal.coe_sub, ← EReal.coe_mul]

/-- Where a coordinate is infinite the kernel's part is infinite, and what its narrow copy leaves is the junk. -/
theorem part_inf (a b : Fin 3 → EReal) (c : Fin 3) (h : ∀ r s : ℝ, ¬(a c = r ∧ b c = s)) : part a b c = ⊤ := by
  unfold part
  generalize a c = x at *
  generalize b c = y at *
  induction x using EReal.rec with
  | bot =>
    rw [twice_bot, EReal.bot_sub, EReal.bot_mul_bot]
  | top =>
    rw [twice_top, EReal.bot_sub, EReal.bot_mul_bot]
  | coe r =>
    induction y using EReal.rec with
    | bot => rw [twice_bot, twice_coe, EReal.coe_sub_bot, EReal.top_mul_top]
    | top => rw [twice_top, twice_coe, EReal.coe_sub_bot, EReal.top_mul_top]
    | coe s => exact absurd ⟨rfl, rfl⟩ (h r s)

theorem sub_sq_inf (x y : EReal) (h : ∀ r s : ℝ, ¬(x = r ∧ y = s)) : (x - y) * (x - y) = ⊤ := by
  induction x using EReal.rec with
  | bot => rw [EReal.bot_sub, EReal.bot_mul_bot]
  | top =>
    induction y using EReal.rec with
    | bot => rw [EReal.top_sub_bot, EReal.top_mul_top]
    | top => rw [EReal.sub_top, EReal.bot_mul_bot]
    | coe s => rw [EReal.top_sub_coe, EReal.top_mul_top]
  | coe r =>
    induction y using EReal.rec with
    | bot => rw [EReal.coe_sub_bot, EReal.top_mul_top]
    | top => rw [EReal.sub_top, EReal.bot_mul_bot]
    | coe s => exact absurd ⟨rfl, rfl⟩ (h r s)

/-- A square is never negative. -/
theorem sq_nonneg (x : EReal) : 0 ≤ x * x := by
  induction x using EReal.rec with
  | bot => rw [EReal.bot_mul_bot]; exact le_top
  | top => rw [EReal.top_mul_top]; exact le_top
  | coe r => rw [← EReal.coe_mul]; exact EReal.coe_nonneg.mpr (mul_self_nonneg r)

/-- A sum that holds the junk is the junk. -/
theorem sum_bot {ι : Type} [DecidableEq ι] (s : Finset ι) (f : ι → EReal) (i : ι) (hi : i ∈ s) (h : f i = ⊥) :
    ∑ j ∈ s, f j = ⊥ := by
  rw [← Finset.add_sum_erase s f hi, h, EReal.bot_add]

/-- A sum of values none negative that holds `⊤` is `⊤`. -/
theorem sum_top {ι : Type} [DecidableEq ι] (s : Finset ι) (f : ι → EReal) (hf : ∀ j ∈ s, 0 ≤ f j) (i : ι) (hi : i ∈ s)
    (h : f i = ⊤) : ∑ j ∈ s, f j = ⊤ := by
  rw [← Finset.add_sum_erase s f hi, h]
  refine EReal.top_add_of_ne_bot (ne_of_gt (lt_of_lt_of_le EReal.bot_lt_zero ?_))
  exact Finset.sum_nonneg fun j hj => hf j (Finset.mem_of_mem_erase hj)

/-- The bump of the kernel's distance is that of the reference's, infinite coordinates included. -/
theorem bump_dist (a b : Fin 3 → EReal) (m : ℝ) :
    kerBump (twice (kerDist a b)) (m : EReal) = refBump (refDist a b) (m : EReal) := by
  by_cases h : ∀ c, ∃ r s : ℝ, a c = r ∧ b c = s
  · choose f g hf hg using h
    obtain rfl : a = fun i => (f i : EReal) := funext hf
    obtain rfl : b = fun i => (g i : EReal) := funext hg
    have e : kerDist (fun i => (f i : EReal)) (fun i => (g i : EReal)) = refDist (fun i => (f i : EReal)) (fun i => (g i : EReal)) := by
      unfold kerDist refDist
      simp only [part_coe, ← EReal.coe_sub, ← EReal.coe_mul, sub_self, EReal.coe_zero, Finset.sum_const_zero, add_zero]
    rw [e, bump_twice]
  · push Not at h
    obtain ⟨c, hc⟩ := h
    have hc' : ∀ r s : ℝ, ¬(a c = r ∧ b c = s) := fun r s h => hc r s h.1 h.2
    have hk : kerDist a b = ⊥ := by
      unfold kerDist
      rw [sum_bot (f := fun c => part a b c - part a b c) _ c (Finset.mem_univ _)
        (by simp only [part_inf a b c hc', EReal.sub_top]), EReal.add_bot, EReal.bot_add]
      rfl
    have hr : refDist a b = ⊤ := by
      unfold refDist
      obtain ⟨e, _, he⟩ := tiny_real
      rw [sum_top (f := fun c => (a c - b c) * (a c - b c)) _ (fun j _ => sq_nonneg _) c (Finset.mem_univ _)
        (sub_sq_inf _ _ hc'), he, EReal.top_add_coe]
      rfl
    rw [hk, hr, twice_bot, kerBump_bot, refBump_eq_kerBump, kerBump_top]

/-! ## The LayerNorm's reciprocal root -/

/-- Off the negative values and zero, times the reciprocal root is over the root. -/
theorem mul_rsqrt (x v : EReal) (hv : 0 < v) : x * Ideal.rsqrt v = Ideal.div x (Ideal.sqrt v) := by
  induction v using EReal.rec with
  | bot => exact absurd hv (by simp)
  | top =>
    show x * 0 = Ideal.div x ⊤
    unfold Ideal.div
    rw [if_neg (by simp), EReal.inv_top]
  | coe r =>
    have hr : 0 < r := EReal.coe_pos.mp hv
    have h1 : Ideal.rsqrt (r : EReal) = (((Real.sqrt r)⁻¹ : ℝ) : EReal) := by
      show (if r < 0 then ⊥ else if r = 0 then ⊤ else (((Real.sqrt r)⁻¹ : ℝ) : EReal)) = _
      rw [if_neg (not_lt.mpr hr.le), if_neg hr.ne']
    have h2 : Ideal.sqrt (r : EReal) = ((Real.sqrt r : ℝ) : EReal) := by
      show (if r < 0 then ⊥ else ((Real.sqrt r : ℝ) : EReal)) = _
      rw [if_neg (not_lt.mpr hr.le)]
    rw [h1, h2]
    unfold Ideal.div
    rw [if_neg (by rw [EReal.coe_eq_zero]; exact (Real.sqrt_pos.mpr hr).ne'), ← EReal.coe_inv]

/-- The mean of squares and the small term is positive. -/
theorem variance_pos {ι : Type} [Fintype ι] (f : ι → EReal) :
    0 < Ideal.div (∑ i, f i * f i) ((128 : ℝ) : EReal) + small := by
  obtain ⟨e, he, h⟩ := small_real
  have h0 : 0 ≤ ∑ i, f i * f i := Finset.sum_nonneg fun i _ => sq_nonneg _
  have h1 : 0 ≤ Ideal.div (∑ i, f i * f i) ((128 : ℝ) : EReal) := by
    unfold Ideal.div
    rw [if_neg (by norm_num [EReal.coe_eq_zero]), ← EReal.coe_inv]
    exact mul_nonneg h0 (EReal.coe_nonneg.mpr (by norm_num))
  rw [h]
  exact lt_of_lt_of_le (EReal.coe_pos.mpr he) (le_add_of_nonneg_left h1)

end Cert.Maths

end
-- ==== Proof.Place.lean ====
/-
  The place of a residue pair in the position table: the kernel reads it out of one number per residue, four times
  the residue's number and the chain, the reference out of the two numbers.
-/
module

public import proofs.«01_k».proof.Proof.Maths

@[expose] public section

noncomputable section

namespace Cert.Maths

open Idealize.ShloMosaic

/-- The place as the kernel computes it from the two combined numbers. -/
def kerPlace (x y : EReal) : BitVec 32 :=
  Ideal.fptosi 32 (Scalar.select
    (Ideal.cmp .oeq ((x - y) - ((4 : ℝ) : EReal) * Ideal.liftRound Int.floor ((x - y) * ((1 / 4 : ℝ) : EReal))) 0)
    (min ((64 : ℝ) : EReal) (max 0 ((x - y) * ((1 / 4 : ℝ) : EReal) + ((32 : ℝ) : EReal)))) ((65 : ℝ) : EReal))

/-- One where two chains are the same, else zero. -/
def same (c e : BitVec 32) : BitVec 32 := (IntOp.cmpi .eq c e).setWidth 32

/-- The place as the reference computes it from the residue numbers and the chains. -/
def refPlace (x y : EReal) (c e : BitVec 32) : BitVec 32 :=
  IntOp.addi (IntOp.muli (IntOp.minsi 64#32 (IntOp.maxsi 0#32 (IntOp.addi (Ideal.fptosi 32 (x - y)) 32#32))) (same c e))
    (IntOp.muli (IntOp.subi 1#32 (same c e)) 65#32)

/-- The place as a number: the offset moved by 32 and clipped, 65 between chains. -/
def placeNat (d : ℤ) (c e : BitVec 32) : ℕ := if c = e then (max 0 (min 64 (d + 32))).toNat else 65

theorem placeNat_lt (d : ℤ) (c e : BitVec 32) : placeNat d c e < 66 := by
  unfold placeNat; split <;> omega

theorem fptosi_int (z : ℤ) (h : -2147483648 ≤ z ∧ z ≤ 2147483647) :
    Ideal.fptosi 32 ((z : ℝ) : EReal) = BitVec.ofInt 32 z := by
  unfold Ideal.fptosi
  congr 1
  show max _ (min _ (if (0 : ℝ) ≤ (z : ℝ) then ⌊(z : ℝ)⌋ else ⌈(z : ℝ)⌉)) = z
  rw [Int.floor_intCast, Int.ceil_intCast, ite_self]
  norm_num
  omega

theorem combined_toInt (r c : BitVec 32) (hr : -1000 ≤ r.toInt ∧ r.toInt ≤ 1000000) (hc : c.toNat < 4) :
    (IntOp.addi (IntOp.muli 4#32 r) c).toInt = 4 * r.toInt + c.toNat := by
  have hc' : c.toInt = (c.toNat : ℤ) := BitVec.toInt_eq_toNat_of_lt (by omega)
  have h4 : (4#32 : BitVec 32).toInt = 4 := by decide
  unfold IntOp.addi IntOp.muli
  rw [BitVec.toInt_add, BitVec.toInt_mul, h4, hc']
  have h1 : (4 * r.toInt).bmod (2 ^ 32) = 4 * r.toInt := Int.bmod_eq_of_le (by norm_num; omega) (by norm_num; omega)
  rw [h1]
  exact Int.bmod_eq_of_le (by norm_num; omega) (by norm_num; omega)

theorem kerPlace_eq (r s c e : BitVec 32) (hr : -1000 ≤ r.toInt ∧ r.toInt ≤ 1000000)
    (hs : -1000 ≤ s.toInt ∧ s.toInt ≤ 1000000) (hc : c.toNat < 4) (he : e.toNat < 4) :
    kerPlace (((IntOp.addi (IntOp.muli 4#32 r) c).toInt : ℝ) : EReal) (((IntOp.addi (IntOp.muli 4#32 s) e).toInt : ℝ) : EReal)
      = BitVec.ofNat 32 (placeNat (r.toInt - s.toInt) c e) := by
  rw [combined_toInt r c hr hc, combined_toInt s e hs he]
  have hz : (BitVec.ofNat 32 (placeNat (r.toInt - s.toInt) c e))
      = BitVec.ofInt 32 ((placeNat (r.toInt - s.toInt) c e : ℕ) : ℤ) := (BitVec.ofInt_natCast ..).symm
  rw [hz, ← fptosi_int _ (by have := placeNat_lt (r.toInt - s.toInt) c e; omega)]
  unfold kerPlace
  congr 1
  set a := r.toInt with ha
  set b := s.toInt with hb
  rw [← EReal.coe_sub, ← EReal.coe_mul]
  rw [show Ideal.liftRound Int.floor ((((((4 * a + c.toNat : ℤ) : ℝ) - ((4 * b + e.toNat : ℤ) : ℝ)) * (1 / 4) : ℝ)) : EReal)
      = ((⌊(((4 * a + c.toNat : ℤ) : ℝ) - ((4 * b + e.toNat : ℤ) : ℝ)) * (1 / 4)⌋ : ℝ) : EReal) from rfl]
  rw [← EReal.coe_mul, ← EReal.coe_sub]
  unfold placeNat
  by_cases h : c = e
  · subst h
    rw [if_pos rfl]
    have hd : (((4 * a + c.toNat : ℤ) : ℝ) - ((4 * b + c.toNat : ℤ) : ℝ)) * (1 / 4) = ((a - b : ℤ) : ℝ) := by push_cast; ring
    rw [hd, Int.floor_intCast]
    have h0 : (((4 * a + c.toNat : ℤ) : ℝ) - ((4 * b + c.toNat : ℤ) : ℝ)) - 4 * ((a - b : ℤ) : ℝ) = 0 := by push_cast; ring
    rw [h0]
    rw [show Ideal.cmp .oeq ((0 : ℝ) : EReal) 0 = 1#1 by simp [Ideal.cmp]]
    show min ((64 : ℝ) : EReal) (max 0 _) = _
    rw [← EReal.coe_add, ← EReal.coe_zero,
      ← Monotone.map_max EReal.coe_strictMono.monotone, ← Monotone.map_min EReal.coe_strictMono.monotone]
    congr 1
    have : (((max 0 (min 64 (a - b + 32))).toNat : ℕ) : ℤ) = min 64 (max 0 (a - b + 32)) := by omega
    rw [this]
    push_cast
    rfl
  · rw [if_neg h]
    have hne : c.toNat ≠ e.toNat := fun k => h (BitVec.eq_of_toNat_eq k)
    have h0 : (((4 * a + c.toNat : ℤ) : ℝ) - ((4 * b + e.toNat : ℤ) : ℝ))
        - 4 * ((⌊(((4 * a + c.toNat : ℤ) : ℝ) - ((4 * b + e.toNat : ℤ) : ℝ)) * (1 / 4)⌋ : ℤ) : ℝ) ≠ 0 := by
      intro k
      have k' : (4 * a + c.toNat : ℤ) - (4 * b + e.toNat : ℤ)
        - 4 * (⌊(((4 * a + c.toNat : ℤ) : ℝ) - ((4 * b + e.toNat : ℤ) : ℝ)) * (1 / 4)⌋ : ℤ) = 0 := by exact_mod_cast k
      omega
    have hcmp : Ideal.cmp .oeq ((((((4 * a + c.toNat : ℤ) : ℝ) - ((4 * b + e.toNat : ℤ) : ℝ))
        - 4 * ((⌊(((4 * a + c.toNat : ℤ) : ℝ) - ((4 * b + e.toNat : ℤ) : ℝ)) * (1 / 4)⌋ : ℤ) : ℝ) : ℝ)) : EReal) 0 = 0#1 := by
      unfold Ideal.cmp
      rw [decide_eq_false (by rw [EReal.coe_eq_zero]; exact h0)]; rfl
    rw [hcmp]
    show ((65 : ℝ) : EReal) = _
    norm_num

theorem refPlace_eq (r s c e : BitVec 32) (hr : -1000 ≤ r.toInt ∧ r.toInt ≤ 1000000)
    (hs : -1000 ≤ s.toInt ∧ s.toInt ≤ 1000000) :
    refPlace ((r.toInt : ℝ) : EReal) ((s.toInt : ℝ) : EReal) c e = BitVec.ofNat 32 (placeNat (r.toInt - s.toInt) c e) := by
  unfold refPlace
  rw [← EReal.coe_sub, ← Int.cast_sub, fptosi_int _ (by omega)]
  set a := r.toInt
  set b := s.toInt
  unfold placeNat
  by_cases h : c = e
  · subst h
    have h1 : same c c = 1#32 := by simp [same, IntOp.cmpi]
    rw [if_pos rfl, h1]
    unfold IntOp.addi IntOp.muli IntOp.subi
    rw [BitVec.mul_one, BitVec.sub_self, BitVec.zero_mul, BitVec.add_zero]
    apply BitVec.eq_of_toInt_eq
    have e1 : (BitVec.ofInt 32 (a - b) + 32#32).toInt = a - b + 32 := by
      rw [BitVec.toInt_add, BitVec.toInt_ofInt, show (32#32 : BitVec 32).toInt = 32 from by decide,
        Int.bmod_eq_of_le (n := a - b) (by norm_num; omega) (by norm_num; omega)]
      exact Int.bmod_eq_of_le (by norm_num; omega) (by norm_num; omega)
    have e2 : (BitVec.ofNat 32 (max 0 (min 64 (a - b + 32))).toNat).toInt = max 0 (min 64 (a - b + 32)) := by
      rw [BitVec.toInt_eq_toNat_of_lt (by rw [BitVec.toNat_ofNat]; omega), BitVec.toNat_ofNat]; omega
    have z0 : (0#32 : BitVec 32).toInt = 0 := by decide
    have z64 : (64#32 : BitVec 32).toInt = 64 := by decide
    rw [e2]
    unfold IntOp.minsi IntOp.maxsi
    simp only [BitVec.slt, decide_eq_true_eq, z0, z64, e1]
    split_ifs <;> simp_all <;> omega
  · have hb : (c == e) = false := beq_eq_false_iff_ne.mpr h
    have h1 : same c e = 0#32 := by simp [same, IntOp.cmpi, hb]
    rw [if_neg h, h1]
    unfold IntOp.addi IntOp.muli IntOp.subi
    rw [BitVec.mul_zero]
    decide

end Cert.Maths

end
-- ==== Proof.Tables.lean ====
/-
  The kernel's constant tables: which column reads which row, and the bumps' centres.
-/
module

public import proofs.«01_k».proof.KernelIdeal
public import proofs.«01_k».proof.ReferenceIdeal

@[expose] public section

noncomputable section

namespace Cert.Tables

open Idealize.ShloMosaic

/-- The pair of atoms (five times the first and the second) whose distance a block of 16 bumps reads; 6, the first
    block's, holds the given distance instead. -/
def pairOf (b : ℕ) : ℕ :=
  [6, 0, 12, 18, 24, 5, 7, 8, 9, 2, 3, 4, 22, 23, 17, 1, 11, 16, 21, 10, 15, 20, 14, 19, 13].getD b 0

theorem pairOf_lt : ∀ b < 25, pairOf b < 25 := by decide

theorem pairOf_ne (b : ℕ) (h : b ≠ 0) (hb : b < 25) : pairOf b ≠ 6 := by
  have : ∀ b : Fin 25, b.val ≠ 0 → pairOf b.val ≠ 6 := by decide
  exact this ⟨b, hb⟩ h

set_option maxRecDepth 100000 in
theorem lit0_all : ∀ i : Fin 1200, Cert.KernelIdeal.lit0 i
    = if i.val / 75 = 3 * (i.val % 75 / 15) + i.val % 75 % 3 then 0x3F80#16 else 0x0000#16 := by decide +kernel

set_option maxRecDepth 100000 in
theorem lit1_all : ∀ i : Fin 1200, Cert.KernelIdeal.lit1 i
    = if i.val / 75 = 3 * (i.val % 75 / 3 % 5) + i.val % 75 % 3 then 0x3F80#16 else 0x0000#16 := by decide +kernel

set_option maxRecDepth 100000 in
theorem lit2_all : ∀ i : Fin 1875, Cert.KernelIdeal.lit2 i
    = if i.val / 25 / 3 = i.val % 25 then 0x3F80#16 else 0x0000#16 := by decide +kernel

set_option maxRecDepth 100000 in
theorem lit3_all : ∀ i : Fin 10000, Cert.KernelIdeal.lit3 i
    = if i.val / 400 = pairOf (i.val % 400 / 16) then 0x3F80#16 else 0x0000#16 := by decide +kernel

set_option maxRecDepth 100000 in
theorem lit4_all : ∀ i : Fin 400, Cert.KernelIdeal.lit4 i
    = Cert.ReferenceIdeal.lit0 ⟨i.val % 16, Nat.mod_lt _ (by decide)⟩ := by decide +kernel

theorem centre_finite : ∀ i : Fin 16, ((Cert.ReferenceIdeal.lit0 i).extractLsb' 23 8).toNat ≠ 255 := by decide +kernel

end Cert.Tables

end
-- ==== Proof.Spec.lean ====
/-
  The result as plain formulas: the 25 blocks of 16 bumps, the row's LayerNorm; and the sums with a table of ones.
-/
module

public import proofs.«01_k».proof.Proof.Place
public import proofs.«01_k».proof.Proof.Tables

@[expose] public section

noncomputable section

namespace Cert.Maths

open Idealize.ShloMosaic Cert.Tables

/-- A row's mean. -/
def mean (e : Fin 128 → EReal) : EReal := Ideal.div (∑ x, e x) ((128 : ℝ) : EReal)

/-- A row's entry after the LayerNorm, scaled and shifted. -/
def norm (e g b : Fin 128 → EReal) (o : Fin 128) : EReal :=
  Ideal.div (e o - mean e) (Ideal.sqrt (Ideal.div (∑ x, (e x - mean e) * (e x - mean e)) ((128 : ℝ) : EReal) + small)) * g o + b o

/-- The centre of a bump. -/
def centre (i : Fin 16) : EReal := Ideal.ofBits .f32 (Cert.ReferenceIdeal.lit0 i)

theorem centre_real (i : Fin 16) : ∃ r : ℝ, centre i = (r : EReal) := ofBits_real _ (centre_finite i)

/-- What a block of bumps reads: the given distance, then the pairs' distances. -/
def blockDist (A B : ℕ → Fin 3 → EReal) (dn : EReal) (b : ℕ) : EReal :=
  if b = 0 then dn else refDist (A (pairOf b / 5)) (B (pairOf b % 5))

/-- One of the 400 bumps. -/
def bump (A B : ℕ → Fin 3 → EReal) (dn : EReal) (c : Fin 400) : EReal :=
  refBump (blockDist A B dn (c.val / 16)) (centre ⟨c.val % 16, Nat.mod_lt _ (by decide)⟩)

/-- A sum against a column holding a single one is that row's term. -/
theorem sum_one {n : ℕ} (f : Fin n → EReal) (m : Fin n) (g : Fin n → EReal)
    (hg : ∀ k, g k = if k.val = m.val then 1 else 0) : ∑ k, f k * g k = f m := by
  rw [Finset.sum_eq_single m]
  · rw [hg, if_pos rfl, mul_one]
  · intro k _ hk
    rw [hg, if_neg (fun h => hk (Fin.ext h)), mul_zero]
  · intro h; exact absurd (Finset.mem_univ m) h

/-- A sum against a column holding ones in three neighbouring rows is those rows' sum. -/
theorem sum_three (f : Fin 75 → EReal) (q : Fin 25) (g : Fin 75 → EReal)
    (hg : ∀ s, g s = if s.val / 3 = q.val then 1 else 0) : ∑ s, f s * g s = ∑ c : Fin 3, f ⟨3 * q.val + c.val, by omega⟩ := by
  rw [← Equiv.sum_comp (finProdFinEquiv (m := 25) (n := 3)) (fun s => f s * g s), Fintype.sum_prod_type,
    Finset.sum_eq_single q]
  · refine Finset.sum_congr rfl fun c _ => ?_
    have h : (finProdFinEquiv (q, c) : Fin (25 * 3)) = (⟨3 * q.val + c.val, by omega⟩ : Fin 75) :=
      Fin.ext (by show c.val + 3 * q.val = 3 * q.val + c.val; omega)
    rw [h, hg, if_pos (by show (3 * q.val + c.val) / 3 = q.val; omega), mul_one]
  · intro p _ hp
    refine Finset.sum_eq_zero fun c _ => ?_
    rw [hg, if_neg, mul_zero]
    intro h
    refine hp (Fin.ext ?_)
    have h' : (c.val + 3 * p.val) / 3 = q.val := h
    omega
  · intro h; exact absurd (Finset.mem_univ q) h

end Cert.Maths

end
-- ==== Proof.Target.lean ====
/-
  The result as a formula of the ten arguments, and the residue numbers with their range.
-/
module

public import proofs.«01_k».proof.Proof.Spec
public import proofs.«01_k».proof.Proof.Gen.KernelIdeal
public import Idealize.ShloMosaic.Lib.Pointwise

@[expose] public section

set_option maxRecDepth 16384

noncomputable section

namespace Cert.Target

open Idealize.ShloMosaic Cert.Maths Cert.Tables
open Cert.KernelIdeal Cert.KernelIdeal.Gen

variable (a0 : FVec Ideal S4x1024x4x3 .f32) (a1 : IVec S4x1024 32) (a3 : IVec S4x1024x30 32) (a4 : FVec Ideal S4x1024x30 .f32)
  (a5 : FVec Ideal S16x66 .f32) (a6 : FVec Ideal S16 .f32) (a7 : FVec Ideal S128x416 .f32) (a8 a9 : FVec Ideal S128 .f32)

/-- The two bond vectors at a residue. -/
def bond (b : Fin 4) (i : Fin 1024) (c : Fin 3) : EReal := a0 (ix4 b i 1 c) - a0 (ix4 b i 0 c)
def bond' (b : Fin 4) (i : Fin 1024) (c : Fin 3) : EReal := a0 (ix4 b i 2 c) - a0 (ix4 b i 1 c)

/-- Their cross product. -/
def cross (b : Fin 4) (i : Fin 1024) (c : Fin 3) : EReal :=
  bond a0 b i (c + 1) * bond' a0 b i (c + 2) - bond a0 b i (c + 2) * bond' a0 b i (c + 1)

/-- The virtual fifth atom. -/
def virt (b : Fin 4) (i : Fin 1024) (c : Fin 3) : EReal :=
  ((Ideal.ofBits .f32 0xBF152E13#32 * cross a0 b i c + Ideal.ofBits .f32 0x3F116A4D#32 * bond a0 b i c)
    - Ideal.ofBits .f32 0x3F0A69A8#32 * bond' a0 b i c) + a0 (ix4 b i 1 c)

/-- The five atoms of a residue. -/
def atom (b : Fin 4) (i : Fin 1024) (a : ℕ) (c : Fin 3) : EReal :=
  if h : a < 4 then a0 (ix4 b i ⟨a, h⟩ c) else virt a0 b i c

/-- How many chains have started before a residue. -/
def rank : IVec S4x1024 32 :=
  Host.reduceWindow IntOp.addi ![1, 1024] ![1, 1] ![0, 1023] ![0, 0]
    (concatenate S4x1024 1 [⟨S4x1, (broadcastInDim S4x1 ![] bcast_S_S4x1 (constantI S_ 32 0#32))⟩,
      ⟨S4x1023, (extui 32 (cmpi .ne (extractStridedSlice S4x1023 ![0, 1] a1 slices_S4x1024_S4x1023_0_1)
        (extractStridedSlice S4x1023 ![0, 0] a1 slices_S4x1024_S4x1023_0_0)) natLt_1_32)⟩] concatenates_S4x1_S4x1023_S4x1024_d1)
    (broadcastInDim S_ ![] bcast_S_S_ (constantI S_ 32 0#32)) reduceWindows_S4x1024_S4x1024_w1s1p0_0_w1024s1p1023_0 h_S_

/-- The residue numbers: 100 more at each chain's start, one number for the whole last chain. -/
def res (b : Fin 4) (i : Fin 1024) : BitVec 32 :=
  Scalar.select (IntOp.cmpi .eq (rank a1 (ix2 b i)) (rank a1 (ix2 b 1023))) 4294967196#32
    (IntOp.addi (IntOp.muli 100#32 (rank a1 (ix2 b i))) (BitVec.ofNat 32 i.val))

/-- The neighbour's number. -/
def nb (b : Fin 4) (i : Fin 1024) (k : Fin 30) : Fin 1024 := ⟨(a3 (ix3 b i k)).toNat % 1024, Nat.mod_lt _ (by decide)⟩

/-- The place of a residue and its neighbour. -/
def place (b : Fin 4) (i : Fin 1024) (k : Fin 30) : ℕ :=
  placeNat ((res a1 b i).toInt - (res a1 b (nb a3 b i k)).toInt) (a1 (ix2 b i)) (a1 (ix2 b (nb a3 b i k)))

theorem place_lt (b : Fin 4) (i : Fin 1024) (k : Fin 30) : place a1 a3 b i k < 66 := placeNat_lt _ _ _

/-- The features before the LayerNorm. -/
def feat (b : Fin 4) (i : Fin 1024) (k : Fin 30) (o : Fin 128) : EReal :=
  ∑ c : Fin 400, bump (atom a0 b i) (atom a0 b (nb a3 b i k)) (a4 (ix3 b i k)) c * a7 (ix2 o ⟨16 + c.val, by omega⟩)
    + ∑ x : Fin 16, (a5 (ix2 x ⟨place a1 a3 b i k, place_lt a1 a3 b i k⟩) + a6 (ix1 x)) * a7 (ix2 o ⟨x.val, by omega⟩)

/-- The result. -/
def out (b : Fin 4) (i : Fin 1024) (k : Fin 30) (o : Fin 128) : EReal :=
  norm (feat a0 a1 a3 a4 a5 a6 a7 b i k) (fun o => a8 (ix1 o)) (fun o => a9 (ix1 o)) o

/-! The range of the residue numbers. -/

theorem fold_le {α : Type} (g : α → BitVec 32) (hg : ∀ a, (g a).toNat ≤ 1) (l : List α) (acc : BitVec 32) :
    (l.foldl (fun r a => IntOp.addi r (g a)) acc).toNat ≤ acc.toNat + l.length := by
  induction l generalizing acc with
  | nil => simp
  | cons a l ih =>
    rw [List.foldl_cons, List.length_cons]
    refine (ih _).trans ?_
    have h1 : (IntOp.addi acc (g a)).toNat ≤ acc.toNat + (g a).toNat := by
      show (acc + g a).toNat ≤ _
      rw [BitVec.toNat_add]; exact Nat.mod_le _ _
    have := hg a
    omega

theorem starts_le (j : S4x1024.Idx) :
    (concatenate S4x1024 1 [⟨S4x1, (broadcastInDim S4x1 ![] bcast_S_S4x1 (constantI S_ 32 0#32))⟩,
      ⟨S4x1023, (extui 32 (cmpi .ne (extractStridedSlice S4x1023 ![0, 1] a1 slices_S4x1024_S4x1023_0_1)
        (extractStridedSlice S4x1023 ![0, 0] a1 slices_S4x1024_S4x1023_0_0)) natLt_1_32)⟩]
          concatenates_S4x1_S4x1023_S4x1024_d1 j : BitVec 32).toNat ≤ 1 := by
  idx_vars j
  pointwise
  split
  · decide
  · rw [BitVec.toNat_setWidth]
    exact (Nat.mod_le _ _).trans (Nat.le_of_lt_succ (BitVec.isLt _))

theorem rank_le (j : S4x1024.Idx) : (rank a1 j).toNat ≤ 1024 := by
  unfold rank Host.reduceWindow
  refine (fold_le _ (fun n => ?_) _ _).trans ?_
  · dsimp only
    split
    · exact starts_le a1 _
    · show (0#32 : BitVec 32).toNat ≤ 1
      decide
  · rw [List.length_finRange]
    show (0#32 : BitVec 32).toNat + _ ≤ _
    decide

theorem res_bound (b : Fin 4) (i : Fin 1024) : -1000 ≤ (res a1 b i).toInt ∧ (res a1 b i).toInt ≤ 1000000 := by
  unfold res Scalar.select
  split
  · constructor <;> decide
  · have h := rank_le a1 (ix2 b i)
    have e : (IntOp.addi (IntOp.muli 100#32 (rank a1 (ix2 b i))) (BitVec.ofNat 32 i.val)).toNat
        = 100 * (rank a1 (ix2 b i)).toNat + i.val := by
      show (100#32 * rank a1 (ix2 b i) + BitVec.ofNat 32 i.val).toNat = _
      rw [BitVec.toNat_add, BitVec.toNat_mul, BitVec.toNat_ofNat, BitVec.toNat_ofNat]
      have := i.isLt
      omega
    have e' := BitVec.toInt_eq_toNat_of_lt (x := IntOp.addi (IntOp.muli 100#32 (rank a1 (ix2 b i))) (BitVec.ofNat 32 i.val))
      (by have := i.isLt; omega)
    have := i.isLt
    omega

end Cert.Target

end
-- ==== Proof.Columns.lean ====
/-
  What the kernel's host operations leave in the table of residues, read at an index.
-/
module

public import proofs.«01_k».proof.Proof.Target
public import proofs.«01_k».proof.Proof.Before

@[expose] public section

set_option maxRecDepth 16384

noncomputable section

namespace Cert.KernelIdeal.Run

open Cert.KernelIdeal Cert.KernelIdeal.Gen Cert.KernelIdeal.Host
open Idealize.ShloMosaic Idealize.ShloMosaic.TcCoe Idealize.ShloMosaic.StableHlo
open Cert.Target

variable (W : Valuation τ sig (Elt Ideal)) (b : Fin 4) (i : Fin 1024) (c : Fin 3)

abbrev at0 : Vec Ideal S4x1024x4x3 .f32 := W (Proc.devRef .tc main_arg0)

theorem chain_v1 : (after opsChain W (Proc.devRef .tc main_v1) : S4x1024x3.Idx → EReal) (ix3 b i c) = at0 W (ix4 b i 0 c) := by
  after_results_simp
  pointwise

theorem chain_v3 : (after opsChain W (Proc.devRef .tc main_v3) : S4x1024x3.Idx → EReal) (ix3 b i c) = at0 W (ix4 b i 1 c) := by
  after_results_simp
  pointwise

theorem chain_v5 : (after opsChain W (Proc.devRef .tc main_v5) : S4x1024x3.Idx → EReal) (ix3 b i c) = at0 W (ix4 b i 2 c) := by
  after_results_simp
  pointwise

theorem chain_v7 : (after opsChain W (Proc.devRef .tc main_v7) : S4x1024x3.Idx → EReal) (ix3 b i c) = at0 W (ix4 b i 3 c) := by
  after_results_simp
  pointwise

theorem chain_v8 : (after opsChain W (Proc.devRef .tc main_v8) : S4x1024x3.Idx → EReal) (ix3 b i c) = bond (at0 W) b i c := by
  after_results_simp
  pointwise
  rfl

theorem chain_v9 : (after opsChain W (Proc.devRef .tc main_v9) : S4x1024x3.Idx → EReal) (ix3 b i c) = bond' (at0 W) b i c := by
  after_results_simp
  pointwise
  rfl

abbrev w3 : S4x1024x3.Idx → EReal := W (Proc.devRef .tc main_v3)
abbrev w8 : S4x1024x3.Idx → EReal := W (Proc.devRef .tc main_v8)
abbrev w9 : S4x1024x3.Idx → EReal := W (Proc.devRef .tc main_v9)
abbrev w10 : S4x1024x3.Idx → EReal := W (Proc.devRef .tc main_v10)

/-- One coordinate of every residue's vector. -/
abbrev lane0 (x : S4x1024x3.Idx → EReal) : FVec Ideal S4x1024 .f32 :=
  shapeCast S4x1024 (extractStridedSlice S4x1024x1 ![0, 0, 0] x slices_S4x1024x3_S4x1024x1_0_0_0) shapeCasts_S4x1024x1_S4x1024
abbrev lane1 (x : S4x1024x3.Idx → EReal) : FVec Ideal S4x1024 .f32 :=
  shapeCast S4x1024 (extractStridedSlice S4x1024x1 ![0, 0, 1] x slices_S4x1024x3_S4x1024x1_0_0_1) shapeCasts_S4x1024x1_S4x1024
abbrev lane2 (x : S4x1024x3.Idx → EReal) : FVec Ideal S4x1024 .f32 :=
  shapeCast S4x1024 (extractStridedSlice S4x1024x1 ![0, 0, 2] x slices_S4x1024x3_S4x1024x1_0_0_2) shapeCasts_S4x1024x1_S4x1024

/-- Three planes side by side, each replaced by an equal one. -/
theorem planes_congr {x x' y y' z z' : S1x4x1024.Idx → EReal} (hx : x = x') (hy : y = y') (hz : z = z') :
    concatenate S3x4x1024 0 [⟨S1x4x1024, x⟩, ⟨S1x4x1024, y⟩, ⟨S1x4x1024, z⟩] concatenates_S1x4x1024_S1x4x1024_S1x4x1024_S3x4x1024_d0
      = concatenate S3x4x1024 0 [⟨S1x4x1024, x'⟩, ⟨S1x4x1024, y'⟩, ⟨S1x4x1024, z'⟩]
        concatenates_S1x4x1024_S1x4x1024_S1x4x1024_S3x4x1024_d0 := by
  subst hx hy hz; rfl

theorem cross_vec : (after opsCross W (Proc.devRef .tc main_v10) : S4x1024x3.Idx → EReal)
    = transpose S4x1024x3 [1, 2, 0] (concatenate S3x4x1024 0
        [⟨S1x4x1024, broadcastInDim S1x4x1024 ![1, 2] bcast_S4x1024_S1x4x1024_1_2
            (subf (mulf (lane1 (w8 W)) (lane2 (w9 W))) (mulf (lane2 (w8 W)) (lane1 (w9 W))))⟩,
          ⟨S1x4x1024, broadcastInDim S1x4x1024 ![1, 2] bcast_S4x1024_S1x4x1024_1_2
            (subf (mulf (lane2 (w8 W)) (lane0 (w9 W))) (mulf (lane0 (w8 W)) (lane2 (w9 W))))⟩,
          ⟨S1x4x1024, broadcastInDim S1x4x1024 ![1, 2] bcast_S4x1024_S1x4x1024_1_2
            (subf (mulf (lane0 (w8 W)) (lane1 (w9 W))) (mulf (lane1 (w8 W)) (lane0 (w9 W))))⟩]
        concatenates_S1x4x1024_S1x4x1024_S1x4x1024_S3x4x1024_d0) transposes_S3x4x1024_S4x1024x3_1_2_0 := by
  after_results_simp
  refine congrArg (fun x : S3x4x1024.Idx → EReal => transpose S4x1024x3 [1, 2, 0] x transposes_S3x4x1024_S4x1024x3_1_2_0) ?_
  refine planes_congr ?_ ?_ ?_ <;> first | rfl | (after_results_simp; rfl)

theorem cross_v10 : (after opsCross W (Proc.devRef .tc main_v10) : S4x1024x3.Idx → EReal) (ix3 b i c)
    = w8 W (ix3 b i (c + 1)) * w9 W (ix3 b i (c + 2)) - w8 W (ix3 b i (c + 2)) * w9 W (ix3 b i (c + 1)) := by
  rw [cross_vec]
  fin_cases c <;> pointwise <;> rfl

theorem beta_v19 : (after opsBeta W (Proc.devRef .tc main_v19) : S4x1024x3.Idx → EReal) (ix3 b i c)
    = ((Ideal.ofBits .f32 0xBF152E13#32 * w10 W (ix3 b i c)
        + Ideal.ofBits .f32 0x3F116A4D#32 * w8 W (ix3 b i c))
      - Ideal.ofBits .f32 0x3F0A69A8#32 * w9 W (ix3 b i c))
      + w3 W (ix3 b i c) := by
  after_results_simp
  pointwise

theorem concat_congr {x x' : S4x1.Idx → BitVec 32} {y y' : S4x1023.Idx → BitVec 32} (hx : x = x') (hy : y = y') :
    concatenate S4x1024 1 [⟨S4x1, x⟩, ⟨S4x1023, y⟩] concatenates_S4x1_S4x1023_S4x1024_d1
      = concatenate S4x1024 1 [⟨S4x1, x'⟩, ⟨S4x1023, y'⟩] concatenates_S4x1_S4x1023_S4x1024_d1 := by
  subst hx hy; rfl

theorem starts_v26 : (after opsStarts W (Proc.devRef .tc main_v26) : S4x1024.Idx → BitVec 32)
    = rank (W (Proc.devRef .tc main_arg1) : S4x1024.Idx → BitVec 32) := by
  after_results_simp
  simp -implicitDefEqProofs only [StableHlo.TRef.toBuf, StableHlo.TRef.ofBuf, cast_cast, cast_eq]
  unfold rank
  refine congrArg (fun x : S4x1024.Idx → BitVec 32 => Host.reduceWindow IntOp.addi ![1, 1024] ![1, 1] ![0, 1023] ![0, 0] x
      (broadcastInDim S_ ![] bcast_S_S_ (constantI S_ 32 0#32)) reduceWindows_S4x1024_S4x1024_w1s1p0_0_w1024s1p1023_0 h_S_) ?_
  refine concat_congr ?_ ?_ <;> after_results_simp

theorem offset_vec : (after opsOffset W (Proc.devRef .tc main_v36) : S4x1024.Idx → BitVec 32)
    = select (cmpi .eq (W (Proc.devRef .tc main_v26) : S4x1024.Idx → BitVec 32)
        (broadcastInDim S4x1024 ![0, 1] bcast_S4x1_S4x1024_0_1
          (extractStridedSlice S4x1 ![0, 1023] (W (Proc.devRef .tc main_v26) : S4x1024.Idx → BitVec 32) slices_S4x1024_S4x1_0_1023)))
      (broadcastInDim S4x1024 ![] bcast_S_S4x1024 (constantI S_ 32 4294967196#32))
      (addi (muli (broadcastInDim S4x1024 ![] bcast_S_S4x1024 (constantI S_ 32 100#32)) (W (Proc.devRef .tc main_v26) : S4x1024.Idx → BitVec 32))
        (broadcastInDim S4x1024 ![0, 1] bcast_S1x1024_S4x1024_0_1
          (broadcastInDim S1x1024 ![1] bcast_S1024_S1x1024_1 (iotaInDim S1024 32 0)))) := by
  after_results_simp
  rfl

theorem offset_v36 : (after opsOffset W (Proc.devRef .tc main_v36) : S4x1024.Idx → BitVec 32) (ix2 b i)
    = Scalar.select (IntOp.cmpi .eq ((W (Proc.devRef .tc main_v26) : S4x1024.Idx → BitVec 32) (ix2 b i))
        ((W (Proc.devRef .tc main_v26) : S4x1024.Idx → BitVec 32) (ix2 b 1023))) 4294967196#32
      (IntOp.addi (IntOp.muli 100#32 ((W (Proc.devRef .tc main_v26) : S4x1024.Idx → BitVec 32) (ix2 b i))) (BitVec.ofNat 32 i.val)) := by
  rw [offset_vec]
  pointwise

theorem table_v42 (a : ℕ) (ha : a < 5) : (after opsTable W (Proc.devRef .tc main_v42) : S4x1024x16.Idx → EReal) (ix3 b i ⟨3 * a + c.val, by omega⟩)
    = if a = 0 then (W (Proc.devRef .tc main_v1) : S4x1024x3.Idx → EReal) (ix3 b i c)
      else if a = 1 then (W (Proc.devRef .tc main_v3) : S4x1024x3.Idx → EReal) (ix3 b i c)
      else if a = 2 then (W (Proc.devRef .tc main_v5) : S4x1024x3.Idx → EReal) (ix3 b i c)
      else if a = 3 then (W (Proc.devRef .tc main_v7) : S4x1024x3.Idx → EReal) (ix3 b i c)
      else (W (Proc.devRef .tc main_v19) : S4x1024x3.Idx → EReal) (ix3 b i c) := by
  after_results_simp
  interval_cases a <;> fin_cases c <;> pointwise

theorem table_last : (after opsTable W (Proc.devRef .tc main_v42) : S4x1024x16.Idx → EReal) (ix3 b i 15)
    = (((IntOp.addi (IntOp.muli 4#32 ((W (Proc.devRef .tc main_v36) : S4x1024.Idx → BitVec 32) (ix2 b i)))
        ((W (Proc.devRef .tc main_arg1) : S4x1024.Idx → BitVec 32) (ix2 b i))).toInt : ℝ) : EReal) := by
  after_results_simp
  pointwise
  after_results_simp
  pointwise
  rfl

end Cert.KernelIdeal.Run

end
-- ==== Proof.KerBlock.lean ====
/-
  The dense body's block at a row and a lane, over the extended reals: the formula of the row's two table rows.
-/
module

public import proofs.«01_k».proof.Proof.Spec
public import proofs.«01_k».proof.Proof.Dense
public import Idealize.ShloMosaic.Lib.Pointwise

@[expose] public section

set_option maxRecDepth 16384

noncomputable section

namespace Cert.KernelIdeal.Run

open Idealize.ShloMosaic Cert.Maths Cert.Tables
open Cert.KernelIdeal Cert.KernelIdeal.Gen

variable (x0 x1 : Vec Ideal S1024x16 .f32) (x2 : Vec Ideal S1024x1 .f32) (x3 x4 : Vec Ideal S16x75 .bf16)
  (x5 : Vec Ideal S75x25 .bf16) (x6 : Vec Ideal S25x400 .bf16)
  (x7 : Vec Ideal S1x400 .f32) (x8 : Vec Ideal S400x128 .bf16) (x9 : Vec Ideal S72x128 .bf16) (x10 x11 : Vec Ideal S1x128 .f32)
  (y : Fin 1024)

/-- The tables hold what the kernel's constants are. -/
structure TablesAre : Prop where
  first : ∀ k s, x3 (ix2 k s) = if k.val = 3 * (s.val / 15) + s.val % 3 then 1 else 0
  second : ∀ k s, x4 (ix2 k s) = if k.val = 3 * (s.val / 3 % 5) + s.val % 3 then 1 else 0
  pairs : ∀ s q, x5 (ix2 s q) = if s.val / 3 = q.val then 1 else 0
  spread : ∀ q c, x6 (ix2 q c) = if q.val = pairOf (c.val / 16) then 1 else 0
  centres : ∀ c, x7 (ix2 0 c) = centre ⟨c.val % 16, Nat.mod_lt _ (by decide)⟩

/-- A row of the table as atoms: coordinate `c` of atom `a` in column `3 a + c`. -/
def RowIs (x : Vec Ideal S1024x16 .f32) (y : Fin 1024) (A : ℕ → Fin 3 → EReal) : Prop :=
  ∀ (a : ℕ) (h : a < 5) (c : Fin 3), x (ix2 y ⟨3 * a + c.val, by omega⟩) = A a c

variable {x0 x1 x2 x3 x4 x5 x6 x7 x8 x9 x10 x11} {y}

theorem dist_at (A B : ℕ → Fin 3 → EReal) (hT : TablesAre x3 x4 x5 x6 x7) (hA : RowIs x0 y A) (hB : RowIs x1 y B)
    (q : Fin 25) :
    k1_pay3 (F := Ideal) x0 x1 x3 x3 x4 x4 x5 x5 (ix2 y q) = kerDist (A (q.val / 5)) (B (q.val % 5)) := by
  unfold k1_pay3 k1_pay1 k1_pay2
  pointwise
  rw [sum_three _ q _ (fun s => hT.pairs s q), sum_three _ q _ (fun s => hT.pairs s q)]
  have hd : ∀ c : Fin 3,
      (∑ x, x0 (ix2 y x) * x3 (ix2 x ⟨3 * q.val + c.val, by omega⟩)
        + ∑ x, (x0 (ix2 y x) - x0 (ix2 y x)) * x3 (ix2 x ⟨3 * q.val + c.val, by omega⟩)) = twice (A (q.val / 5) c) ∧
      (∑ x, x1 (ix2 y x) * x4 (ix2 x ⟨3 * q.val + c.val, by omega⟩)
        + ∑ x, (x1 (ix2 y x) - x1 (ix2 y x)) * x4 (ix2 x ⟨3 * q.val + c.val, by omega⟩)) = twice (B (q.val % 5) c) := by
    intro c
    have e1 := hA (q.val / 5) (by omega) c
    have e2 := hB (q.val % 5) (by omega) c
    have f1 : ∀ k : Fin 16, x3 (ix2 k ⟨3 * q.val + c.val, by omega⟩)
        = if k.val = (⟨3 * (q.val / 5) + c.val, by omega⟩ : Fin 16).val then 1 else 0 := fun k => by
      rw [hT.first]
      have : 3 * ((3 * q.val + c.val) / 15) + (3 * q.val + c.val) % 3 = 3 * (q.val / 5) + c.val := by omega
      simp only [this]
    have f2 : ∀ k : Fin 16, x4 (ix2 k ⟨3 * q.val + c.val, by omega⟩)
        = if k.val = (⟨3 * (q.val % 5) + c.val, by omega⟩ : Fin 16).val then 1 else 0 := fun k => by
      rw [hT.second]
      have : 3 * ((3 * q.val + c.val) / 3 % 5) + (3 * q.val + c.val) % 3 = 3 * (q.val % 5) + c.val := by omega
      simp only [this]
    rw [sum_one _ _ _ f1, sum_one _ _ _ f1, sum_one _ _ _ f2, sum_one _ _ _ f2, e1, e2]
    exact ⟨rfl, rfl⟩
  simp only [fun c => (hd c).1, fun c => (hd c).2]
  rfl

theorem features_at (A B : ℕ → Fin 3 → EReal) (hT : TablesAre x3 x4 x5 x6 x7) (hA : RowIs x0 y A) (hB : RowIs x1 y B)
    (o : Fin 128) :
    k1_pay4 (F := Ideal) (k1_pay3 (F := Ideal) x0 x1 x3 x3 x4 x4 x5 x5) x2 x6 x6 x7 x8 (ix2 y o)
      = ∑ c : Fin 400, bump A B (x2 (ix2 y 0)) c * x8 (ix2 c o) := by
  unfold k1_pay4
  pointwise
  refine Finset.sum_congr rfl fun c _ => congrArg (· * x8 (ix2 c o)) ?_
  have hb : pairOf (c.val / 16) < 25 := pairOf_lt _ (by omega)
  have f : ∀ q : Fin 25, x6 (ix2 q c) = if q.val = (⟨pairOf (c.val / 16), hb⟩ : Fin 25).val then 1 else 0 :=
    fun q => hT.spread q c
  have hn : Named.named (F := Ideal) κ "inv_sigma" (φ := .f32) 1061997773#32 = ((4 / 5 : ℝ) : EReal) :=
    IdealRules.named_const.ideal_named_scalar _ _ _ _ rfl
  obtain ⟨m, hm⟩ := centre_real ⟨c.val % 16, Nat.mod_lt _ (by decide)⟩
  rw [sum_one _ _ _ f, sum_one _ _ _ f, hT.centres, hn, dist_at A B hT hA hB]
  unfold bump blockDist
  rw [hm]
  by_cases h0 : c.val / 16 = 0
  · rw [if_pos h0, ← bump_twice]
    have e : pairOf (c.val / 16) = 6 := by rw [h0]; rfl
    simp only [e]
    rfl
  · rw [if_neg h0, ← bump_dist]
    have e : pairOf (c.val / 16) ≠ 6 := pairOf_ne _ h0 (by omega)
    have hsel : IntOp.cmpi CmpIPredicate.eq (BitVec.ofNat 32 (pairOf (c.val / 16))) 6#32 = 0#1 := by
      show BitVec.ofBool (_ == _) = 0#1
      rw [beq_eq_false_iff_ne.mpr (fun h => e ?_)]
      · rfl
      · have := congrArg BitVec.toNat h
        rw [BitVec.toNat_ofNat, Nat.mod_eq_of_lt (by omega)] at this
        exact this
    simp only [hsel]
    rfl

/-- The last payload at an index: the LayerNorm of the features and the one-hot row. -/
theorem norm_at (e : Vec Ideal S1024x128 .f32) (v70 : Vec Ideal S1024x1 .f32) (v76 : IVec S1024x1 1) (o : Fin 128) (p : Fin 72)
    (hp : Ideal.fptosi 32 (Scalar.select (v76 (ix2 y 0)) (min ((64 : ℝ) : EReal) (max 0 (v70 (ix2 y 0) + ((32 : ℝ) : EReal))))
      ((65 : ℝ) : EReal)) = BitVec.ofNat 32 p.val) :
    k1_pay8 (F := Ideal) e v70 v76 x9 x10 x11 (ix2 y o)
      = norm (fun o => e (ix2 y o) + x9 (ix2 p o)) (fun o => x10 (ix2 0 o)) (fun o => x11 (ix2 0 o)) o := by
  unfold k1_pay8
  pointwise
  rw [show Ideal.ofBits FTy.f32 1115684864#32 = ((64 : ℝ) : EReal) from ofBits_64,
    show Ideal.ofBits FTy.f32 1107296256#32 = ((32 : ℝ) : EReal) from ofBits_32,
    show Ideal.ofBits FTy.f32 1115815936#32 = ((65 : ℝ) : EReal) from ofBits_65,
    show Ideal.ofBits FTy.f32 1124073472#32 = ((128 : ℝ) : EReal) from ofBits_lanes,
    show (FloatOps.fptosi (F := Ideal) (φ := .f32) 32 (Scalar.select (v76 (ix2 y 0))
      (min ((64 : ℝ) : EReal) (max 0 (v70 (ix2 y 0) + ((32 : ℝ) : EReal)))) ((65 : ℝ) : EReal))) = BitVec.ofNat 32 p.val from hp]
  have hk : ∀ x : Fin 72, (FloatOps.sitofp (F := Ideal) FTy.f32 (BitVec.setWidth 32 (IntOp.cmpi .eq (BitVec.ofNat 32 x.val)
      (BitVec.ofNat 32 p.val))) : EReal) = if x.val = p.val then 1 else 0 := by
    intro x
    show ((((BitVec.setWidth 32 (BitVec.ofBool (BitVec.ofNat 32 x.val == BitVec.ofNat 32 p.val))).toInt : ℤ) : ℝ) : EReal) = _
    by_cases h : x.val = p.val
    · rw [h, if_pos rfl, beq_self_eq_true]
      simp
    · rw [if_neg h, beq_eq_false_iff_ne.mpr]
      · simp
      · intro h'
        have := congrArg BitVec.toNat h'
        rw [BitVec.toNat_ofNat, BitVec.toNat_ofNat, Nat.mod_eq_of_lt (by omega), Nat.mod_eq_of_lt (by omega)] at this
        exact h this
  have hs : ∀ o : Fin 128, ∑ x : Fin 72, FloatOps.sitofp (F := Ideal) FTy.f32 (BitVec.setWidth 32 (IntOp.cmpi .eq (BitVec.ofNat 32 x.val)
      (BitVec.ofNat 32 p.val))) * x9 (ix2 x o) = x9 (ix2 p o) := by
    intro o
    rw [Finset.sum_congr rfl fun x _ => mul_comm _ _]
    exact sum_one (fun x => x9 (ix2 x o)) p _ hk
  simp only [hs]
  have hv := variance_pos (fun x => (e (ix2 y x) + x9 (ix2 p x)) - mean (fun o => e (ix2 y o) + x9 (ix2 p o)))
  exact congrArg (· * x10 (ix2 0 o) + x11 (ix2 0 o)) (mul_rsqrt _ _ hv)

/-- The block at a row and a lane. -/
theorem block_at (A B : ℕ → Fin 3 → EReal) (hT : TablesAre x3 x4 x5 x6 x7) (hA : RowIs x0 y A) (hB : RowIs x1 y B)
    (o : Fin 128) (p : Fin 72) (hp : kerPlace (x0 (ix2 y 15)) (x1 (ix2 y 15)) = BitVec.ofNat 32 p.val) :
    block (F := Ideal) x0 x1 x2 x3 x4 x5 x6 x7 x8 x9 x10 x11 (ix2 y o)
      = norm (fun o => ∑ c : Fin 400, bump A B (x2 (ix2 y 0)) c * x8 (ix2 c o) + x9 (ix2 p o))
          (fun o => x10 (ix2 0 o)) (fun o => x11 (ix2 0 o)) o := by
  unfold block
  rw [norm_at (p := p)]
  · simp only [features_at A B hT hA hB]
  · rw [← hp]
    have h6 : k1_pay6 (F := Ideal) x0 x1 (ix2 y 0) = (x0 (ix2 y 15) - x1 (ix2 y 15)) * Ideal.ofBits FTy.f32 1048576000#32 := by
      unfold k1_pay6 k1_pay5
      pointwise
    have h7 : k1_pay7 (F := Ideal) x0 x1 (ix2 y 0)
        = BitVec.ofBool (decide ((x0 (ix2 y 15) - x1 (ix2 y 15)) - Ideal.ofBits FTy.f32 1082130432#32
            * Ideal.liftRound Int.floor ((x0 (ix2 y 15) - x1 (ix2 y 15)) * Ideal.ofBits FTy.f32 1048576000#32) = 0)) := by
      unfold k1_pay7 k1_pay5
      pointwise
      rw [h6]
    unfold k1_pay1 k1_pay2
    rw [shapeCast_self, shapeCast_self]
    rw [h6, h7, show Ideal.ofBits FTy.f32 1048576000#32 = ((1 / 4 : ℝ) : EReal) from ofBits_quarter,
      show Ideal.ofBits FTy.f32 1082130432#32 = ((4 : ℝ) : EReal) from ofBits_four]
    rfl

end Cert.KernelIdeal.Run

end
-- ==== Proof.Windows.lean ====
/-
  What the dense kernel reads, as formulas of the ten arguments.
-/
module

public import proofs.«01_k».proof.Proof.Columns
public import proofs.«01_k».proof.Proof.Admitted
public import proofs.«01_k».proof.Proof.KerBlock

@[expose] public section

set_option maxRecDepth 16384

noncomputable section

namespace Cert.KernelIdeal.Run

open Cert.KernelIdeal Cert.KernelIdeal.Gen Cert.KernelIdeal.Host
open Idealize.ShloMosaic Idealize.ShloMosaic.TcCoe Idealize.ShloMosaic.StableHlo
open Cert.Target Cert.Maths Cert.Tables

variable (m : (ℓ : Loc nD τ sig) → Buf (Elt Ideal) ℓ) (d : Dev nD)

/-- The arguments. -/
abbrev A0 : FVec Ideal S4x1024x4x3 .f32 := m ((d.tc : Thread nD τ).loc main_arg0)
abbrev A1 : IVec S4x1024 32 := m ((d.tc : Thread nD τ).loc main_arg1)
abbrev A3 : IVec S4x1024x30 32 := m ((d.tc : Thread nD τ).loc main_arg3)
abbrev A4 : FVec Ideal S4x1024x30 .f32 := m ((d.tc : Thread nD τ).loc main_arg4)
abbrev A5 : FVec Ideal S16x66 .f32 := m ((d.tc : Thread nD τ).loc main_arg5)
abbrev A6 : FVec Ideal S16 .f32 := m ((d.tc : Thread nD τ).loc main_arg6)
abbrev A7 : FVec Ideal S128x416 .f32 := m ((d.tc : Thread nD τ).loc main_arg7)
abbrev A8 : FVec Ideal S128 .f32 := m ((d.tc : Thread nD τ).loc main_arg8)
abbrev A9 : FVec Ideal S128 .f32 := m ((d.tc : Thread nD τ).loc main_arg9)

theorem X5_keeps (r : Ref sig .tc) (h : r ∉ opsCrossW ++ opsBetaW ++ opsStartsW ++ opsOffsetW) :
    X5 m d (Proc.devRef .tc r) = X1 m d (Proc.devRef .tc r) := by
  simp only [List.mem_append, not_or] at h
  obtain ⟨⟨⟨h2, h3⟩, h4⟩, h5⟩ := h
  unfold X5; rw [after_of_writes_sub _ _ opsOffset_writes h5]
  unfold X4; rw [after_of_writes_sub _ _ opsStarts_writes h4]
  unfold X3; rw [after_of_writes_sub _ _ opsBeta_writes h3]
  unfold X2; rw [after_of_writes_sub _ _ opsCross_writes h2]

theorem X5_v19 (b : Fin 4) (i : Fin 1024) (c : Fin 3) :
    (X5 m d (Proc.devRef .tc main_v19) : S4x1024x3.Idx → EReal) (ix3 b i c) = virt (A0 m d) b i c := by
  unfold X5; rw [after_of_writes_sub _ _ opsOffset_writes (by decide)]
  unfold X4; rw [after_of_writes_sub _ _ opsStarts_writes (by decide)]
  unfold X3; rw [beta_v19]
  have h8 : w8 (X2 m d) = w8 (X1 m d) := by
    unfold w8 X2; rw [after_of_writes_sub _ _ opsCross_writes (by decide)]
  have h9 : w9 (X2 m d) = w9 (X1 m d) := by
    unfold w9 X2; rw [after_of_writes_sub _ _ opsCross_writes (by decide)]
  have h3 : w3 (X2 m d) = w3 (X1 m d) := by
    unfold w3 X2; rw [after_of_writes_sub _ _ opsCross_writes (by decide)]
  have h10 : w10 (X2 m d) (ix3 b i c) = cross (A0 m d) b i c := by
    show (after opsCross (X1 m d) (Proc.devRef .tc main_v10) : S4x1024x3.Idx → EReal) (ix3 b i c) = _
    rw [cross_v10]
    show _ * _ - _ * _ = _
    unfold cross w8 w9 X1
    rw [chain_v8, chain_v8, chain_v9, chain_v9]
    rfl
  rw [h8, h9, h3, h10]
  unfold virt w8 w9 w3 X1
  rw [chain_v8, chain_v9, chain_v3]
  rfl

theorem X6_row (b : Fin 4) (i : Fin 1024) (a : ℕ) (ha : a < 5) (c : Fin 3) :
    (X6 m d (Proc.devRef .tc main_v42) : S4x1024x16.Idx → EReal) (ix3 b i ⟨3 * a + c.val, by omega⟩) = atom (A0 m d) b i a c := by
  unfold X6
  rw [table_v42 _ _ _ _ a ha, X5_v19, X5_keeps m d main_v1 (by decide), X5_keeps m d main_v3 (by decide),
    X5_keeps m d main_v5 (by decide), X5_keeps m d main_v7 (by decide)]
  unfold X1
  rw [chain_v1, chain_v3, chain_v5, chain_v7]
  unfold atom
  interval_cases a <;> rfl

theorem X4_v26 : (X4 m d (Proc.devRef .tc main_v26) : S4x1024.Idx → BitVec 32) = rank (A1 m d) := by
  unfold X4; rw [starts_v26]
  unfold X3; rw [after_of_writes_sub _ _ opsBeta_writes (by decide)]
  unfold X2; rw [after_of_writes_sub _ _ opsCross_writes (by decide)]
  unfold X1; rw [after_of_writes_sub _ _ opsChain_writes (by decide)]
  rfl

theorem X6_last (b : Fin 4) (i : Fin 1024) :
    (X6 m d (Proc.devRef .tc main_v42) : S4x1024x16.Idx → EReal) (ix3 b i 15)
      = (((IntOp.addi (IntOp.muli 4#32 (res (A1 m d) b i)) (A1 m d (ix2 b i))).toInt : ℝ) : EReal) := by
  have h36 : (X5 m d (Proc.devRef .tc main_v36) : S4x1024.Idx → BitVec 32) (ix2 b i) = res (A1 m d) b i := by
    unfold X5; rw [offset_v36, X4_v26]; rfl
  have h1 : (X5 m d (Proc.devRef .tc main_arg1) : S4x1024.Idx → BitVec 32) = A1 m d := by
    rw [X5_keeps m d main_arg1 (by decide)]
    unfold X1; rw [after_of_writes_sub _ _ opsChain_writes (by decide)]
    rfl
  unfold X6
  rw [table_last, h36, h1]

variable (W : Valuation τ sig (Elt Ideal))

theorem dense_v55 (r : Fin 122880) (j : Fin 16) : (after opsDense W (Proc.devRef .tc main_v55) : S122880x16.Idx → EReal) (ix2 r j)
    = (W (Proc.devRef .tc main_v42) : S4x1024x16.Idx → EReal) (ix3 ⟨r.val / 30720, by omega⟩ ⟨r.val / 30 % 1024, by omega⟩ j) := by
  after_results_simp
  pointwise

theorem dense_v56 (r : Fin 122880) : (after opsDense W (Proc.devRef .tc main_v56) : S122880x1.Idx → EReal) (ix2 r 0)
    = (W (Proc.devRef .tc main_arg4) : S4x1024x30.Idx → EReal) (ix3 ⟨r.val / 30720, by omega⟩ ⟨r.val / 30 % 1024, by omega⟩ ⟨r.val % 30, by omega⟩) := by
  after_results_simp
  pointwise

theorem dense_v69 (c : Fin 400) (o : Fin 128) : (after opsDense W (Proc.devRef .tc main_v69) : S400x128.Idx → EReal) (ix2 c o)
    = (W (Proc.devRef .tc main_arg7) : S128x416.Idx → EReal) (ix2 o ⟨16 + c.val, by omega⟩) := by
  after_results_simp
  pointwise

abbrev w5 : S16x66.Idx → EReal := W (Proc.devRef .tc main_arg5)
abbrev w6 : S16.Idx → EReal := W (Proc.devRef .tc main_arg6)
abbrev w7 : S128x416.Idx → EReal := W (Proc.devRef .tc main_arg7)

theorem dense_v66 (p : Fin 72) (hp : p.val < 66) (o : Fin 128) : (after opsDense W (Proc.devRef .tc main_v66) : S72x128.Idx → EReal) (ix2 p o)
    = ∑ x : Fin 16, (w5 W (ix2 x ⟨p.val, hp⟩) + w6 W (ix1 x)) * w7 W (ix2 o ⟨x.val, by omega⟩) := by
  after_results_simp
  pointwise
  rw [dif_pos hp]
  after_results_simp
  pointwise

theorem dense_v70 (o : Fin 128) : (after opsDense W (Proc.devRef .tc main_v70) : S1x128.Idx → EReal) (ix2 0 o)
    = (W (Proc.devRef .tc main_arg8) : S128.Idx → EReal) (ix1 o) := by
  after_results_simp
  pointwise

theorem dense_v71 (o : Fin 128) : (after opsDense W (Proc.devRef .tc main_v71) : S1x128.Idx → EReal) (ix2 0 o)
    = (W (Proc.devRef .tc main_arg9) : S128.Idx → EReal) (ix1 o) := by
  after_results_simp
  pointwise

theorem table_v43 : (after opsTable W (Proc.devRef .tc main_v43) : S4096x16.Idx → EReal)
    = shapeCast S4096x16 (after opsTable W (Proc.devRef .tc main_v42) : S4x1024x16.Idx → EReal) shapeCasts_S4x1024x16_S4096x16 := by
  after_results_simp
  rfl

/-- The flat number of a batch's residue and its neighbour. -/
def flat (b : Fin 4) (i : Fin 1024) (k : Fin 30) : Fin 122880 := ⟨(b.val * 1024 + i.val) * 30 + k.val, by omega⟩

theorem ix3_ext {n₁ n₂ n₃ : ℕ} {a a' : Fin n₁} {b b' : Fin n₂} {c c' : Fin n₃} (ha : a = a') (hb : b = b') (hc : c = c') :
    (ix3 a b c : (⟨3, ![n₁, n₂, n₃]⟩ : Shape).Idx) = ix3 a' b' c' := by
  subst ha hb hc; rfl

theorem lst_at (b : Fin 4) (i : Fin 1024) (k : Fin 30) :
    (V1 m d lstRef : S32x30x128.Idx → BitVec 32) (S32x30x128.rowMajor.symm ((flat b i k).cast numel_lst.symm)) = rows m d (ix3 b i k) := by
  have e : S32x30x128.rowMajor.symm ((flat b i k).cast numel_lst.symm)
      = ix3 (⟨(flat b i k).val / 3840, by omega⟩ : Fin 32) (⟨(flat b i k).val / 128 % 30, by omega⟩ : Fin 30) (⟨(flat b i k).val % 128, by omega⟩ : Fin 128) := by
    rw [Equiv.symm_apply_eq]
    ext
    rw [Shape.rowMajor_val_three]
    show (flat b i k).val = ((flat b i k).val / 3840 * 30 + (flat b i k).val / 128 % 30) * 128 + (flat b i k).val % 128
    omega
  rw [V1_v51, e]
  show shapeCast S32x30x128 (shapeCast S122880 (rows m d) shapeCasts_S4x1024x30_S122880) shapeCasts_S122880_S32x30x128 _ = _
  pointwise
  have hf : (flat b i k).val = (b.val * 1024 + i.val) * 30 + k.val := rfl
  have hd : (flat b i k).val / 3840 * 3840 + (flat b i k).val / 128 % 30 * 128 + (flat b i k).val % 128 = (flat b i k).val := by omega
  have hb : (flat b i k).val / 3840 / 8 = b.val := by omega
  refine congrArg (rows m d) (ix3_ext (Fin.ext ?_) (Fin.ext ?_) (Fin.ext ?_))
  · exact hb
  · show (_ + _ + _) / 30 % 1024 = i.val
    rw [hd]
    omega
  · show (_ + _ + _) % 30 = k.val
    rw [hd]
    omega

theorem V3_tab : V3 m d (Proc.devRef .tc main_v42) = X6 m d (Proc.devRef .tc main_v42) := by
  unfold V3; rw [after_of_writes_sub _ _ opsDense_writes (by decide), V2_keeps m d _ (by decide), V1_eq,
    after_of_writes_sub _ _ opsList_writes (by decide)]

theorem V2_arg (r : Ref sig .tc) (h52 : r ≠ main_v52) (h : r ∉ opsListW)
    (h' : r ∉ opsChainW ++ opsCrossW ++ opsBetaW ++ opsStartsW ++ opsOffsetW ++ opsTableW) :
    V2 m d (Proc.devRef .tc r) = m ((d.tc : Thread nD τ).loc r) := by
  rw [V2_keeps m d r h52, V1_keeps m d r h h']

theorem V3_v55 (b : Fin 4) (i : Fin 1024) (k : Fin 30) (j : Fin 16) :
    (V3 m d (Proc.devRef .tc main_v55) : S122880x16.Idx → EReal) (ix2 (flat b i k) j)
      = (X6 m d (Proc.devRef .tc main_v42) : S4x1024x16.Idx → EReal) (ix3 b i j) := by
  have h := V3_tab m d
  unfold V3 at h ⊢
  rw [after_of_writes_sub _ _ opsDense_writes (by decide)] at h
  rw [dense_v55, h]
  refine congrArg _ (ix3_ext (Fin.ext ?_) (Fin.ext ?_) rfl)
  · show ((b.val * 1024 + i.val) * 30 + k.val) / 30720 = b.val
    omega
  · show ((b.val * 1024 + i.val) * 30 + k.val) / 30 % 1024 = i.val
    omega

theorem V1_v43 (b : Fin 4) (i : Fin 1024) (j : Fin 16) (q : Fin 4096) (hq : q.val = 1024 * b.val + i.val) :
    (V1 m d tabRef : S4096x16.Idx → EReal) (ix2 q j)
      = (X6 m d (Proc.devRef .tc main_v42) : S4x1024x16.Idx → EReal) (ix3 b i j) := by
  rw [V1_eq, after_of_writes_sub _ _ opsList_writes (by decide)]
  unfold X6
  rw [table_v43]
  pointwise
  refine congrArg _ (ix3_ext (Fin.ext ?_) (Fin.ext ?_) rfl)
  · show q.val / 1024 = b.val
    omega
  · show q.val % 1024 = i.val
    omega

theorem V3_v52 (hin : InRange m) (b : Fin 4) (i : Fin 1024) (k : Fin 30) (j : Fin 16) :
    (V3 m d (Proc.devRef .tc main_v52) : S122880x16.Idx → EReal) (ix2 (flat b i k) j)
      = (X6 m d (Proc.devRef .tc main_v42) : S4x1024x16.Idx → EReal) (ix3 b (nb (A3 m d) b i k) j) := by
  have h := rows_at m hin d (ix3 b i k)
  have hn := hin.nbr d (ix3 b i k)
  have e : (nb (A3 m d) b i k).val = (A3 m d (ix3 b i k)).toNat := Nat.mod_eq_of_lt hn
  unfold V3
  rw [after_of_writes_sub _ _ opsDense_writes (by decide), V2_out]
  show (V1 m d tabRef : S4096x16.Idx → EReal) (pick ((V1 m d lstRef : S32x30x128.Idx → BitVec 32)
    (S32x30x128.rowMajor.symm ((flat b i k).cast numel_lst.symm))) j) = _
  rw [lst_at]
  have hq : (rows m d (ix3 b i k)).toNat = 1024 * b.val + (nb (A3 m d) b i k).val := by rw [e]; exact h
  rw [← V1_v43 m d b _ j ⟨(rows m d (ix3 b i k)).toNat % 4096, Nat.mod_lt _ (by decide)⟩ (by
    show _ % 4096 = _
    rw [hq]
    have := (nb (A3 m d) b i k).isLt
    omega)]
  refine congrArg _ ?_
  funext a
  fin_cases a <;> rfl

theorem V3_v56 (b : Fin 4) (i : Fin 1024) (k : Fin 30) :
    (V3 m d (Proc.devRef .tc main_v56) : S122880x1.Idx → EReal) (ix2 (flat b i k) 0) = A4 m d (ix3 b i k) := by
  unfold V3
  rw [dense_v56, V2_arg m d main_arg4 (by decide) (by decide) (by decide)]
  refine congrArg _ (ix3_ext (Fin.ext ?_) (Fin.ext ?_) (Fin.ext ?_))
  · show ((b.val * 1024 + i.val) * 30 + k.val) / 30720 = b.val
    omega
  · show ((b.val * 1024 + i.val) * 30 + k.val) / 30 % 1024 = i.val
    omega
  · show ((b.val * 1024 + i.val) * 30 + k.val) % 30 = k.val
    omega

theorem V3_v69 (c : Fin 400) (o : Fin 128) : (V3 m d (Proc.devRef .tc main_v69) : S400x128.Idx → EReal) (ix2 c o)
    = A7 m d (ix2 o ⟨16 + c.val, by omega⟩) := by
  unfold V3
  rw [dense_v69, V2_arg m d main_arg7 (by decide) (by decide) (by decide)]

theorem V3_v66 (p : Fin 72) (hp : p.val < 66) (o : Fin 128) : (V3 m d (Proc.devRef .tc main_v66) : S72x128.Idx → EReal) (ix2 p o)
    = ∑ x : Fin 16, (A5 m d (ix2 x ⟨p.val, hp⟩) + A6 m d (ix1 x)) * A7 m d (ix2 o ⟨x.val, by omega⟩) := by
  unfold V3
  rw [dense_v66 _ _ hp]
  unfold w5 w6 w7
  rw [V2_arg m d main_arg7 (by decide) (by decide) (by decide), V2_arg m d main_arg5 (by decide) (by decide) (by decide),
    V2_arg m d main_arg6 (by decide) (by decide) (by decide)]

theorem V3_v70 (o : Fin 128) : (V3 m d (Proc.devRef .tc main_v70) : S1x128.Idx → EReal) (ix2 0 o) = A8 m d (ix1 o) := by
  unfold V3
  rw [dense_v70, V2_arg m d main_arg8 (by decide) (by decide) (by decide)]

theorem V3_v71 (o : Fin 128) : (V3 m d (Proc.devRef .tc main_v71) : S1x128.Idx → EReal) (ix2 0 o) = A9 m d (ix1 o) := by
  unfold V3
  rw [dense_v71, V2_arg m d main_arg9 (by decide) (by decide) (by decide)]

/-- A constant of the program is still there when the dense kernel starts. -/
theorem V3_const (r : Ref sig .tc) (hd : r ∉ opsDenseW) (h52 : r ≠ main_v52) (h : r ∉ opsListW)
    (h' : r ∉ opsCrossW ++ opsBetaW ++ opsStartsW ++ opsOffsetW) (h'' : r ∉ opsTableW) :
    V3 m d (Proc.devRef .tc r) = after opsChain (X0 m d) (Proc.devRef .tc r) := by
  unfold V3; rw [after_of_writes_sub _ _ opsDense_writes hd, V2_keeps m d r h52, V1_eq, after_of_writes_sub _ _ opsList_writes h]
  unfold X6; rw [after_of_writes_sub _ _ opsTable_writes h'', X5_keeps m d r h']
  rfl

theorem bit_real (p : Prop) [Decidable p] : (Ideal.ofBits .bf16 (if p then 0x3F80#16 else 0x0000#16) : EReal) = if p then 1 else 0 := by
  split
  · exact ofBits_one_narrow
  · exact ofBits_zero_narrow

/-- The five tables the dense kernel reads are the program's constants. -/
theorem tables_are : TablesAre (V3 m d (Proc.devRef .tc main_cst)) (V3 m d (Proc.devRef .tc main_cst_0)) (V3 m d (Proc.devRef .tc main_cst_1))
    (V3 m d (Proc.devRef .tc main_cst_2)) (V3 m d (Proc.devRef .tc main_cst_3)) where
  first k s := by
    rw [V3_const m d main_cst (by decide) (by decide) (by decide) (by decide) (by decide)]
    after_results_simp
    refine (congrArg (fun x => (Ideal.ofBits .bf16 x : EReal)) (lit0_all (S16x75.rowMajor (ix2 k s)))).trans ((bit_real _).trans ?_)
    have e : (S16x75.rowMajor (ix2 k s)).val = k.val * 75 + s.val := Shape.rowMajor_val_two _
    rw [e]
    refine if_congr ?_ rfl rfl
    rw [show (k.val * 75 + s.val) / 75 = k.val by omega, show (k.val * 75 + s.val) % 75 = s.val by omega]
  second k s := by
    rw [V3_const m d main_cst_0 (by decide) (by decide) (by decide) (by decide) (by decide)]
    after_results_simp
    refine (congrArg (fun x => (Ideal.ofBits .bf16 x : EReal)) (lit1_all (S16x75.rowMajor (ix2 k s)))).trans ((bit_real _).trans ?_)
    have e : (S16x75.rowMajor (ix2 k s)).val = k.val * 75 + s.val := Shape.rowMajor_val_two _
    rw [e]
    refine if_congr ?_ rfl rfl
    rw [show (k.val * 75 + s.val) / 75 = k.val by omega, show (k.val * 75 + s.val) % 75 = s.val by omega]
  pairs s q := by
    rw [V3_const m d main_cst_1 (by decide) (by decide) (by decide) (by decide) (by decide)]
    after_results_simp
    refine (congrArg (fun x => (Ideal.ofBits .bf16 x : EReal)) (lit2_all (S75x25.rowMajor (ix2 s q)))).trans ((bit_real _).trans ?_)
    have e : (S75x25.rowMajor (ix2 s q)).val = s.val * 25 + q.val := Shape.rowMajor_val_two _
    rw [e]
    refine if_congr ?_ rfl rfl
    rw [show (s.val * 25 + q.val) / 25 = s.val by omega, show (s.val * 25 + q.val) % 25 = q.val by omega]
  spread q c := by
    rw [V3_const m d main_cst_2 (by decide) (by decide) (by decide) (by decide) (by decide)]
    after_results_simp
    refine (congrArg (fun x => (Ideal.ofBits .bf16 x : EReal)) (lit3_all (S25x400.rowMajor (ix2 q c)))).trans ((bit_real _).trans ?_)
    have e : (S25x400.rowMajor (ix2 q c)).val = q.val * 400 + c.val := Shape.rowMajor_val_two _
    rw [e]
    refine if_congr ?_ rfl rfl
    rw [show (q.val * 400 + c.val) / 400 = q.val by omega, show (q.val * 400 + c.val) % 400 = c.val by omega]
  centres c := by
    rw [V3_const m d main_cst_3 (by decide) (by decide) (by decide) (by decide) (by decide)]
    after_results_simp
    have e : (S1x400.rowMajor (ix2 0 c)).val = c.val := (Shape.rowMajor_val_two _).trans (by show 0 * 400 + c.val = c.val; omega)
    refine (congrArg (fun x => (Ideal.ofBits .f32 x : EReal)) (lit4_all (S1x400.rowMajor (ix2 0 c)))).trans ?_
    unfold centre
    refine congrArg (fun x => (Ideal.ofBits .f32 (Cert.ReferenceIdeal.lit0 x) : EReal)) (Fin.ext ?_)
    show (S1x400.rowMajor (ix2 0 c)).val % 16 = c.val % 16
    rw [e]

end Cert.KernelIdeal.Run

end
-- ==== Proof.Output.lean ====
/-
  The kernel's result: at every batch, residue, neighbour and lane it is the formula of the ten arguments.
-/
module

public import proofs.«01_k».proof.Proof.Windows
public import Idealize.ShloMosaic.Lib.Pipeline.ValueKit.Geometry

@[expose] public section

set_option maxRecDepth 16384

noncomputable section

namespace Cert.KernelIdeal.Run

open Cert.KernelIdeal Cert.KernelIdeal.Gen Cert.KernelIdeal.Host
open Idealize.ShloMosaic Idealize.ShloMosaic.TcCoe Idealize.ShloMosaic.StableHlo
open Idealize.ShloMosaic.Pipeline (Dat)
open Cert.Target Cert.Maths Cert.Tables

variable (V : Dev nD → Valuation τ sig (Elt Ideal)) (d : Dev nD)

theorem points : cfg1.N = 120 := by decide +kernel

/-- The row of the arrays that row `y` of point `t`'s block is. -/
def rowOf (t : Fin cfg1.N) (y : Fin 1024) : Fin 122880 := ⟨t.val * 1024 + y.val, by
  have h : t.val < 120 := lt_of_lt_of_eq t.isLt points
  omega⟩

theorem idx0 : ∀ t : Fin cfg1.N, win1_0.index t = ![t.val, 0] := (by decide +kernel : ∀ t : Fin grid1.N, win1_0.index t = ![t.val, 0])
theorem idx1 : ∀ t : Fin cfg1.N, win1_1.index t = ![t.val, 0] := (by decide +kernel : ∀ t : Fin grid1.N, win1_1.index t = ![t.val, 0])
theorem idx2 : ∀ t : Fin cfg1.N, win1_2.index t = ![t.val, 0] := (by decide +kernel : ∀ t : Fin grid1.N, win1_2.index t = ![t.val, 0])
theorem idx12 : ∀ t : Fin cfg1.N, win1_12.index t = ![t.val, 0] := (by decide +kernel : ∀ t : Fin grid1.N, win1_12.index t = ![t.val, 0])
theorem idx3 : ∀ t : Fin cfg1.N, win1_3.index t = ![0, 0] := (by decide +kernel : ∀ t : Fin grid1.N, win1_3.index t = ![0, 0])
theorem idx4 : ∀ t : Fin cfg1.N, win1_4.index t = ![0, 0] := (by decide +kernel : ∀ t : Fin grid1.N, win1_4.index t = ![0, 0])
theorem idx5 : ∀ t : Fin cfg1.N, win1_5.index t = ![0, 0] := (by decide +kernel : ∀ t : Fin grid1.N, win1_5.index t = ![0, 0])
theorem idx6 : ∀ t : Fin cfg1.N, win1_6.index t = ![0, 0] := (by decide +kernel : ∀ t : Fin grid1.N, win1_6.index t = ![0, 0])
theorem idx7 : ∀ t : Fin cfg1.N, win1_7.index t = ![0, 0] := (by decide +kernel : ∀ t : Fin grid1.N, win1_7.index t = ![0, 0])
theorem idx8 : ∀ t : Fin cfg1.N, win1_8.index t = ![0, 0] := (by decide +kernel : ∀ t : Fin grid1.N, win1_8.index t = ![0, 0])
theorem idx9 : ∀ t : Fin cfg1.N, win1_9.index t = ![0, 0] := (by decide +kernel : ∀ t : Fin grid1.N, win1_9.index t = ![0, 0])
theorem idx10 : ∀ t : Fin cfg1.N, win1_10.index t = ![0, 0] := (by decide +kernel : ∀ t : Fin grid1.N, win1_10.index t = ![0, 0])
theorem idx11 : ∀ t : Fin cfg1.N, win1_11.index t = ![0, 0] := (by decide +kernel : ∀ t : Fin grid1.N, win1_11.index t = ![0, 0])

theorem rowOf_val (t : Fin cfg1.N) (y : Fin 1024) : (rowOf t y).val = t.val * 1024 + y.val := rfl

theorem ix2_at0 {m n : ℕ} (a : Fin m) (b : Fin n) : ((ix2 a b : (⟨2, ![m, n]⟩ : Shape).Idx) 0).val = a.val := rfl
theorem ix2_at1 {m n : ℕ} (a : Fin m) (b : Fin n) : ((ix2 a b : (⟨2, ![m, n]⟩ : Shape).Idx) 1).val = b.val := rfl

theorem stg0_at (t : Fin cfg1.N) (y : Fin 1024) (j : Fin 16) :
    stg0 V d t (ix2 y j) = (V d (Proc.devRef .tc main_v55) : S122880x16.Idx → EReal) (ix2 (rowOf t y) j) := by
  unfold stg0
  blk_simp
  refine congrArg _ ?_
  blk_ext [idx0, rowOf_val, ix2_at0, ix2_at1]

theorem stg1_at (t : Fin cfg1.N) (y : Fin 1024) (j : Fin 16) :
    stg1 V d t (ix2 y j) = (V d (Proc.devRef .tc main_v52) : S122880x16.Idx → EReal) (ix2 (rowOf t y) j) := by
  unfold stg1
  blk_simp
  refine congrArg _ ?_
  blk_ext [idx1, rowOf_val, ix2_at0, ix2_at1]

theorem stg2_at (t : Fin cfg1.N) (y : Fin 1024) (j : Fin 1) :
    stg2 V d t (ix2 y j) = (V d (Proc.devRef .tc main_v56) : S122880x1.Idx → EReal) (ix2 (rowOf t y) j) := by
  unfold stg2
  blk_simp
  refine congrArg _ ?_
  blk_ext [idx2, rowOf_val, ix2_at0, ix2_at1]

theorem stg3_eq (t : Fin cfg1.N) : stg3 V d t = (V d (Proc.devRef .tc main_cst) : S16x75.Idx → EReal) := by
  funext j
  unfold stg3
  blk_simp
  refine congrArg _ ?_
  blk_ext [idx3]

theorem stg4_eq (t : Fin cfg1.N) : stg4 V d t = (V d (Proc.devRef .tc main_cst_0) : S16x75.Idx → EReal) := by
  funext j
  unfold stg4
  blk_simp
  refine congrArg _ ?_
  blk_ext [idx4]

theorem stg5_eq (t : Fin cfg1.N) : stg5 V d t = (V d (Proc.devRef .tc main_cst_1) : S75x25.Idx → EReal) := by
  funext j
  unfold stg5
  blk_simp
  refine congrArg _ ?_
  blk_ext [idx5]

theorem stg6_eq (t : Fin cfg1.N) : stg6 V d t = (V d (Proc.devRef .tc main_cst_2) : S25x400.Idx → EReal) := by
  funext j
  unfold stg6
  blk_simp
  refine congrArg _ ?_
  blk_ext [idx6]

theorem stg7_eq (t : Fin cfg1.N) : stg7 V d t = (V d (Proc.devRef .tc main_cst_3) : S1x400.Idx → EReal) := by
  funext j
  unfold stg7
  blk_simp
  refine congrArg _ ?_
  blk_ext [idx7]

theorem stg8_eq (t : Fin cfg1.N) : stg8 V d t = (V d (Proc.devRef .tc main_v69) : S400x128.Idx → EReal) := by
  funext j
  unfold stg8
  blk_simp
  refine congrArg _ ?_
  blk_ext [idx8]

theorem stg9_eq (t : Fin cfg1.N) : stg9 V d t = (V d (Proc.devRef .tc main_v66) : S72x128.Idx → EReal) := by
  funext j
  unfold stg9
  blk_simp
  refine congrArg _ ?_
  blk_ext [idx9]

theorem stg10_eq (t : Fin cfg1.N) : stg10 V d t = (V d (Proc.devRef .tc main_v70) : S1x128.Idx → EReal) := by
  funext j
  unfold stg10
  blk_simp
  refine congrArg _ ?_
  blk_ext [idx10]

theorem stg11_eq (t : Fin cfg1.N) : stg11 V d t = (V d (Proc.devRef .tc main_v71) : S1x128.Idx → EReal) := by
  funext j
  unfold stg11
  blk_simp
  refine congrArg _ ?_
  blk_ext [idx11]

variable (m : (ℓ : Loc nD τ sig) → Buf (Elt Ideal) ℓ)

/-- The result at flat row `r` and lane `o`. -/
def rowOut (r : Fin 122880) (o : Fin 128) : EReal :=
  out (A0 m d) (A1 m d) (A3 m d) (A4 m d) (A5 m d) (A6 m d) (A7 m d) (A8 m d) (A9 m d)
    ⟨r.val / 30720, by omega⟩ ⟨r.val / 30 % 1024, by omega⟩ ⟨r.val % 30, by omega⟩ o

theorem rowOut_flat (b : Fin 4) (i : Fin 1024) (k : Fin 30) (o : Fin 128) : rowOut d m (flat b i k) o
    = out (A0 m d) (A1 m d) (A3 m d) (A4 m d) (A5 m d) (A6 m d) (A7 m d) (A8 m d) (A9 m d) b i k o := by
  have hb : (⟨(flat b i k).val / 30720, by have := (flat b i k).isLt; omega⟩ : Fin 4) = b := Fin.ext (by
    show ((b.val * 1024 + i.val) * 30 + k.val) / 30720 = b.val
    omega)
  have hi : (⟨(flat b i k).val / 30 % 1024, by omega⟩ : Fin 1024) = i := Fin.ext (by
    show ((b.val * 1024 + i.val) * 30 + k.val) / 30 % 1024 = i.val
    omega)
  have hk : (⟨(flat b i k).val % 30, by omega⟩ : Fin 30) = k := Fin.ext (by
    show ((b.val * 1024 + i.val) * 30 + k.val) % 30 = k.val
    omega)
  unfold rowOut
  rw [hb, hi, hk]

theorem exists_flat (r : Fin 122880) : ∃ (b : Fin 4) (i : Fin 1024) (k : Fin 30), r = flat b i k := by
  refine ⟨⟨r.val / 30720, by omega⟩, ⟨r.val / 30 % 1024, by omega⟩, ⟨r.val % 30, by omega⟩, Fin.ext ?_⟩
  show _ = (r.val / 30720 * 1024 + r.val / 30 % 1024) * 30 + r.val % 30
  omega

theorem norm_congr {e e' g g' h h' : Fin 128 → EReal} (he : ∀ o, e o = e' o) (hg : ∀ o, g o = g' o) (hh : ∀ o, h o = h' o) (o : Fin 128) :
    norm e g h o = norm e' g' h' o := by
  rw [funext he, funext hg, funext hh]

theorem blockAt_at (hin : InRange m) (t : Fin cfg1.N) (y : Fin 1024) (o : Fin 128) :
    blockAt (V3 m) d t (ix2 y o) = rowOut d m (rowOf t y) o := by
  obtain ⟨b, i, k, hr⟩ := exists_flat (rowOf t y)
  have hp := place_lt (A1 m d) (A3 m d) b i k
  have hA : RowIs (stg0 (V3 m) d t) y (atom (A0 m d) b i) := fun a ha c => by
    rw [stg0_at, hr, V3_v55, X6_row m d b i a ha c]
  have hB : RowIs (stg1 (V3 m) d t) y (atom (A0 m d) b (nb (A3 m d) b i k)) := fun a ha c => by
    rw [stg1_at, hr, V3_v52 m d hin, X6_row m d b _ a ha c]
  have hk : kerPlace (stg0 (V3 m) d t (ix2 y 15)) (stg1 (V3 m) d t (ix2 y 15)) = BitVec.ofNat 32 (place (A1 m d) (A3 m d) b i k) := by
    rw [stg0_at, stg1_at, hr, V3_v55, V3_v52 m d hin, X6_last, X6_last]
    exact kerPlace_eq _ _ _ _ (res_bound _ _ _) (res_bound _ _ _) (hin.chain d _) (hin.chain d _)
  have hT : TablesAre (stg3 (V3 m) d t) (stg4 (V3 m) d t) (stg5 (V3 m) d t) (stg6 (V3 m) d t) (stg7 (V3 m) d t) := by
    rw [stg3_eq, stg4_eq, stg5_eq, stg6_eq, stg7_eq]
    exact tables_are m d
  rw [hr, rowOut_flat]
  refine (block_at (y := y) _ _ hT hA hB o ⟨place (A1 m d) (A3 m d) b i k, by omega⟩ hk).trans ?_
  rw [stg2_at, hr, V3_v56, stg8_eq, stg9_eq, stg10_eq, stg11_eq]
  unfold out
  refine norm_congr (fun o' => ?_) (fun o' => V3_v70 m d o') (fun o' => V3_v71 m d o') o
  unfold feat
  rw [V3_v66 m d _ hp]
  refine congrArg (· + _) (Finset.sum_congr rfl fun c _ => congrArg _ (V3_v69 m d c o'))

theorem V4_v72 (hin : InRange m) : (V4 m d (Proc.devRef .tc main_v72) : S122880x128.Idx → EReal) = fun x => rowOut d m (x 0) (x 1) := by
  unfold V4 afterDense
  refine (Pipeline.afterRegion_arr (dat (V3 m) d) (V3 m d) winFacts1.arr_inj 12).trans ?_
  refine (dat (V3 m) d).arrAt_eq_of_covers 12 _ (by decide +kernel) fun t hf y => ?_
  blk_simp
  have e0 : (win1_12.blk t).view.emb y 0 = rowOf t (y 0) := by
    apply Fin.ext
    blk_simp [idx12, rowOf_val]
    rfl
  have e1 : (win1_12.blk t).view.emb y 1 = (y 1 : Fin 128) := by
    apply Fin.ext
    blk_simp [idx12]
  show _ = rowOut d m ((win1_12.blk t).view.emb y 0) ((win1_12.blk t).view.emb y 1)
  rw [e0, e1]
  refine Eq.trans ?_ (blockAt_at d m hin t (y 0) (y 1))
  show blockAt (V3 m) d t y = _
  refine congrArg _ ?_
  funext a
  fin_cases a <;> rfl

theorem result_at (hin : InRange m) (b : Fin 4) (i : Fin 1024) (k : Fin 30) (o : Fin 128) :
    (V5 m d (Proc.devRef .tc main_v73) : S4x1024x30x128.Idx → EReal) (ix4 b i k o)
      = out (A0 m d) (A1 m d) (A3 m d) (A4 m d) (A5 m d) (A6 m d) (A7 m d) (A8 m d) (A9 m d) b i k o := by
  unfold V5
  after_results_simp
  rw [V4_v72 d m hin]
  pointwise
  refine Eq.trans ?_ (rowOut_flat d m b i k o)
  refine congrArg (fun r => rowOut d m r o) (Fin.ext ?_)
  show b.val * 30720 + i.val * 30 + k.val = (b.val * 1024 + i.val) * 30 + k.val
  omega

end Cert.KernelIdeal.Run

end
-- ==== Proof.RefGather.lean ====
/-
  A gather along the third axis, batched over the first two, read at an index.
-/
module

public import Idealize.ShloMosaic.Lib.Pointwise

@[expose] public section

set_option maxRecDepth 16384

noncomputable section

namespace Cert.RefSide

open Idealize.ShloMosaic

variable {α : Type}

/-- A gather of whole last-axis rows of an array over batch, residue, residue: per batch, residue and neighbour one
    number along the third axis. -/
abbrev rowDims (n : ℕ) (wf : GatherDims.WF ⟨4, ![4, 1024, 1024, n]⟩ ⟨4, ![4, 1024, 30, 1]⟩ ⟨4, ![4, 1024, 30, n]⟩
      [3] [2] [0, 1] [2] [0, 1] 3 ![1, 1, 1, n]) :
    GatherDims ⟨4, ![4, 1024, 1024, n]⟩ ⟨4, ![4, 1024, 30, 1]⟩ ⟨4, ![4, 1024, 30, n]⟩ where
  offsetDims := [3]
  collapsedSliceDims := [2]
  operandBatchingDims := [0, 1]
  startIndicesBatchingDims := [0, 1]
  startIndexMap := [2]
  indexVectorDim := 3
  sliceSizes := ![1, 1, 1, n]
  wf := wf

theorem gather_row {n : ℕ} (wf : GatherDims.WF ⟨4, ![4, 1024, 1024, n]⟩ ⟨4, ![4, 1024, 30, 1]⟩ ⟨4, ![4, 1024, 30, n]⟩
      [3] [2] [0, 1] [2] [0, 1] 3 ![1, 1, 1, n])
    (x : (⟨4, ![4, 1024, 1024, n]⟩ : Shape).Idx → α) (idx : IVec ⟨4, ![4, 1024, 30, 1]⟩ 32)
    (b : Fin 4) (i : Fin 1024) (k : Fin 30) (c : Fin n) (j : Fin 1024) (hj : (idx (ix4 b i k 0)).toInt.toNat = j.val) :
    Host.gather (rowDims n wf) x idx (ix4 b i k c) = x (ix4 b i j c) := by
  unfold Host.gather
  congr 1
  funext a
  refine Fin.ext ?_
  show (rowDims n wf).start (ix4 b i k c) idx a + (rowDims n wf).batchCoord (ix4 b i k c) a
      + (rowDims n wf).offCoord (ix4 b i k c) a = _
  have h0 : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases h0 with rfl | rfl | rfl | rfl
  · rw [GatherDims.start_batching _ _ _ _ (show (0 : Fin 4) ∈ [(0 : Fin 4), 1] by decide),
      GatherDims.offCoord_eq_zero _ _ _ (fun h => ((GatherDims.mem_sKept _ _).mp h).2 (show (0 : Fin 4) ∈ [(0 : Fin 4), 1] by decide))]
    simp only [Nat.zero_add, Nat.add_zero]
    unfold GatherDims.batchCoord
    rw [dif_pos (show (0 : Fin 4) ∈ (rowDims n wf).operandBatchingDims from (show (0 : Fin 4) ∈ [(0 : Fin 4), 1] by decide))]
    rfl
  · rw [GatherDims.start_batching _ _ _ _ (show (1 : Fin 4) ∈ [(0 : Fin 4), 1] by decide),
      GatherDims.offCoord_eq_zero _ _ _ (fun h => ((GatherDims.mem_sKept _ _).mp h).2 (show (1 : Fin 4) ∈ [(0 : Fin 4), 1] by decide))]
    simp only [Nat.zero_add, Nat.add_zero]
    unfold GatherDims.batchCoord
    rw [dif_pos (show (1 : Fin 4) ∈ (rowDims n wf).operandBatchingDims from (show (1 : Fin 4) ∈ [(0 : Fin 4), 1] by decide))]
    rfl
  · rw [GatherDims.batchCoord_eq_zero _ _ _ (show (2 : Fin 4) ∉ [(0 : Fin 4), 1] by decide),
      GatherDims.offCoord_eq_zero _ _ _ (fun h => ((GatherDims.mem_sKept _ _).mp h).1 (List.mem_singleton.mpr rfl))]
    simp only [Nat.add_zero]
    unfold GatherDims.start
    rw [dif_pos (show (2 : Fin 4) ∈ (rowDims n wf).startIndexMap from List.mem_singleton.mpr rfl)]
    have hsi : (rowDims n wf).siIdx (ix4 b i k c) ⟨List.idxOf (2 : Fin 4) (rowDims n wf).startIndexMap,
        List.idxOf_lt_length_iff.2 (List.mem_singleton.mpr rfl)⟩ = ix4 b i k 0 := by
      funext e; refine Fin.ext ?_
      match e with
      | ⟨0, _⟩ => rfl
      | ⟨1, _⟩ => rfl
      | ⟨2, _⟩ => rfl
      | ⟨3, _⟩ => rfl
    rw [hsi, hj]
    show min j.val (1024 - 1) = j.val
    omega
  · rw [GatherDims.batchCoord_eq_zero _ _ _ (show (3 : Fin 4) ∉ [(0 : Fin 4), 1] by decide)]
    unfold GatherDims.start
    rw [dif_neg (show (3 : Fin 4) ∉ (rowDims n wf).startIndexMap from (show (3 : Fin 4) ∉ [(2 : Fin 4)] by decide))]
    simp only [Nat.zero_add]
    unfold GatherDims.offCoord
    rw [dif_pos ((GatherDims.mem_sKept _ _).mpr ⟨show (3 : Fin 4) ∉ [(2 : Fin 4)] by decide, show (3 : Fin 4) ∉ [(0 : Fin 4), 1] by decide⟩)]
    rfl

end Cert.RefSide

end
-- ==== Proof.RefParts.lean ====
/-
  The reference's intermediate arrays at an index: the atoms, the pairs' two rows of atoms, the neighbour's number,
  and its two gathers along the residues.
-/
module

public import proofs.«01_k».proof.Proof.Target
public import proofs.«01_k».proof.Proof.RefGather
public import proofs.«01_k».proof.Proof.Gen.ReferenceIdeal.Run
public import Idealize.ShloMosaic.Lib.Pointwise
public import Idealize.ShloMosaic.Lib.ReduceAll

@[expose] public section

set_option maxRecDepth 16384

noncomputable section

namespace Cert.RefSide

open Idealize.ShloMosaic Idealize.ShloMosaic.TcCoe Idealize.ShloMosaic.StableHlo
open Cert.ReferenceIdeal Cert.ReferenceIdeal.Gen Cert.ReferenceIdeal.Value
open Cert.Target Cert.Maths Cert.Tables

variable (W : Valuation τ sig (Elt Ideal))

/-- The arguments, as arrays. -/
abbrev R0 : FVec Ideal S4x1024x4x3 .f32 := W (Proc.devRef .tc main_arg0)
abbrev R1 : IVec S4x1024 32 := W (Proc.devRef .tc main_arg1)
abbrev R3 : IVec S4x1024x30 32 := W (Proc.devRef .tc main_arg3)
abbrev R4 : FVec Ideal S4x1024x30 .f32 := W (Proc.devRef .tc main_arg4)
abbrev R5 : FVec Ideal S16x66 .f32 := W (Proc.devRef .tc main_arg5)
abbrev R6 : FVec Ideal S16 .f32 := W (Proc.devRef .tc main_arg6)
abbrev R7 : FVec Ideal S128x416 .f32 := W (Proc.devRef .tc main_arg7)
abbrev R8 : FVec Ideal S128 .f32 := W (Proc.devRef .tc main_arg8)
abbrev R9 : FVec Ideal S128 .f32 := W (Proc.devRef .tc main_arg9)

/-- An array of one triple per residue, as an array of reals. -/
abbrev tri (x : FVec Ideal S4x1024x3 .f32) : S4x1024x3.Idx → EReal := x

theorem at_v4 (b : Fin 4) (i : Fin 1024) (c : Fin 3) : tri (res_main_v4 W) (ix3 b i c) = bond (R0 W) b i c := by
  unfold tri res_main_v4
  pointwise
  rfl

theorem at_v9 (b : Fin 4) (i : Fin 1024) (c : Fin 3) : tri (res_main_v9 W) (ix3 b i c) = bond' (R0 W) b i c := by
  unfold tri res_main_v9
  pointwise
  rfl

theorem at_v61 (b : Fin 4) (i : Fin 1024) (c : Fin 3) : tri (res_main_v61 W) (ix3 b i c) = atom (R0 W) b i 0 c := by
  unfold tri res_main_v61
  pointwise
  rfl

theorem at_v59 (b : Fin 4) (i : Fin 1024) (c : Fin 3) : tri (res_main_v59 W) (ix3 b i c) = atom (R0 W) b i 1 c := by
  unfold tri res_main_v59
  pointwise
  rfl

theorem at_v63 (b : Fin 4) (i : Fin 1024) (c : Fin 3) : tri (res_main_v63 W) (ix3 b i c) = atom (R0 W) b i 2 c := by
  unfold tri res_main_v63
  pointwise
  rfl

theorem at_v65 (b : Fin 4) (i : Fin 1024) (c : Fin 3) : tri (res_main_v65 W) (ix3 b i c) = atom (R0 W) b i 3 c := by
  unfold tri res_main_v65
  pointwise
  rfl

theorem at_v57 (b : Fin 4) (i : Fin 1024) (c : Fin 3) : tri (res_main_v57 W) (ix3 b i c) = atom (R0 W) b i 4 c := by
  unfold tri res_main_v57
  show _ = virt (R0 W) b i c
  unfold virt cross
  simp only [← at_v4, ← at_v9]
  fin_cases c <;> pointwise <;> rfl

/-- A pair's row atom and column atom. -/
def rowA (p : Fin 24) : ℕ := pairOf (p.val + 1) / 5
def colA (p : Fin 24) : ℕ := pairOf (p.val + 1) % 5

theorem at_v92 (b : Fin 4) (i : Fin 1024) (p : Fin 24) (c : Fin 3) :
    (res_main_v92 W : S4x1024x24x3.Idx → EReal) (ix4 b i p c) = atom (R0 W) b i (rowA p) c := by
  unfold res_main_v92
  have e0 := at_v61 W b i c
  have e1 := at_v59 W b i c
  have e2 := at_v63 W b i c
  have e3 := at_v65 W b i c
  have e4 := at_v57 W b i c
  fin_cases p <;> pointwise <;> first | exact e0 | exact e1 | exact e2 | exact e3 | exact e4

theorem at_v119 (b : Fin 4) (i : Fin 1024) (p : Fin 24) (c : Fin 3) :
    (res_main_v119 W : S4x1024x24x3.Idx → EReal) (ix4 b i p c) = atom (R0 W) b i (colA p) c := by
  unfold res_main_v119
  have e0 := at_v61 W b i c
  have e1 := at_v59 W b i c
  have e2 := at_v63 W b i c
  have e3 := at_v65 W b i c
  have e4 := at_v57 W b i c
  fin_cases p <;> pointwise <;> first | exact e0 | exact e1 | exact e2 | exact e3 | exact e4

/-- A pair's difference of atoms, between two residues. -/
theorem at_v124 (b : Fin 4) (i j : Fin 1024) (p : Fin 24) (c : Fin 3) :
    (res_main_v124 W : S4x1024x1024x24x3.Idx → EReal) (ix5 b i j p c)
      = atom (R0 W) b i (rowA p) c - atom (R0 W) b j (colA p) c := by
  unfold res_main_v124
  pointwise
  exact congrArg₂ (· - ·) (at_v92 W b i p c) (at_v119 W b j p c)

/-- The neighbour's number, never negative. -/
theorem not_neg (v : BitVec 32) (h : v.toNat < 1024) :
    Scalar.select (IntOp.cmpi .slt v 0#32) (IntOp.addi v 1024#32) v = v := by
  have e : v.toInt = (v.toNat : ℤ) := BitVec.toInt_eq_toNat_of_lt (by omega)
  have : IntOp.cmpi .slt v 0#32 = 0#1 := by
    simp only [IntOp.cmpi, BitVec.slt, e, BitVec.toInt_zero]
    rw [decide_eq_false (by omega)]
    rfl
  rw [this]; rfl

theorem at_call0 (hin : ∀ x, (R3 W x).toNat < 1024) (b : Fin 4) (i : Fin 1024) (k : Fin 30) (z : Fin 1) :
    (res_main_call0_v4 W : S4x1024x30x1.Idx → BitVec 32) (ix4 b i k z) = R3 W (ix3 b i k) := by
  unfold res_main_call0_v4 res_main_v130
  pointwise
  exact not_neg _ (hin _)

theorem at_call3 (hin : ∀ x, (R3 W x).toNat < 1024) (b : Fin 4) (i : Fin 1024) (k : Fin 30) (z : Fin 1) :
    (res_main_call3_v4 W : S4x1024x30x1.Idx → BitVec 32) (ix4 b i k z) = R3 W (ix3 b i k) :=
  at_call0 W hin b i k z

theorem at_call4 (hin : ∀ x, (R3 W x).toNat < 1024) (b : Fin 4) (i : Fin 1024) (k : Fin 30) (z : Fin 1) :
    (res_main_call4_v4 W : S4x1024x30x1.Idx → BitVec 32) (ix4 b i k z) = R3 W (ix3 b i k) :=
  at_call0 W hin b i k z

/-- The test that a neighbour's number is in range. -/
theorem test_one (v : BitVec 32) (h : v.toNat < 1024) : IntOp.andi (IntOp.cmpi .sge v 0#32) (IntOp.cmpi .sle v 1023#32) = 1#1 := by
  have e : v.toInt = (v.toNat : ℤ) := BitVec.toInt_eq_toNat_of_lt (by omega)
  have e' : (1023#32 : BitVec 32).toInt = 1023 := by decide
  simp only [IntOp.cmpi, BitVec.sle, e, BitVec.toInt_zero, e']
  rw [decide_eq_true (by omega), decide_eq_true (by omega)]
  rfl

theorem select_one {α : Type} {c : BitVec 1} (h : c = 1#1) (x y : α) : Scalar.select c x y = x := by rw [h]; rfl

/-- The conjunction of tests that all hold. -/
theorem fold_one {ι : Type} (s : Finset ι) (f : ι → BitVec 1) (h : ∀ x, f x = 1#1) : Finset.fold IntOp.andi 1#1 f s = 1#1 := by
  classical
  induction s using Finset.induction_on with
  | empty => rfl
  | insert a s ha ih => rw [Finset.fold_insert ha, ih, h]; rfl

/-- The neighbour's number as the third coordinate of a gather. -/
theorem nb_eq (hin : ∀ x, (R3 W x).toNat < 1024) (b : Fin 4) (i : Fin 1024) (k : Fin 30) :
    (R3 W (ix3 b i k)).toInt.toNat = (nb (R3 W) b i k).val := by
  have h := hin (ix3 b i k)
  rw [BitVec.toInt_eq_toNat_of_lt (by omega)]
  show _ = (R3 W (ix3 b i k)).toNat % 1024
  omega

theorem call0_lt (hin : ∀ x, (R3 W x).toNat < 1024) (x : S4x1024x30x1.Idx) :
    ((res_main_call0_v4 W : S4x1024x30x1.Idx → BitVec 32) x).toNat < 1024 := by
  idx_vars x
  rw [at_call0 W hin]
  exact hin _

/-- A pair's distance, between two residues. -/
theorem at_dist (b : Fin 4) (i j : Fin 1024) (p : Fin 24) :
    (Host.sqrt (addf (Host.reduceAdd (mulf (res_main_v124 W) (res_main_v124 W)) (constant S_ .f32 0x00000000#32) reducesTo_S4x1024x1024x24x3_S4x1024x1024x24_d4 h_S_)
      (broadcastInDim S4x1024x1024x24 ![] bcast_S_S4x1024x1024x24 (constant S_ .f32 0x358637BD#32))) : S4x1024x1024x24.Idx → EReal) (ix4 b i j p)
      = refDist (atom (R0 W) b i (rowA p)) (atom (R0 W) b j (colA p)) := by
  pointwise
  unfold refDist tiny
  refine congrArg Ideal.sqrt (congrArg₂ (· + ·) (Finset.sum_congr rfl fun c _ => ?_) rfl)
  rw [at_v124]

theorem at_v138 (hin : ∀ x, (R3 W x).toNat < 1024) (b : Fin 4) (i : Fin 1024) (k : Fin 30) (p : Fin 24) (r : Fin 16) :
    (res_main_v138 W : S4x1024x30x24x16.Idx → EReal) (ix5 b i k p r)
      = Ideal.div (refDist (atom (R0 W) b i (rowA p)) (atom (R0 W) b (nb (R3 W) b i k) (colA p)) - centre r) ((5 / 4 : ℝ) : EReal) := by
  unfold res_main_v138
  pointwise
  refine congrArg₂ Ideal.div (congrArg₂ (· - ·)
    ((select_one (fold_one _ _ (fun x => test_one _ (call0_lt W hin x))) _ _).trans ?_) ?_) ofBits_width
  · refine (gather_row _ _ (res_main_call0_v4 W) b i k p (nb (R3 W) b i k) ?_).trans (at_dist W b i _ p)
    rw [at_call0 W hin]
    exact nb_eq W hin b i k
  · exact congrArg (fun x => Ideal.ofBits .f32 (lit0 x)) (Fin.ext (Shape.rowMajor_val_one _))

theorem at_v149 (b : Fin 4) (i : Fin 1024) (k : Fin 30) (r : Fin 16) :
    (res_main_v149 W : S4x1024x30x16.Idx → EReal) (ix4 b i k r)
      = Ideal.div (R4 W (ix3 b i k) - centre r) ((5 / 4 : ℝ) : EReal) := by
  unfold res_main_v149
  pointwise
  refine congrArg₂ Ideal.div (congrArg₂ (· - ·) rfl ?_) ofBits_width
  exact congrArg (fun x => Ideal.ofBits .f32 (lit0 x)) (Fin.ext (Shape.rowMajor_val_one _))

end Cert.RefSide

end
-- ==== Proof.RefOut.lean ====
/-
  The reference's result at an index: the same formula of the ten arguments as the kernel's.
-/
module

public import proofs.«01_k».proof.Proof.RefParts

@[expose] public section

set_option maxRecDepth 16384

noncomputable section

namespace Cert.RefSide

open Idealize.ShloMosaic Idealize.ShloMosaic.TcCoe Idealize.ShloMosaic.StableHlo
open Cert.ReferenceIdeal Cert.ReferenceIdeal.Gen Cert.ReferenceIdeal.Value
open Cert.Target Cert.Maths Cert.Tables

variable (W : Valuation τ sig (Elt Ideal))

/-- The chain counts and the residue numbers are the kernel's. -/
theorem at_v160 (j : S4x1024.Idx) : (res_main_v160 W : S4x1024.Idx → BitVec 32) j = rank (R1 W) j := rfl

theorem at_v171 (b : Fin 4) (i : Fin 1024) :
    (res_main_v171 W : S4x1024.Idx → EReal) (ix2 b i) = (((res (R1 W) b i).toInt : ℝ) : EReal) := by
  unfold res_main_v171
  pointwise
  rfl

theorem at_v190 (hin : ∀ x, (R3 W x).toNat < 1024) (b : Fin 4) (i : Fin 1024) (k : Fin 30) :
    (res_main_v190 W : S4x1024x30.Idx → BitVec 32) (ix3 b i k)
      = same (R1 W (ix2 b i)) (R1 W (ix2 b (nb (R3 W) b i k))) := by
  unfold res_main_v190
  pointwise
  refine (select_one (fold_one _ _ (fun x => test_one _ (call0_lt W hin x))) _ _).trans ?_
  refine (gather_row _ _ (res_main_call4_v4 W) b i k 0 (nb (R3 W) b i k) ?_).trans ?_
  · rw [at_call4 W hin]
    exact nb_eq W hin b i k
  · pointwise
    rfl

/-- A sum against the row that tests for one place is that place's term. -/
theorem sum_place (e : BitVec 32) (p : Fin 66) (he : e = BitVec.ofNat 32 p.val) (f : Fin 66 → EReal) :
    ∑ x : Fin 66, FloatOps.uitofp (F := Ideal) .f32 (IntOp.cmpi .eq e (BitVec.ofNat 32 x.val)) * f x = f p := by
  refine Eq.trans (Finset.sum_congr rfl fun x _ => mul_comm _ _) (sum_one f p _ fun x => ?_)
  subst he
  by_cases h : x.val = p.val
  · rw [if_pos h, h]
    simp [IntOp.cmpi, FloatOps.uitofp]
  · rw [if_neg h]
    have hne : (BitVec.ofNat 32 p.val == BitVec.ofNat 32 x.val) = false := by
      refine beq_eq_false_iff_ne.mpr fun k => h ?_
      have := congrArg BitVec.toNat k
      simp only [BitVec.toNat_ofNat] at this
      omega
    simp [IntOp.cmpi, hne, FloatOps.uitofp]

/-- The 416 columns are the 16 of the place and the 400 bumps. -/
theorem sum_416 (f : Fin 416 → EReal) :
    ∑ x, f x = ∑ c : Fin 400, f ⟨16 + c.val, by omega⟩ + ∑ x : Fin 16, f ⟨x.val, by omega⟩ := by
  rw [add_comm]
  exact Fin.sum_univ_add (a := 16) (b := 400) f

theorem bump_of (q t μ : EReal) (h : q = Ideal.div (t - μ) ((5 / 4 : ℝ) : EReal)) : Ideal.exp (-(q * q)) = refBump t μ := by
  rw [h]; rfl

theorem at_v209 (hin : ∀ x, (R3 W x).toNat < 1024) (b : Fin 4) (i : Fin 1024) (k : Fin 30) (o : Fin 128) :
    (res_main_v209 W : S4x1024x30x128.Idx → EReal) (ix4 b i k o)
      = feat (R0 W) (R1 W) (R3 W) (R4 W) (R5 W) (R6 W) (R7 W) b i k o := by
  unfold res_main_v209
  pointwise
  refine (sum_416 _).trans (congrArg₂ (· + ·) (Finset.sum_congr rfl fun c _ => ?_) (Finset.sum_congr rfl fun x _ => ?_))
  · refine congrArg₂ (· * ·) ?_ rfl
    rw [dif_neg (show ¬ 16 + c.val < 16 by omega)]
    by_cases h : c.val < 16
    · rw [dif_pos (show 16 + c.val - 16 < 16 by omega)]
      refine (bump_of _ _ _ (at_v149 W b i k _)).trans ?_
      unfold bump blockDist
      rw [if_pos (Nat.div_eq_of_lt h)]
      exact congrArg (fun r => refBump _ (centre r)) (Fin.ext (show 16 + c.val - 16 = c.val % 16 by omega))
    · rw [dif_neg (show ¬ 16 + c.val - 16 < 16 by omega)]
      refine (bump_of _ _ _ (at_v138 W hin b i k _ _)).trans ?_
      unfold bump blockDist rowA colA
      rw [if_neg (show ¬ c.val / 16 = 0 by omega)]
      have e : (16 + c.val - 16 - 16) / 16 + 1 = c.val / 16 := by omega
      simp only [e]
      exact congrArg (fun r => refBump _ (centre r)) (Fin.ext (show (16 + c.val - 16 - 16) % 16 = c.val % 16 by omega))
  · refine congrArg₂ (· * ·) ?_ rfl
    rw [dif_pos x.isLt]
    refine congrArg₂ (· + ·) ((sum_place _ ⟨place (R1 W) (R3 W) b i k, place_lt _ _ b i k⟩ ?_ _).trans rfl) rfl
    refine Eq.trans ?_ (refPlace_eq (res (R1 W) b i) (res (R1 W) b (nb (R3 W) b i k)) (R1 W (ix2 b i))
      (R1 W (ix2 b (nb (R3 W) b i k))) (res_bound _ _ _) (res_bound _ _ _))
    rw [at_v190 W hin]
    unfold refPlace
    refine congrArg (fun q => IntOp.addi (IntOp.muli (IntOp.minsi 64#32 (IntOp.maxsi 0#32 (IntOp.addi (Ideal.fptosi 32 q) 32#32))) _) _) ?_
    refine (select_one (fold_one _ _ (fun x => test_one _ (call0_lt W hin x))) _ _).trans ?_
    refine (gather_row _ _ (res_main_call3_v4 W) b i k 0 (nb (R3 W) b i k) ?_).trans ?_
    · rw [at_call3 W hin]
      exact nb_eq W hin b i k
    · pointwise
      exact congrArg₂ (· - ·) (at_v171 W b i) (at_v171 W b _)

theorem at_mean (hin : ∀ x, (R3 W x).toNat < 1024) (b : Fin 4) (i : Fin 1024) (k : Fin 30) :
    Ideal.div (∑ x : Fin 128, (res_main_v209 W : S4x1024x30x128.Idx → EReal) (ix4 b i k x)) (Ideal.ofBits .f32 0x43000000#32)
      = mean (feat (R0 W) (R1 W) (R3 W) (R4 W) (R5 W) (R6 W) (R7 W) b i k) := by
  unfold mean
  exact congrArg₂ Ideal.div (Finset.sum_congr rfl fun x _ => at_v209 W hin b i k x) ofBits_lanes

theorem at_call7_v5 (hin : ∀ x, (R3 W x).toNat < 1024) (b : Fin 4) (i : Fin 1024) (k : Fin 30) (o : Fin 128) :
    (res_main_call7_v5 W : S4x1024x30x128.Idx → EReal) (ix4 b i k o)
      = feat (R0 W) (R1 W) (R3 W) (R4 W) (R5 W) (R6 W) (R7 W) b i k o
        - mean (feat (R0 W) (R1 W) (R3 W) (R4 W) (R5 W) (R6 W) (R7 W) b i k) := by
  unfold res_main_call7_v5
  pointwise
  exact congrArg₂ (· - ·) (at_v209 W hin b i k o) (at_mean W hin b i k)

/-- The variance's divisor. -/
theorem at_call7_v8 : (res_main_call7_v8 W : S_.Idx → EReal) ix0 = ((128 : ℝ) : EReal) := by
  unfold res_main_call7_v8
  pointwise
  rw [show Ideal.ofBits FTy.f32 1124073472#32 = _ from ofBits_lanes]
  show ((128 : ℝ) : EReal) - (((0#32 : BitVec 32).toInt : ℝ) : EReal) = _
  rw [← EReal.coe_sub]
  norm_num

theorem at_v227 (hin : ∀ x, (R3 W x).toNat < 1024) (b : Fin 4) (i : Fin 1024) (k : Fin 30) (o : Fin 128) :
    (addf (mulf (Host.divf (subf (res_main_v209 W) (broadcastInDim S4x1024x30x128 ![0, 1, 2, 3] bcast_S4x1024x30x1_S4x1024x30x128_0_1_2_3 (Host.divf (broadcastInDim S4x1024x30x1 ![0, 1, 2] bcast_S4x1024x30_S4x1024x30x1_0_1_2 (Host.reduceAdd (res_main_v209 W) (constant S_ .f32 0x00000000#32) reducesTo_S4x1024x30x128_S4x1024x30_d3 h_S_)) (broadcastInDim S4x1024x30x1 ![] bcast_S_S4x1024x30x1 (constant S_ .f32 0x43000000#32))))) (broadcastInDim S4x1024x30x128 ![0, 1, 2, 3] bcast_S4x1024x30x1_S4x1024x30x128_0_1_2_3 (Host.sqrt (addf (select (broadcastInDim S4x1024x30x1 ![] bcast_S_S4x1024x30x1 (cmpf .ogt (res_main_call7_v8 W) (constant S_ .f32 0x00000000#32))) (Host.divf (broadcastInDim S4x1024x30x1 ![0, 1, 2] bcast_S4x1024x30_S4x1024x30x1_0_1_2 (Host.reduceAdd (mulf (res_main_call7_v5 W) (res_main_call7_v5 W)) (constant S_ .f32 0x00000000#32) reducesTo_S4x1024x30x128_S4x1024x30_d3 h_S_)) (broadcastInDim S4x1024x30x1 ![] bcast_S_S4x1024x30x1 (res_main_call7_v8 W))) (broadcastInDim S4x1024x30x1 ![] bcast_S_S4x1024x30x1 (id (constant S_ .f32 0x7FC00000#32)))) (broadcastInDim S4x1024x30x1 ![] bcast_S_S4x1024x30x1 (constant S_ .f32 0x3727C5AC#32)))))) (broadcastInDim S4x1024x30x128 ![0, 1, 2, 3] bcast_S1x1x1x128_S4x1024x30x128_0_1_2_3 (broadcastInDim S1x1x1x128 ![3] bcast_S128_S1x1x1x128_3 (R8 W)))) (broadcastInDim S4x1024x30x128 ![0, 1, 2, 3] bcast_S1x1x1x128_S4x1024x30x128_0_1_2_3 (broadcastInDim S1x1x1x128 ![3] bcast_S128_S1x1x1x128_3 (R9 W))) : S4x1024x30x128.Idx → EReal) (ix4 b i k o)
      = out (R0 W) (R1 W) (R3 W) (R4 W) (R5 W) (R6 W) (R7 W) (R8 W) (R9 W) b i k o := by
  pointwise
  rw [at_call7_v8]
  rw [if_pos (by exact_mod_cast (by norm_num : (0 : ℝ) < 128))]
  unfold out Maths.norm small
  refine congrArg₂ (· + ·) (congrArg₂ (· * ·) (congrArg₂ Ideal.div ?_ (congrArg Ideal.sqrt (congrArg₂ (· + ·) ?_ rfl))) rfl) rfl
  · exact congrArg₂ (· - ·) (at_v209 W hin b i k o) (at_mean W hin b i k)
  · refine congrArg₂ Ideal.div (Finset.sum_congr rfl fun x _ => ?_) rfl
    rw [at_call7_v5 W hin]

end Cert.RefSide

end
-- ==== Proof.Agree.lean ====
/-
  The value claim: from memories that agree on the arguments, kernel and reference end with equal results.
-/
module

public import proofs.«01_k».proof.Proof.Frames
public import proofs.«01_k».proof.Proof.Output
public import proofs.«01_k».proof.Proof.RefOut

@[expose] public section

set_option maxRecDepth 16384

noncomputable section

namespace Cert.Frames

open Idealize.ShloMosaic Idealize.ShloMosaic.StableHlo Idealize.SL.Sem
open Cert.KernelIdeal.Run Cert.RefSide

theorem agree : Cert.algebraic_KernelIdeal_ReferenceIdeal (hKernelIdeal := Cert.KernelIdeal.Gen.facts)
    (hReferenceIdeal := Cert.ReferenceIdeal.Gen.facts) := fun m g m' g' hpre hargs => by
  have hin := inRange_of (F := Ideal) m hpre
  refine ⟨fun c => V5 m c (Proc.devRef .tc Cert.KernelIdeal.main_v73),
    (θ_run _ _ _).mono (fun r h c => ⟨(h.1 c).2, (h.1 c).1⟩) (run_args (F := Ideal) m g hin),
    (θ_run _ _ _).mono (fun r h c => ⟨(h c).1.trans ?_, (h c).2⟩) (Cert.ReferenceIdeal.Value.run (F := Ideal) m' g')⟩
  obtain ⟨e0, e1, _, e3, e4, e5, e6, e7, e8, e9⟩ := hargs c
  have k0 : R0 (launchContents m' c) = A0 m c := e0
  have k1 : R1 (launchContents m' c) = A1 m c := e1
  have k3 : R3 (launchContents m' c) = A3 m c := e3
  have k4 : R4 (launchContents m' c) = A4 m c := e4
  have k5 : R5 (launchContents m' c) = A5 m c := e5
  have k6 : R6 (launchContents m' c) = A6 m c := e6
  have k7 : R7 (launchContents m' c) = A7 m c := e7
  have k8 : R8 (launchContents m' c) = A8 m c := e8
  have k9 : R9 (launchContents m' c) = A9 m c := e9
  funext j
  idx_vars j
  refine (at_v227 (launchContents m' c) (fun x => by rw [k3]; exact hin.nbr c x) _ _ _ _).trans ?_
  rw [k0, k1, k3, k4, k5, k6, k7, k8, k9]
  exact (result_at c m hin _ _ _ _).symm

end Cert.Frames

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal.Run
public import proofs.«01_k».proof.Proof.Frames
public import proofs.«01_k».proof.Proof.Agree
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts,
  Cert.Frames.preFacts, Cert.Frames.frame_kernel, Cert.Frames.frame_ideal, Cert.Frames.frame_ref,
  Cert.Frames.frame_ref_pre, Cert.Frames.named_width, Cert.Frames.agree⟩

end Cert.Proof

end
